-- ==== Defs.lean ====
def Pre_Kernel [hPre_counts_ok : Cert.Pre_counts_ok.Facts] (m : (ℓ : Loc Cert.Kernel.nD Cert.Kernel.τ Cert.Kernel.sig) → Buf (Elt Bits) ℓ) : Prop :=
  ∀ c : Dev Cert.Kernel.nD,
    (Cert.Pre_counts_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_counts_ok : Cert.Pre_counts_ok.Facts] (m : (ℓ : Loc Cert.KernelIdeal.nD Cert.KernelIdeal.τ Cert.KernelIdeal.sig) → Buf (Elt Ideal) ℓ) : Prop :=
  ∀ c : Dev Cert.KernelIdeal.nD,
    (Cert.Pre_counts_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_counts_ok : Cert.Pre_counts_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_counts_ok : Cert.Pre_counts_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "log_zero" .f32 0xF149F2CA#32 ⊥
  ∧ IdealRules.named_const.Statement Cert.KernelIdeal.κ "neg_half_log2e" .f32 0xBF38AA3B#32 ((-((1 / 2) * (Real.log 2)⁻¹) : ℝ) : EReal)
  ∧ IdealRules.named_const.Statement Cert.KernelIdeal.κ "neg_log2e" .f32 0xBFB8AA3B#32 ((-((Real.log 2)⁻¹) : ℝ) : EReal)
  ∧ IdealRules.bf16_pack.Statement Cert.KernelIdeal.S16x128
  ∧ IdealRules.named_const.Statement Cert.KernelIdeal.κ "series_below" .f32 0x3C800000#32 ⊥
  ∧ IdealRules.bf16_pack.Statement Cert.KernelIdeal.S256x128
  ∧ IdealRules.named_const.Statement Cert.KernelIdeal.κ "ln2" .f32 0x3F317218#32 ((Real.log 2 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_counts_ok : Cert.Pre_counts_ok.Facts) (hPre_inputs_ok : Cert.Pre_inputs_ok.Facts),
    quiescent_Kernel (hKernel := hKernel) (hPre_counts_ok := hPre_counts_ok)
    ∧ quiescent_KernelIdeal (hKernelIdeal := hKernelIdeal) (hPre_counts_ok := hPre_counts_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_counts_ok.lean ====
abbrev S64 : Shape := ⟨1, ![64]⟩
abbrev S4x36x144x128 : Shape := ⟨4, ![4, 36, 144, 128]⟩
abbrev S4x36x128 : Shape := ⟨3, ![4, 36, 128]⟩
abbrev S4x3 : Shape := ⟨2, ![4, 3]⟩
abbrev S4x16 : Shape := ⟨2, ![4, 16]⟩
abbrev S4x1 : Shape := ⟨2, ![4, 1]⟩
abbrev S_ : Shape := ⟨0, ![]⟩

class Facts : Prop where
  shapeCasts_S64_S4x16 : S64.ShapeCasts S4x16
  slices_S4x16_S4x1_0_0 : S4x16.Slices ![0, 0] S4x1
  bcast_S_S4x1 : S_.BroadcastsInDim S4x1 (![] : Fin 0 → Fin S4x1.rank)

variable [Facts]

def fn {F : FTy → Type} [FloatOps F] (main_arg0 : IVec S64 32) (main_arg1 : IVec S4x36x144x128 32) (main_arg2 : IVec S4x36x128 32) (main_arg3 : FVec F S4x3 .f32) : IVec S4x1 1 :=
  let main_v0 : IVec S4x16 32 := shapeCast S4x16 main_arg0 shapeCasts_S64_S4x16
  let main_v1 : IVec S4x1 32 := (extractStridedSlice S4x1 ![0, 0] · slices_S4x16_S4x1_0_0) main_v0
  let main_c : IVec S_ 32 := constantI S_ 32 36#32
  let main_v2 : IVec S4x1 32 := broadcastInDim S4x1 ![] bcast_S_S4x1 main_c
  let main_v3 : IVec S4x1 1 := cmpi .sle main_v1 main_v2
  main_v3
-- ==== Pre_inputs_ok.lean ====
abbrev S64 : Shape := ⟨1, ![64]⟩
abbrev S4x36x144x128 : Shape := ⟨4, ![4, 36, 144, 128]⟩
abbrev S4x36x128 : Shape := ⟨3, ![4, 36, 128]⟩
abbrev S4x3 : Shape := ⟨2, ![4, 3]⟩
abbrev S4x16 : Shape := ⟨2, ![4, 16]⟩
abbrev S4x1 : Shape := ⟨2, ![4, 1]⟩
abbrev S4x1x1x1 : Shape := ⟨4, ![4, 1, 1, 1]⟩
abbrev S_ : Shape := ⟨0, ![]⟩

class Facts : Prop where
  shapeCasts_S64_S4x16 : S64.ShapeCasts S4x16
  slices_S4x16_S4x1_0_0 : S4x16.Slices ![0, 0] S4x1
  shapeCasts_S4x1_S4x1x1x1 : S4x1.ShapeCasts S4x1x1x1
  bcast_S4x1x1x1_S4x36x144x128_0_1_2_3 : S4x1x1x1.BroadcastsInDim S4x36x144x128 (![0, 1, 2, 3] : Fin 4 → Fin S4x36x144x128.rank)
  bcast_S_S4x36x144x128 : S_.BroadcastsInDim S4x36x144x128 (![] : Fin 0 → Fin S4x36x144x128.rank)
  bcast_S_S4x1x1x1 : S_.BroadcastsInDim S4x1x1x1 (![] : Fin 0 → Fin S4x1x1x1.rank)

variable [Facts]

def fn_part3 {F : FTy → Type} [FloatOps F] (main_v5 : IVec S4x36x144x128 1) (main_v50 : IVec S4x36x144x128 1) (main_v52 : IVec S4x1x1x1 1) (main_v53 : IVec S4x36x144x128 1) : IVec S4x36x144x128 1 :=
  let main_v54 : IVec S4x36x144x128 1 := andi main_v53 main_v50
  let main_v55 : IVec S4x36x144x128 1 := ori main_v5 main_v54
  let main_v56 : IVec S4x36x144x128 1 := broadcastInDim S4x36x144x128 ![0, 1, 2, 3] bcast_S4x1x1x1_S4x36x144x128_0_1_2_3 main_v52
  let main_v57 : IVec S4x36x144x128 1 := andi main_v56 main_v55
  main_v57

def fn_part2 {F : FTy → Type} [FloatOps F] (main_arg1 : IVec S4x36x144x128 32) (main_v2 : IVec S4x1x1x1 32) (main_v5 : IVec S4x36x144x128 1) (main_v21 : IVec S4x36x144x128 1) (main_v28 : IVec S4x36x144x128 1) (main_v29 : IVec S4x36x144x128 1) (main_v35 : IVec S4x36x144x128 1) (main_c_10 : IVec S_ 32) : IVec S4x36x144x128 1 :=
  let main_v36 : IVec S4x36x144x128 32 := broadcastInDim S4x36x144x128 ![] bcast_S_S4x36x144x128 main_c_10
  let main_v37 : IVec S4x36x144x128 32 := Host.shrui main_arg1 main_v36
  let main_c_11 : IVec S_ 32 := constantI S_ 32 127#32
  let main_v38 : IVec S4x36x144x128 32 := broadcastInDim S4x36x144x128 ![] bcast_S_S4x36x144x128 main_c_11
  let main_v39 : IVec S4x36x144x128 32 := andi main_v37 main_v38
  let main_c_12 : IVec S_ 32 := constantI S_ 32 127#32
  let main_v40 : IVec S4x36x144x128 32 := broadcastInDim S4x36x144x128 ![] bcast_S_S4x36x144x128 main_c_12
  let main_v41 : IVec S4x36x144x128 1 := cmpi .ne main_v39 main_v40
  let main_v42 : IVec S4x36x144x128 1 := andi main_v35 main_v41
  let main_c_13 : IVec S_ 32 := constantI S_ 32 16#32
  let main_v43 : IVec S4x36x144x128 32 := broadcastInDim S4x36x144x128 ![] bcast_S_S4x36x144x128 main_c_13
  let main_v44 : IVec S4x36x144x128 32 := Host.shrui main_arg1 main_v43
  let main_c_14 : IVec S_ 32 := constantI S_ 32 127#32
  let main_v45 : IVec S4x36x144x128 32 := broadcastInDim S4x36x144x128 ![] bcast_S_S4x36x144x128 main_c_14
  let main_v46 : IVec S4x36x144x128 32 := andi main_v44 main_v45
  let main_c_15 : IVec S_ 32 := constantI S_ 32 127#32
  let main_v47 : IVec S4x36x144x128 32 := broadcastInDim S4x36x144x128 ![] bcast_S_S4x36x144x128 main_c_15
  let main_v48 : IVec S4x36x144x128 1 := cmpi .ne main_v46 main_v47
  let main_v49 : IVec S4x36x144x128 1 := andi main_v42 main_v48
  let main_v50 : IVec S4x36x144x128 1 := ori main_v29 main_v49
  let main_c_16 : IVec S_ 32 := constantI S_ 32 36#32
  let main_v51 : IVec S4x1x1x1 32 := broadcastInDim S4x1x1x1 ![] bcast_S_S4x1x1x1 main_c_16
  let main_v52 : IVec S4x1x1x1 1 := cmpi .sle main_v2 main_v51
  let main_v53 : IVec S4x36x144x128 1 := andi main_v21 main_v28
  fn_part3 (F := F) main_v5 main_v50 main_v52 main_v53

def fn_part1 {F : FTy → Type} [FloatOps F] (main_arg1 : IVec S4x36x144x128 32) (main_v2 : IVec S4x1x1x1 32) (main_v5 : IVec S4x36x144x128 1) (main_v11 : IVec S4x36x144x128 1) (main_v16 : IVec S4x36x144x128 1) (main_v18 : IVec S4x36x144x128 32) : IVec S4x36x144x128 1 :=
  let main_c_4 : IVec S_ 32 := constantI S_ 32 2139095040#32
  let main_v19 : IVec S4x36x144x128 32 := broadcastInDim S4x36x144x128 ![] bcast_S_S4x36x144x128 main_c_4
  let main_v20 : IVec S4x36x144x128 1 := cmpi .ne main_v18 main_v19
  let main_v21 : IVec S4x36x144x128 1 := ori main_v11 main_v20
  let main_v22 : IVec S4x36x144x128 1 := noti main_v16
  let main_c_5 : IVec S_ 32 := constantI S_ 32 0#32
  let main_v23 : IVec S4x36x144x128 32 := broadcastInDim S4x36x144x128 ![] bcast_S_S4x36x144x128 main_c_5
  let main_v24 : IVec S4x36x144x128 1 := cmpi .sge main_arg1 main_v23
  let main_v25 : IVec S4x36x144x128 1 := ori main_v22 main_v24
  let main_c_6 : IVec S_ 32 := constantI S_ 32 2147483648#32
  let main_v26 : IVec S4x36x144x128 32 := broadcastInDim S4x36x144x128 ![] bcast_S_S4x36x144x128 main_c_6
  let main_v27 : IVec S4x36x144x128 1 := cmpi .eq main_arg1 main_v26
  let main_v28 : IVec S4x36x144x128 1 := ori main_v25 main_v27
  let main_v29 : IVec S4x36x144x128 1 := noti main_v11
  let main_c_7 : IVec S_ 32 := constantI S_ 32 0#32
  let main_v30 : IVec S4x36x144x128 32 := broadcastInDim S4x36x144x128 ![] bcast_S_S4x36x144x128 main_c_7
  let main_v31 : IVec S4x36x144x128 32 := Host.shrui main_arg1 main_v30
  let main_c_8 : IVec S_ 32 := constantI S_ 32 127#32
  let main_v32 : IVec S4x36x144x128 32 := broadcastInDim S4x36x144x128 ![] bcast_S_S4x36x144x128 main_c_8
  let main_v33 : IVec S4x36x144x128 32 := andi main_v31 main_v32
  let main_c_9 : IVec S_ 32 := constantI S_ 32 127#32
  let main_v34 : IVec S4x36x144x128 32 := broadcastInDim S4x36x144x128 ![] bcast_S_S4x36x144x128 main_c_9
  let main_v35 : IVec S4x36x144x128 1 := cmpi .ne main_v33 main_v34
  let main_c_10 : IVec S_ 32 := constantI S_ 32 8#32
  fn_part2 (F := F) main_arg1 main_v2 main_v5 main_v21 main_v28 main_v29 main_v35 main_c_10

def fn {F : FTy → Type} [FloatOps F] (main_arg0 : IVec S64 32) (main_arg1 : IVec S4x36x144x128 32) (main_arg2 : IVec S4x36x128 32) (main_arg3 : FVec F S4x3 .f32) : IVec S4x36x144x128 1 :=
  let main_v0 : IVec S4x16 32 := shapeCast S4x16 main_arg0 shapeCasts_S64_S4x16
  let main_v1 : IVec S4x1 32 := (extractStridedSlice S4x1 ![0, 0] · slices_S4x16_S4x1_0_0) main_v0
  let main_v2 : IVec S4x1x1x1 32 := shapeCast S4x1x1x1 main_v1 shapeCasts_S4x1_S4x1x1x1
  let main_v3 : IVec S4x36x144x128 32 := iotaInDim S4x36x144x128 32 1
  let main_v4 : IVec S4x36x144x128 32 := broadcastInDim S4x36x144x128 ![0, 1, 2, 3] bcast_S4x1x1x1_S4x36x144x128_0_1_2_3 main_v2
  let main_v5 : IVec S4x36x144x128 1 := cmpi .sge main_v3 main_v4
  let main_v6 : IVec S4x36x144x128 32 := iotaInDim S4x36x144x128 32 2
  let main_c : IVec S_ 32 := constantI S_ 32 96#32
  let main_v7 : IVec S4x36x144x128 32 := broadcastInDim S4x36x144x128 ![] bcast_S_S4x36x144x128 main_c
  let main_v8 : IVec S4x36x144x128 1 := cmpi .sge main_v6 main_v7
  let main_c_0 : IVec S_ 32 := constantI S_ 32 112#32
  let main_v9 : IVec S4x36x144x128 32 := broadcastInDim S4x36x144x128 ![] bcast_S_S4x36x144x128 main_c_0
  let main_v10 : IVec S4x36x144x128 1 := cmpi .slt main_v6 main_v9
  let main_v11 : IVec S4x36x144x128 1 := andi main_v8 main_v10
  let main_c_1 : IVec S_ 32 := constantI S_ 32 80#32
  let main_v12 : IVec S4x36x144x128 32 := broadcastInDim S4x36x144x128 ![] bcast_S_S4x36x144x128 main_c_1
  let main_v13 : IVec S4x36x144x128 1 := cmpi .sge main_v6 main_v12
  let main_c_2 : IVec S_ 32 := constantI S_ 32 96#32
  let main_v14 : IVec S4x36x144x128 32 := broadcastInDim S4x36x144x128 ![] bcast_S_S4x36x144x128 main_c_2
  let main_v15 : IVec S4x36x144x128 1 := cmpi .slt main_v6 main_v14
  let main_v16 : IVec S4x36x144x128 1 := andi main_v13 main_v15
  let main_c_3 : IVec S_ 32 := constantI S_ 32 2139095040#32
  let main_v17 : IVec S4x36x144x128 32 := broadcastInDim S4x36x144x128 ![] bcast_S_S4x36x144x128 main_c_3
  let main_v18 : IVec S4x36x144x128 32 := andi main_arg1 main_v17
  fn_part1 (F := F) main_arg1 main_v2 main_v5 main_v11 main_v16 main_v18
-- ==== Kernel.lean ====
abbrev S64 : Shape := ⟨1, ![64]⟩
abbrev S4x36x144x128 : Shape := ⟨4, ![4, 36, 144, 128]⟩
abbrev S4x36x128 : Shape := ⟨3, ![4, 36, 128]⟩
abbrev S4x3 : Shape := ⟨2, ![4, 3]⟩
abbrev S12 : Shape := ⟨1, ![12]⟩
abbrev S2048x256 : Shape := ⟨2, ![2048, 256]⟩
abbrev S_ : Shape := ⟨0, ![]⟩
abbrev S4x5x64x256 : Shape := ⟨4, ![4, 5, 64, 256]⟩
abbrev S1x36x144x128 : Shape := ⟨4, ![1, 36, 144, 128]⟩
abbrev S1x36x128 : Shape := ⟨3, ![1, 36, 128]⟩
abbrev S1x5x64x256 : Shape := ⟨4, ![1, 5, 64, 256]⟩
abbrev S64x128 : Shape := ⟨2, ![64, 128]⟩
abbrev S256x256 : Shape := ⟨2, ![256, 256]⟩
abbrev S256x128 : Shape := ⟨2, ![256, 128]⟩
abbrev S4x256x128 : Shape := ⟨3, ![4, 256, 128]⟩
abbrev S112x256 : Shape := ⟨2, ![112, 256]⟩
abbrev S1 : Shape := ⟨1, ![1]⟩
abbrev S1x1x128 : Shape := ⟨3, ![1, 1, 128]⟩
abbrev S1x128 : Shape := ⟨2, ![1, 128]⟩
abbrev S1x1x16x128 : Shape := ⟨4, ![1, 1, 16, 128]⟩
abbrev S16x128 : Shape := ⟨2, ![16, 128]⟩
abbrev S8x128 : Shape := ⟨2, ![8, 128]⟩
abbrev S8x256 : Shape := ⟨2, ![8, 256]⟩
abbrev S144x256 : Shape := ⟨2, ![144, 256]⟩
abbrev S1x8x128 : Shape := ⟨3, ![1, 8, 128]⟩
abbrev S128x128 : Shape := ⟨2, ![128, 128]⟩
abbrev S128x256 : Shape := ⟨2, ![128, 256]⟩
abbrev S768x256 : Shape := ⟨2, ![768, 256]⟩
abbrev S256x768 : Shape := ⟨2, ![256, 768]⟩
abbrev S384x128 : Shape := ⟨2, ![384, 128]⟩
abbrev S1x256x128 : Shape := ⟨3, ![1, 256, 128]⟩
abbrev S256x384 : Shape := ⟨2, ![256, 384]⟩
abbrev S64x256 : Shape := ⟨2, ![64, 256]⟩
abbrev S1x1x64x256 : Shape := ⟨4, ![1, 1, 64, 256]⟩

abbrev nBuf : Space → Nat
  | .hbm => 81
  | .vmem => 14
  | .smem => 2
  | _ => 0

abbrev bufTy : (tb : Table) → Fin (tcTables nBuf tb) → BufTy
  | .hbm, ⟨0, _⟩ => ⟨S64, .i32⟩
  | .hbm, ⟨1, _⟩ => ⟨S4x36x144x128, .i32⟩
  | .hbm, ⟨2, _⟩ => ⟨S4x36x128, .i32⟩
  | .hbm, ⟨3, _⟩ => ⟨S4x3, .f32⟩
  | .hbm, ⟨4, _⟩ => ⟨S12, .f32⟩
  | .hbm, ⟨5, _⟩ => ⟨S2048x256, .i32⟩
  | .hbm, ⟨6, _⟩ => ⟨S2048x256, .i32⟩
  | .hbm, ⟨7, _⟩ => ⟨S_, .i32⟩
  | .hbm, ⟨8, _⟩ => ⟨S2048x256, .i32⟩
  | .hbm, ⟨9, _⟩ => ⟨S2048x256, .i32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S_, .i32⟩
  | .hbm, ⟨15, _⟩ => ⟨S2048x256, .i32⟩
  | .hbm, ⟨16, _⟩ => ⟨S2048x256, .i32⟩
  | .hbm, ⟨17, _⟩ => ⟨S_, .i32⟩
  | .hbm, ⟨18, _⟩ => ⟨S2048x256, .i32⟩
  | .hbm, ⟨19, _⟩ => ⟨S2048x256, .i32⟩
  | .hbm, ⟨20, _⟩ => ⟨S_, .i32⟩
  | .hbm, ⟨21, _⟩ => ⟨S2048x256, .i32⟩
  | .hbm, ⟨22, _⟩ => ⟨S2048x256, .i32⟩
  | .hbm, ⟨23, _⟩ => ⟨S_, .i32⟩
  | .hbm, ⟨24, _⟩ => ⟨S2048x256, .i32⟩
  | .hbm, ⟨25, _⟩ => ⟨S2048x256, .i32⟩
  | .hbm, ⟨26, _⟩ => ⟨S2048x256, .i32⟩
  | .hbm, ⟨27, _⟩ => ⟨S2048x256, .f32⟩
  | .hbm, ⟨28, _⟩ => ⟨S_, .f32⟩
  | .hbm, ⟨29, _⟩ => ⟨S2048x256, .f32⟩
  | .hbm, ⟨30, _⟩ => ⟨S2048x256, .f32⟩
  | .hbm, ⟨31, _⟩ => ⟨S_, .i32⟩
  | .hbm, ⟨32, _⟩ => ⟨S2048x256, .i32⟩
  | .hbm, ⟨33, _⟩ => ⟨S2048x256, .i32⟩
  | .hbm, ⟨34, _⟩ => ⟨S_, .f32⟩
  | .hbm, ⟨35, _⟩ => ⟨S2048x256, .f32⟩
  | .hbm, ⟨36, _⟩ => ⟨S_, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S_, .i32⟩
  | .hbm, ⟨42, _⟩ => ⟨S2048x256, .i32⟩
  | .hbm, ⟨43, _⟩ => ⟨S2048x256, .i1⟩
  | .hbm, ⟨44, _⟩ => ⟨S2048x256, .f32⟩
  | .hbm, ⟨45, _⟩ => ⟨S_, .i32⟩
  | .hbm, ⟨46, _⟩ => ⟨S2048x256, .i32⟩
  | .hbm, ⟨47, _⟩ => ⟨S2048x256, .i1⟩
  | .hbm, ⟨48, _⟩ => ⟨S2048x256, .f32⟩
  | .hbm, ⟨49, _⟩ => ⟨S_, .i32⟩
  | .hbm, ⟨50, _⟩ => ⟨S2048x256, .i32⟩
  | .hbm, ⟨51, _⟩ => ⟨S2048x256, .i1⟩
  | .hbm, ⟨52, _⟩ => ⟨S2048x256, .f32⟩
  | .hbm, ⟨53, _⟩ => ⟨S_, .i32⟩
  | .hbm, ⟨54, _⟩ => ⟨S2048x256, .i32⟩
  | .hbm, ⟨55, _⟩ => ⟨S2048x256, .i1⟩
  | .hbm, ⟨56, _⟩ => ⟨S2048x256, .f32⟩
  | .hbm, ⟨57, _⟩ => ⟨S_, .i32⟩
  | .hbm, ⟨58, _⟩ => ⟨S2048x256, .i32⟩
  | .hbm, ⟨59, _⟩ => ⟨S2048x256, .i1⟩
  | .hbm, ⟨60, _⟩ => ⟨S2048x256, .f32⟩
  | .hbm, ⟨61, _⟩ => ⟨S_, .i32⟩
  | .hbm, ⟨62, _⟩ => ⟨S2048x256, .i32⟩
  | .hbm, ⟨63, _⟩ => ⟨S2048x256, .i1⟩
  | .hbm, ⟨64, _⟩ => ⟨S2048x256, .f32⟩
  | .hbm, ⟨65, _⟩ => ⟨S_, .i32⟩
  | .hbm, ⟨66, _⟩ => ⟨S2048x256, .i32⟩
  | .hbm, ⟨67, _⟩ => ⟨S2048x256, .i32⟩
  | .hbm, ⟨68, _⟩ => ⟨S_, .i32⟩
  | .hbm, ⟨69, _⟩ => ⟨S2048x256, .i32⟩
  | .hbm, ⟨70, _⟩ => ⟨S2048x256, .i32⟩
  | .hbm, ⟨71, _⟩ => ⟨S_, .i32⟩
  | .hbm, ⟨72, _⟩ => ⟨S2048x256, .i32⟩
  | .hbm, ⟨73, _⟩ => ⟨S2048x256, .i32⟩
  | .hbm, ⟨74, _⟩ => ⟨S2048x256, .i1⟩
  | .hbm, ⟨75, _⟩ => ⟨S_, .f32⟩
  | .hbm, ⟨76, _⟩ => ⟨S_, .f32⟩
  | .hbm, ⟨77, _⟩ => ⟨S2048x256, .f32⟩
  | .hbm, ⟨78, _⟩ => ⟨S2048x256, .f32⟩
  | .hbm, ⟨79, _⟩ => ⟨S2048x256, .bf16⟩
  | .hbm, ⟨80, _⟩ => ⟨S4x5x64x256, .f32⟩
  | .local _ .vmem, ⟨0, _⟩ => ⟨S1x36x144x128, .i32⟩
  | .local _ .vmem, ⟨1, _⟩ => ⟨S1x36x144x128, .i32⟩
  | .local _ .vmem, ⟨2, _⟩ => ⟨S1x36x128, .i32⟩
  | .local _ .vmem, ⟨3, _⟩ => ⟨S1x36x128, .i32⟩
  | .local _ .vmem, ⟨4, _⟩ => ⟨S2048x256, .bf16⟩
  | .local _ .vmem, ⟨5, _⟩ => ⟨S1x5x64x256, .f32⟩
  | .local _ .vmem, ⟨6, _⟩ => ⟨S1x5x64x256, .f32⟩
  | .local _ .vmem, ⟨7, _⟩ => ⟨S64x128, .f32⟩
  | .local _ .vmem, ⟨8, _⟩ => ⟨S64x128, .f32⟩
  | .local _ .vmem, ⟨9, _⟩ => ⟨S256x256, .bf16⟩
  | .local _ .vmem, ⟨10, _⟩ => ⟨S256x128, .f32⟩
  | .local _ .vmem, ⟨11, _⟩ => ⟨S4x256x128, .f32⟩
  | .local _ .vmem, ⟨12, _⟩ => ⟨S256x128, .f32⟩
  | .local _ .vmem, ⟨13, _⟩ => ⟨S4x256x128, .f32⟩
  | .local _ .smem, ⟨0, _⟩ => ⟨S64, .i32⟩
  | .local _ .smem, ⟨1, _⟩ => ⟨S12, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_14 : Ref sig .tc := ⟨.hbm, 65, rfl⟩
abbrev main_v45 : Ref sig .tc := ⟨.hbm, 66, rfl⟩
abbrev main_v46 : Ref sig .tc := ⟨.hbm, 67, rfl⟩
abbrev main_c_15 : Ref sig .tc := ⟨.hbm, 68, rfl⟩
abbrev main_v47 : Ref sig .tc := ⟨.hbm, 69, rfl⟩
abbrev main_v48 : Ref sig .tc := ⟨.hbm, 70, rfl⟩
abbrev main_c_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_call6_v0 : Ref sig .tc := ⟨.hbm, 76, rfl⟩
abbrev main_call6_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![4], ![false]⟩

def k0_off1 (i : grid0.Coords) : Fin 1 → Nat :=
  let arg0 : BitVec 32 := BitVec.ofNat 32 (i 0).val
  let c16_i32 : BitVec 32 := 16#32
  let v12 : BitVec 32 := Scalar.muli arg0 c16_i32
  let v13 : Index := Scalar.indexCast v12
  ![v13.toNat]
@[reducible] def k0_t1_loop (v14 : BitVec 32) : Scf.Loop 32 :=
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_8 : BitVec 32 := 1#32
  ⟨c0_i32, v19, c1_i32_8⟩

def k0_off2 (v14 : BitVec 32) (k0_t1 : Fin (k0_t1_loop v14).trips) : Fin 3 → Nat :=
  let c0_45 : Index := 0#32
  let c0_i32 : BitVec 32 := 0#32
  let c1_i32_8 : BitVec 32 := 1#32
  let arg14 : BitVec 32 := Scf.iv c0_i32 c1_i32_8 k0_t1
  let v80 : Index := Scalar.indexCast arg14
  let c0_46 : Index := 0#32
  ![0, v80.toNat, 0]
def k0_off3 (v14 : BitVec 32) (k0_t1 : Fin (k0_t1_loop v14).trips) : Fin 4 → Nat :=
  let c0_51 : Index := 0#32
  let c0_i32 : BitVec 32 := 0#32
  let c1_i32_8 : BitVec 32 := 1#32
  let arg14 : BitVec 32 := Scf.iv c0_i32 c1_i32_8 k0_t1
  let v100 : Index := Scalar.indexCast arg14
  let c0_52 : Index := 0#32
  let c0_53 : Index := 0#32
  ![0, v100.toNat, 0, 0]
def k0_off4 (v14 : BitVec 32) (k0_t1 : Fin (k0_t1_loop v14).trips) : Fin 4 → Nat :=
  let c0_54 : Index := 0#32
  let c0_i32 : BitVec 32 := 0#32
  let c1_i32_8 : BitVec 32 := 1#32
  let arg14 : BitVec 32 := Scf.iv c0_i32 c1_i32_8 k0_t1
  let v106 : Index := Scalar.indexCast arg14
  let c16 : Index := 16#32
  let c0_55 : Index := 0#32
  ![0, v106.toNat, 16, 0]
def k0_off5 (v14 : BitVec 32) (k0_t1 : Fin (k0_t1_loop v14).trips) : Fin 4 → Nat :=
  let c0_56 : Index := 0#32
  let c0_i32 : BitVec 32 := 0#32
  let c1_i32_8 : BitVec 32 := 1#32
  let arg14 : BitVec 32 := Scf.iv c0_i32 c1_i32_8 k0_t1
  let v112 : Index := Scalar.indexCast arg14
  let c32 : Index := 32#32
  let c0_57 : Index := 0#32
  ![0, v112.toNat, 32, 0]
def k0_off6 (v14 : BitVec 32) (k0_t1 : Fin (k0_t1_loop v14).trips) : Fin 4 → Nat :=
  let c0_58 : Index := 0#32
  let c0_i32 : BitVec 32 := 0#32
  let c1_i32_8 : BitVec 32 := 1#32
  let arg14 : BitVec 32 := Scf.iv c0_i32 c1_i32_8 k0_t1
  let v116 : Index := Scalar.indexCast arg14
  let c48 : Index := 48#32
  let c0_59 : Index := 0#32
  ![0, v116.toNat, 48, 0]
def k0_off7 (v14 : BitVec 32) (k0_t1 : Fin (k0_t1_loop v14).trips) : Fin 4 → Nat :=
  let c0_60 : Index := 0#32
  let c0_i32 : BitVec 32 := 0#32
  let c1_i32_8 : BitVec 32 := 1#32
  let arg14 : BitVec 32 := Scf.iv c0_i32 c1_i32_8 k0_t1
  let v120 : Index := Scalar.indexCast arg14
  let c64 : Index := 64#32
  let c0_61 : Index := 0#32
  ![0, v120.toNat, 64, 0]
def k0_off8 (v14 : BitVec 32) (k0_t1 : Fin (k0_t1_loop v14).trips) : Fin 4 → Nat :=
  let c0_62 : Index := 0#32
  let c0_i32 : BitVec 32 := 0#32
  let c1_i32_8 : BitVec 32 := 1#32
  let arg14 : BitVec 32 := Scf.iv c0_i32 c1_i32_8 k0_t1
  let v124 : Index := Scalar.indexCast arg14
  let c80 : Index := 80#32
  let c0_63 : Index := 0#32
  ![0, v124.toNat, 80, 0]
def k0_off9 (v14 : BitVec 32) (k0_t1 : Fin (k0_t1_loop v14).trips) : Fin 4 → Nat :=
  let c0_87 : Index := 0#32
  let c0_i32 : BitVec 32 := 0#32
  let c1_i32_8 : BitVec 32 := 1#32
  let arg14 : BitVec 32 := Scf.iv c0_i32 c1_i32_8 k0_t1
  let v283 : Index := Scalar.indexCast arg14
  let c96 : Index := 96#32
  let c0_88 : Index := 0#32
  ![0, v283.toNat, 96, 0]
def k0_off10 (v14 : BitVec 32) (k0_t1 : Fin (k0_t1_loop v14).trips) : Fin 4 → Nat :=
  let c0_91 : Index := 0#32
  let c0_i32 : BitVec 32 := 0#32
  let c1_i32_8 : BitVec 32 := 1#32
  let arg14 : BitVec 32 := Scf.iv c0_i32 c1_i32_8 k0_t1
  let v291 : Index := Scalar.indexCast arg14
  let c112 : Index := 112#32
  let c0_92 : Index := 0#32
  ![0, v291.toNat, 112, 0]
def k0_off11 (v14 : BitVec 32) (k0_t1 : Fin (k0_t1_loop v14).trips) : Fin 4 → Nat :=
  let c0_105 : Index := 0#32
  let c0_i32 : BitVec 32 := 0#32
  let c1_i32_8 : BitVec 32 := 1#32
  let arg14 : BitVec 32 := Scf.iv c0_i32 c1_i32_8 k0_t1
  let v310 : Index := Scalar.indexCast arg14
  let c128 : Index := 128#32
  let c0_106 : Index := 0#32
  ![0, v310.toNat, 128, 0]
@[reducible] def k0_t2_loop : Scf.Loop 32 :=
  let c0_i32_110 : BitVec 32 := 0#32
  let c8_i32_111 : BitVec 32 := 8#32
  let v317 : BitVec 32 := Scalar.addi c0_i32_110 c8_i32_111
  let c1_i32_112 : BitVec 32 := 1#32
  ⟨c0_i32_110, v317, c1_i32_112⟩
def k0_off12 (k0_t2 : Fin k0_t2_loop.trips) : Fin 2 → Nat :=
  let c0_i32_110 : BitVec 32 := 0#32
  let c1_i32_112 : BitVec 32 := 1#32
  let arg16 : BitVec 32 := Scf.iv c0_i32_110 c1_i32_112 k0_t2
  let c8_i32_174 : BitVec 32 := 8#32
  let v464 : BitVec 32 := Scalar.muli arg16 c8_i32_174
  let c32_i32 : BitVec 32 := 32#32
  let v465 : BitVec 32 := Scalar.muli v464 c32_i32
  let v466 : Index := Scalar.indexCast v465
  let c0_175 : Index := 0#32
  ![v466.toNat, 0]
def k0_off13 (k0_t2 : Fin k0_t2_loop.trips) (c0_i32_320 : BitVec 32) : Fin 2 → Nat :=
  let c0_i32_110 : BitVec 32 := 0#32
  let c1_i32_112 : BitVec 32 := 1#32
  let arg16 : BitVec 32 := Scf.iv c0_i32_110 c1_i32_112 k0_t2
  let c32_i32_319 : BitVec 32 := 32#32
  let v1603 : BitVec 32 := Scalar.muli arg16 c32_i32_319
  let v1604 : BitVec 32 := Scalar.addi v1603 c0_i32_320
  let v1624 : Index := Scalar.indexCast v1604
  let c0_328 : Index := 0#32
  ![v1624.toNat, 0]
def k0_off14 (k0_t2 : Fin k0_t2_loop.trips) (c0_i32_320 : BitVec 32) : Fin 3 → Nat :=
  let c0_329 : Index := 0#32
  let c0_i32_110 : BitVec 32 := 0#32
  let c1_i32_112 : BitVec 32 := 1#32
  let arg16 : BitVec 32 := Scf.iv c0_i32_110 c1_i32_112 k0_t2
  let c32_i32_319 : BitVec 32 := 32#32
  let v1603 : BitVec 32 := Scalar.muli arg16 c32_i32_319
  let v1604 : BitVec 32 := Scalar.addi v1603 c0_i32_320
  let v1628 : Index := Scalar.indexCast v1604
  let c0_330 : Index := 0#32
  ![0, v1628.toNat, 0]
def k0_off15 (k0_t2 : Fin k0_t2_loop.trips) (c0_i32_320 : BitVec 32) : Fin 3 → Nat :=
  let c1_331 : Index := 1#32
  let c0_i32_110 : BitVec 32 := 0#32
  let c1_i32_112 : BitVec 32 := 1#32
  let arg16 : BitVec 32 := Scf.iv c0_i32_110 c1_i32_112 k0_t2
  let c32_i32_319 : BitVec 32 := 32#32
  let v1603 : BitVec 32 := Scalar.muli arg16 c32_i32_319
  let v1604 : BitVec 32 := Scalar.addi v1603 c0_i32_320
  let v1632 : Index := Scalar.indexCast v1604
  let c0_332 : Index := 0#32
  ![1, v1632.toNat, 0]
def k0_off16 (k0_t2 : Fin k0_t2_loop.trips) (c0_i32_320 : BitVec 32) : Fin 3 → Nat :=
  let c2_333 : Index := 2#32
  let c0_i32_110 : BitVec 32 := 0#32
  let c1_i32_112 : BitVec 32 := 1#32
  let arg16 : BitVec 32 := Scf.iv c0_i32_110 c1_i32_112 k0_t2
  let c32_i32_319 : BitVec 32 := 32#32
  let v1603 : BitVec 32 := Scalar.muli arg16 c32_i32_319
  let v1604 : BitVec 32 := Scalar.addi v1603 c0_i32_320
  let v1636 : Index := Scalar.indexCast v1604
  let c0_334 : Index := 0#32
  ![2, v1636.toNat, 0]
def k0_off17 (k0_t2 : Fin k0_t2_loop.trips) (c0_i32_320 : BitVec 32) : Fin 3 → Nat :=
  let c3_335 : Index := 3#32
  let c0_i32_110 : BitVec 32 := 0#32
  let c1_i32_112 : BitVec 32 := 1#32
  let arg16 : BitVec 32 := Scf.iv c0_i32_110 c1_i32_112 k0_t2
  let c32_i32_319 : BitVec 32 := 32#32
  let v1603 : BitVec 32 := Scalar.muli arg16 c32_i32_319
  let v1604 : BitVec 32 := Scalar.addi v1603 c0_i32_320
  let v1640 : Index := Scalar.indexCast v1604
  let c0_336 : Index := 0#32
  ![3, v1640.toNat, 0]
@[reducible] def k0_t3_loop (v14 : BitVec 32) : Scf.Loop 32 :=
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_9 : BitVec 32 := 1#32
  ⟨v19, v16, c1_i32_9⟩
def k0_off18 (v14 : BitVec 32) (k0_t3 : Fin (k0_t3_loop v14).trips) : Fin 3 → Nat :=
  let c0_45 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v80 : Index := Scalar.indexCast arg14
  let c0_46 : Index := 0#32
  ![0, v80.toNat, 0]
def k0_off19 (v14 : BitVec 32) (k0_t3 : Fin (k0_t3_loop v14).trips) : Fin 4 → Nat :=
  let c0_51 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v100 : Index := Scalar.indexCast arg14
  let c0_52 : Index := 0#32
  let c0_53 : Index := 0#32
  ![0, v100.toNat, 0, 0]
def k0_off20 (v14 : BitVec 32) (k0_t3 : Fin (k0_t3_loop v14).trips) : Fin 4 → Nat :=
  let c0_54 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v106 : Index := Scalar.indexCast arg14
  let c16 : Index := 16#32
  let c0_55 : Index := 0#32
  ![0, v106.toNat, 16, 0]
def k0_off21 (v14 : BitVec 32) (k0_t3 : Fin (k0_t3_loop v14).trips) : Fin 4 → Nat :=
  let c0_56 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v112 : Index := Scalar.indexCast arg14
  let c32 : Index := 32#32
  let c0_57 : Index := 0#32
  ![0, v112.toNat, 32, 0]
def k0_off22 (v14 : BitVec 32) (k0_t3 : Fin (k0_t3_loop v14).trips) : Fin 4 → Nat :=
  let c0_58 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v116 : Index := Scalar.indexCast arg14
  let c48 : Index := 48#32
  let c0_59 : Index := 0#32
  ![0, v116.toNat, 48, 0]
def k0_off23 (v14 : BitVec 32) (k0_t3 : Fin (k0_t3_loop v14).trips) : Fin 4 → Nat :=
  let c0_60 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v120 : Index := Scalar.indexCast arg14
  let c64 : Index := 64#32
  let c0_61 : Index := 0#32
  ![0, v120.toNat, 64, 0]
def k0_off24 (v14 : BitVec 32) (k0_t3 : Fin (k0_t3_loop v14).trips) : Fin 4 → Nat :=
  let c0_62 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v124 : Index := Scalar.indexCast arg14
  let c80 : Index := 80#32
  let c0_63 : Index := 0#32
  ![0, v124.toNat, 80, 0]
def k0_off25 (v14 : BitVec 32) (k0_t3 : Fin (k0_t3_loop v14).trips) : Fin 4 → Nat :=
  let c0_87 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v283 : Index := Scalar.indexCast arg14
  let c96 : Index := 96#32
  let c0_88 : Index := 0#32
  ![0, v283.toNat, 96, 0]
def k0_off26 (v14 : BitVec 32) (k0_t3 : Fin (k0_t3_loop v14).trips) : Fin 4 → Nat :=
  let c0_91 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v291 : Index := Scalar.indexCast arg14
  let c112 : Index := 112#32
  let c0_92 : Index := 0#32
  ![0, v291.toNat, 112, 0]
def k0_off27 (v14 : BitVec 32) (k0_t3 : Fin (k0_t3_loop v14).trips) : Fin 4 → Nat :=
  let c0_105 : Index := 0#32
  let c0_i32 : BitVec 32 := 0#32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  let arg14 : BitVec 32 := Scf.iv v19 c1_i32_9 k0_t3
  let v310 : Index := Scalar.indexCast arg14
  let c128 : Index := 128#32
  let c0_106 : Index := 0#32
  ![0, v310.toNat, 128, 0]

def k0_chk1 (v14 : BitVec 32) : Prop :=
  ((k0_t1_loop v14).OK) ∧
  (∀ k0_t1 : Fin (k0_t1_loop v14).trips, ∀ a, (k0_off2 v14 k0_t1) a + S1x1x128.size a ≤ S1x36x128.size a) ∧
  (∀ k0_t1 : Fin (k0_t1_loop v14).trips, ∀ a, (k0_off3 v14 k0_t1) a + S1x1x16x128.size a ≤ S1x36x144x128.size a) ∧
  (∀ k0_t1 : Fin (k0_t1_loop v14).trips, ∀ a, (k0_off4 v14 k0_t1) a + S1x1x16x128.size a ≤ S1x36x144x128.size a) ∧
  (∀ k0_t1 : Fin (k0_t1_loop v14).trips, ∀ a, (k0_off5 v14 k0_t1) a + S1x1x16x128.size a ≤ S1x36x144x128.size a) ∧
  (∀ k0_t1 : Fin (k0_t1_loop v14).trips, ∀ a, (k0_off6 v14 k0_t1) a + S1x1x16x128.size a ≤ S1x36x144x128.size a) ∧
  (∀ k0_t1 : Fin (k0_t1_loop v14).trips, ∀ a, (k0_off7 v14 k0_t1) a + S1x1x16x128.size a ≤ S1x36x144x128.size a) ∧
  (∀ k0_t1 : Fin (k0_t1_loop v14).trips, ∀ a, (k0_off8 v14 k0_t1) a + S1x1x16x128.size a ≤ S1x36x144x128.size a) ∧
  (∀ k0_t1 : Fin (k0_t1_loop v14).trips, ∀ a, (k0_off9 v14 k0_t1) a + S1x1x16x128.size a ≤ S1x36x144x128.size a) ∧
  (∀ k0_t1 : Fin (k0_t1_loop v14).trips, ∀ a, (k0_off10 v14 k0_t1) a + S1x1x16x128.size a ≤ S1x36x144x128.size a) ∧
  (∀ k0_t1 : Fin (k0_t1_loop v14).trips, ∀ a, (k0_off11 v14 k0_t1) a + S1x1x16x128.size a ≤ S1x36x144x128.size a) ∧
  ((k0_t3_loop v14).OK) ∧
  (∀ k0_t3 : Fin (k0_t3_loop v14).trips, ∀ a, (k0_off18 v14 k0_t3) a + S1x1x128.size a ≤ S1x36x128.size a) ∧
  (∀ k0_t3 : Fin (k0_t3_loop v14).trips, ∀ a, (k0_off19 v14 k0_t3) a + S1x1x16x128.size a ≤ S1x36x144x128.size a) ∧
  (∀ k0_t3 : Fin (k0_t3_loop v14).trips, ∀ a, (k0_off20 v14 k0_t3) a + S1x1x16x128.size a ≤ S1x36x144x128.size a) ∧
  (∀ k0_t3 : Fin (k0_t3_loop v14).trips, ∀ a, (k0_off21 v14 k0_t3) a + S1x1x16x128.size a ≤ S1x36x144x128.size a) ∧
  (∀ k0_t3 : Fin (k0_t3_loop v14).trips, ∀ a, (k0_off22 v14 k0_t3) a + S1x1x16x128.size a ≤ S1x36x144x128.size a) ∧
  (∀ k0_t3 : Fin (k0_t3_loop v14).trips, ∀ a, (k0_off23 v14 k0_t3) a + S1x1x16x128.size a ≤ S1x36x144x128.size a) ∧
  (∀ k0_t3 : Fin (k0_t3_loop v14).trips, ∀ a, (k0_off24 v14 k0_t3) a + S1x1x16x128.size a ≤ S1x36x144x128.size a) ∧
  (∀ k0_t3 : Fin (k0_t3_loop v14).trips, ∀ a, (k0_off25 v14 k0_t3) a + S1x1x16x128.size a ≤ S1x36x144x128.size a) ∧
  (∀ k0_t3 : Fin (k0_t3_loop v14).trips, ∀ a, (k0_off26 v14 k0_t3) a + S1x1x16x128.size a ≤ S1x36x144x128.size a) ∧
  (∀ k0_t3 : Fin (k0_t3_loop v14).trips, ∀ a, (k0_off27 v14 k0_t3) a + S1x1x16x128.size a ≤ S1x36x144x128.size a)
theorem k0_t1_ok : ∀ (v14 : BitVec 32) (k0_hw1 : k0_chk1 v14), (k0_t1_loop v14).OK := fun v14 k0_hw1 => k0_hw1.1
theorem k0_off2_inb : ∀ (v14 : BitVec 32) (k0_hw1 : k0_chk1 v14) (k0_t1 : Fin (k0_t1_loop v14).trips), ∀ a, (k0_off2 v14 k0_t1) a + S1x1x128.size a ≤ S1x36x128.size a := fun v14 k0_hw1 k0_t1 => k0_hw1.2.1 k0_t1
theorem k0_off3_inb : ∀ (v14 : BitVec 32) (k0_hw1 : k0_chk1 v14) (k0_t1 : Fin (k0_t1_loop v14).trips), ∀ a, (k0_off3 v14 k0_t1) a + S1x1x16x128.size a ≤ S1x36x144x128.size a := fun v14 k0_hw1 k0_t1 => k0_hw1.2.2.1 k0_t1
theorem k0_off4_inb : ∀ (v14 : BitVec 32) (k0_hw1 : k0_chk1 v14) (k0_t1 : Fin (k0_t1_loop v14).trips), ∀ a, (k0_off4 v14 k0_t1) a + S1x1x16x128.size a ≤ S1x36x144x128.size a := fun v14 k0_hw1 k0_t1 => k0_hw1.2.2.2.1 k0_t1
theorem k0_off5_inb : ∀ (v14 : BitVec 32) (k0_hw1 : k0_chk1 v14) (k0_t1 : Fin (k0_t1_loop v14).trips), ∀ a, (k0_off5 v14 k0_t1) a + S1x1x16x128.size a ≤ S1x36x144x128.size a := fun v14 k0_hw1 k0_t1 => k0_hw1.2.2.2.2.1 k0_t1
theorem k0_off6_inb : ∀ (v14 : BitVec 32) (k0_hw1 : k0_chk1 v14) (k0_t1 : Fin (k0_t1_loop v14).trips), ∀ a, (k0_off6 v14 k0_t1) a + S1x1x16x128.size a ≤ S1x36x144x128.size a := fun v14 k0_hw1 k0_t1 => k0_hw1.2.2.2.2.2.1 k0_t1
theorem k0_off7_inb : ∀ (v14 : BitVec 32) (k0_hw1 : k0_chk1 v14) (k0_t1 : Fin (k0_t1_loop v14).trips), ∀ a, (k0_off7 v14 k0_t1) a + S1x1x16x128.size a ≤ S1x36x144x128.size a := fun v14 k0_hw1 k0_t1 => k0_hw1.2.2.2.2.2.2.1 k0_t1
theorem k0_off8_inb : ∀ (v14 : BitVec 32) (k0_hw1 : k0_chk1 v14) (k0_t1 : Fin (k0_t1_loop v14).trips), ∀ a, (k0_off8 v14 k0_t1) a + S1x1x16x128.size a ≤ S1x36x144x128.size a := fun v14 k0_hw1 k0_t1 => k0_hw1.2.2.2.2.2.2.2.1 k0_t1
theorem k0_off9_inb : ∀ (v14 : BitVec 32) (k0_hw1 : k0_chk1 v14) (k0_t1 : Fin (k0_t1_loop v14).trips), ∀ a, (k0_off9 v14 k0_t1) a + S1x1x16x128.size a ≤ S1x36x144x128.size a := fun v14 k0_hw1 k0_t1 => k0_hw1.2.2.2.2.2.2.2.2.1 k0_t1
theorem k0_off10_inb : ∀ (v14 : BitVec 32) (k0_hw1 : k0_chk1 v14) (k0_t1 : Fin (k0_t1_loop v14).trips), ∀ a, (k0_off10 v14 k0_t1) a + S1x1x16x128.size a ≤ S1x36x144x128.size a := fun v14 k0_hw1 k0_t1 => k0_hw1.2.2.2.2.2.2.2.2.2.1 k0_t1
theorem k0_off11_inb : ∀ (v14 : BitVec 32) (k0_hw1 : k0_chk1 v14) (k0_t1 : Fin (k0_t1_loop v14).trips), ∀ a, (k0_off11 v14 k0_t1) a + S1x1x16x128.size a ≤ S1x36x144x128.size a := fun v14 k0_hw1 k0_t1 => k0_hw1.2.2.2.2.2.2.2.2.2.2.1 k0_t1
theorem k0_t3_ok : ∀ (v14 : BitVec 32) (k0_hw1 : k0_chk1 v14), (k0_t3_loop v14).OK := fun v14 k0_hw1 => k0_hw1.2.2.2.2.2.2.2.2.2.2.2.1
theorem k0_off18_inb : ∀ (v14 : BitVec 32) (k0_hw1 : k0_chk1 v14) (k0_t3 : Fin (k0_t3_loop v14).trips), ∀ a, (k0_off18 v14 k0_t3) a + S1x1x128.size a ≤ S1x36x128.size a := fun v14 k0_hw1 k0_t3 => k0_hw1.2.2.2.2.2.2.2.2.2.2.2.2.1 k0_t3
theorem k0_off19_inb : ∀ (v14 : BitVec 32) (k0_hw1 : k0_chk1 v14) (k0_t3 : Fin (k0_t3_loop v14).trips), ∀ a, (k0_off19 v14 k0_t3) a + S1x1x16x128.size a ≤ S1x36x144x128.size a := fun v14 k0_hw1 k0_t3 => k0_hw1.2.2.2.2.2.2.2.2.2.2.2.2.2.1 k0_t3
theorem k0_off20_inb : ∀ (v14 : BitVec 32) (k0_hw1 : k0_chk1 v14) (k0_t3 : Fin (k0_t3_loop v14).trips), ∀ a, (k0_off20 v14 k0_t3) a + S1x1x16x128.size a ≤ S1x36x144x128.size a := fun v14 k0_hw1 k0_t3 => k0_hw1.2.2.2.2.2.2.2.2.2.2.2.2.2.2.1 k0_t3
theorem k0_off21_inb : ∀ (v14 : BitVec 32) (k0_hw1 : k0_chk1 v14) (k0_t3 : Fin (k0_t3_loop v14).trips), ∀ a, (k0_off21 v14 k0_t3) a + S1x1x16x128.size a ≤ S1x36x144x128.size a := fun v14 k0_hw1 k0_t3 => k0_hw1.2.2.2.2.2.2.2.2.2.2.2.2.2.2.2.1 k0_t3
theorem k0_off22_inb : ∀ (v14 : BitVec 32) (k0_hw1 : k0_chk1 v14) (k0_t3 : Fin (k0_t3_loop v14).trips), ∀ a, (k0_off22 v14 k0_t3) a + S1x1x16x128.size a ≤ S1x36x144x128.size a := fun v14 k0_hw1 k0_t3 => k0_hw1.2.2.2.2.2.2.2.2.2.2.2.2.2.2.2.2.1 k0_t3
theorem k0_off23_inb : ∀ (v14 : BitVec 32) (k0_hw1 : k0_chk1 v14) (k0_t3 : Fin (k0_t3_loop v14).trips), ∀ a, (k0_off23 v14 k0_t3) a + S1x1x16x128.size a ≤ S1x36x144x128.size a := fun v14 k0_hw1 k0_t3 => k0_hw1.2.2.2.2.2.2.2.2.2.2.2.2.2.2.2.2.2.1 k0_t3
theorem k0_off24_inb : ∀ (v14 : BitVec 32) (k0_hw1 : k0_chk1 v14) (k0_t3 : Fin (k0_t3_loop v14).trips), ∀ a, (k0_off24 v14 k0_t3) a + S1x1x16x128.size a ≤ S1x36x144x128.size a := fun v14 k0_hw1 k0_t3 => k0_hw1.2.2.2.2.2.2.2.2.2.2.2.2.2.2.2.2.2.2.1 k0_t3
theorem k0_off25_inb : ∀ (v14 : BitVec 32) (k0_hw1 : k0_chk1 v14) (k0_t3 : Fin (k0_t3_loop v14).trips), ∀ a, (k0_off25 v14 k0_t3) a + S1x1x16x128.size a ≤ S1x36x144x128.size a := fun v14 k0_hw1 k0_t3 => k0_hw1.2.2.2.2.2.2.2.2.2.2.2.2.2.2.2.2.2.2.2.1 k0_t3
theorem k0_off26_inb : ∀ (v14 : BitVec 32) (k0_hw1 : k0_chk1 v14) (k0_t3 : Fin (k0_t3_loop v14).trips), ∀ a, (k0_off26 v14 k0_t3) a + S1x1x16x128.size a ≤ S1x36x144x128.size a := fun v14 k0_hw1 k0_t3 => k0_hw1.2.2.2.2.2.2.2.2.2.2.2.2.2.2.2.2.2.2.2.2.1 k0_t3
theorem k0_off27_inb : ∀ (v14 : BitVec 32) (k0_hw1 : k0_chk1 v14) (k0_t3 : Fin (k0_t3_loop v14).trips), ∀ a, (k0_off27 v14 k0_t3) a + S1x1x16x128.size a ≤ S1x36x144x128.size a := fun v14 k0_hw1 k0_t3 => k0_hw1.2.2.2.2.2.2.2.2.2.2.2.2.2.2.2.2.2.2.2.2.2 k0_t3

@[reducible] def k0_t4_loop : Scf.Loop 32 :=
  let c0_i32_110 : BitVec 32 := 0#32
  let c8_i32_111 : BitVec 32 := 8#32
  let v317 : BitVec 32 := Scalar.addi c0_i32_110 c8_i32_111
  let c1_i32_112 : BitVec 32 := 1#32
  ⟨c0_i32_110, v317, c1_i32_112⟩
def k0_off28 (k0_t4 : Fin k0_t4_loop.trips) : Fin 2 → Nat :=
  let c0_i32_110 : BitVec 32 := 0#32
  let c1_i32_112 : BitVec 32 := 1#32
  let arg16 : BitVec 32 := Scf.iv c0_i32_110 c1_i32_112 k0_t4
  let c8_i32_174 : BitVec 32 := 8#32
  let v464 : BitVec 32 := Scalar.muli arg16 c8_i32_174
  let c32_i32 : BitVec 32 := 32#32
  let v465 : BitVec 32 := Scalar.muli v464 c32_i32
  let v466 : Index := Scalar.indexCast v465
  let c0_175 : Index := 0#32
  ![v466.toNat, 0]
def k0_off29 (k0_t4 : Fin k0_t4_loop.trips) (c0_i32_320 : BitVec 32) : Fin 2 → Nat :=
  let c0_i32_110 : BitVec 32 := 0#32
  let c1_i32_112 : BitVec 32 := 1#32
  let arg16 : BitVec 32 := Scf.iv c0_i32_110 c1_i32_112 k0_t4
  let c32_i32_319 : BitVec 32 := 32#32
  let v1603 : BitVec 32 := Scalar.muli arg16 c32_i32_319
  let v1604 : BitVec 32 := Scalar.addi v1603 c0_i32_320
  let v1624 : Index := Scalar.indexCast v1604
  let c0_328 : Index := 0#32
  ![v1624.toNat, 0]
def k0_off30 (k0_t4 : Fin k0_t4_loop.trips) (c0_i32_320 : BitVec 32) : Fin 3 → Nat :=
  let c0_329 : Index := 0#32
  let c0_i32_110 : BitVec 32 := 0#32
  let c1_i32_112 : BitVec 32 := 1#32
  let arg16 : BitVec 32 := Scf.iv c0_i32_110 c1_i32_112 k0_t4
  let c32_i32_319 : BitVec 32 := 32#32
  let v1603 : BitVec 32 := Scalar.muli arg16 c32_i32_319
  let v1604 : BitVec 32 := Scalar.addi v1603 c0_i32_320
  let v1628 : Index := Scalar.indexCast v1604
  let c0_330 : Index := 0#32
  ![0, v1628.toNat, 0]
def k0_off31 (k0_t4 : Fin k0_t4_loop.trips) (c0_i32_320 : BitVec 32) : Fin 3 → Nat :=
  let c1_331 : Index := 1#32
  let c0_i32_110 : BitVec 32 := 0#32
  let c1_i32_112 : BitVec 32 := 1#32
  let arg16 : BitVec 32 := Scf.iv c0_i32_110 c1_i32_112 k0_t4
  let c32_i32_319 : BitVec 32 := 32#32
  let v1603 : BitVec 32 := Scalar.muli arg16 c32_i32_319
  let v1604 : BitVec 32 := Scalar.addi v1603 c0_i32_320
  let v1632 : Index := Scalar.indexCast v1604
  let c0_332 : Index := 0#32
  ![1, v1632.toNat, 0]
def k0_off32 (k0_t4 : Fin k0_t4_loop.trips) (c0_i32_320 : BitVec 32) : Fin 3 → Nat :=
  let c2_333 : Index := 2#32
  let c0_i32_110 : BitVec 32 := 0#32
  let c1_i32_112 : BitVec 32 := 1#32
  let arg16 : BitVec 32 := Scf.iv c0_i32_110 c1_i32_112 k0_t4
  let c32_i32_319 : BitVec 32 := 32#32
  let v1603 : BitVec 32 := Scalar.muli arg16 c32_i32_319
  let v1604 : BitVec 32 := Scalar.addi v1603 c0_i32_320
  let v1636 : Index := Scalar.indexCast v1604
  let c0_334 : Index := 0#32
  ![2, v1636.toNat, 0]
def k0_off33 (k0_t4 : Fin k0_t4_loop.trips) (c0_i32_320 : BitVec 32) : Fin 3 → Nat :=
  let c3_335 : Index := 3#32
  let c0_i32_110 : BitVec 32 := 0#32
  let c1_i32_112 : BitVec 32 := 1#32
  let arg16 : BitVec 32 := Scf.iv c0_i32_110 c1_i32_112 k0_t4
  let c32_i32_319 : BitVec 32 := 32#32
  let v1603 : BitVec 32 := Scalar.muli arg16 c32_i32_319
  let v1604 : BitVec 32 := Scalar.addi v1603 c0_i32_320
  let v1640 : Index := Scalar.indexCast v1604
  let c0_336 : Index := 0#32
  ![3, v1640.toNat, 0]
def k0_off34 (i : grid0.Coords) (c0_i32_15 : BitVec 32) : Fin 1 → Nat :=
  let arg0 : BitVec 32 := BitVec.ofNat 32 (i 0).val
  let c3_i32 : BitVec 32 := 3#32
  let v26 : BitVec 32 := Scalar.muli arg0 c3_i32
  let v27 : BitVec 32 := Scalar.addi v26 c0_i32_15
  let v28 : Index := Scalar.indexCast v27
  ![v28.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x36x144x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x36x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x5x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log_zero" => some ⊥
  | "neg_half_log2e" => some ((-((1 / 2) * (Real.log 2)⁻¹) : ℝ) : EReal)
  | "neg_log2e" => some ((-((Real.log 2)⁻¹) : ℝ) : EReal)
  | "series_below" => some ⊥
  | _ => none
-- ==== ReferenceIdeal.lean ====
abbrev S64 : Shape := ⟨1, ![64]⟩
abbrev S4x36x144x128 : Shape := ⟨4, ![4, 36, 144, 128]⟩
abbrev S4x36x128 : Shape := ⟨3, ![4, 36, 128]⟩
abbrev S4x3 : Shape := ⟨2, ![4, 3]⟩
abbrev S4x36x9x16x128 : Shape := ⟨5, ![4, 36, 9, 16, 128]⟩
abbrev S36x128x16x9x4 : Shape := ⟨5, ![36, 128, 16, 9, 4]⟩
abbrev S73728x9x4x1 : Shape := ⟨4, ![73728, 9, 4, 1]⟩
abbrev S36x128x4 : Shape := ⟨3, ![36, 128, 4]⟩
abbrev S36x128x1x4 : Shape := ⟨4, ![36, 128, 1, 4]⟩
abbrev S36x128x16x4 : Shape := ⟨4, ![36, 128, 16, 4]⟩
abbrev S4x16x1 : Shape := ⟨3, ![4, 16, 1]⟩
abbrev S4x1x1 : Shape := ⟨3, ![4, 1, 1]⟩
abbrev S73728x4x1 : Shape := ⟨3, ![73728, 4, 1]⟩
abbrev S3x4 : Shape := ⟨2, ![3, 4]⟩
abbrev S3x4x1x1 : Shape := ⟨4, ![3, 4, 1, 1]⟩
abbrev S4x5x64x256 : Shape := ⟨4, ![4, 5, 64, 256]⟩
abbrev S4x64x256 : Shape := ⟨3, ![4, 64, 256]⟩
abbrev S1x4x1 : Shape := ⟨3, ![1, 4, 1]⟩
abbrev S4x1 : Shape := ⟨2, ![4, 1]⟩
abbrev S1x1x4x1 : Shape := ⟨4, ![1, 1, 4, 1]⟩
abbrev S1x4x1x1 : Shape := ⟨4, ![1, 4, 1, 1]⟩
abbrev S4x1x64x256 : Shape := ⟨4, ![4, 1, 64, 256]⟩

abbrev nBuf : Space → Nat
  | .hbm => 16
  | .vmem => 5
  | .smem => 0
  | _ => 0

abbrev bufTy : (tb : Table) → Fin (tcTables nBuf tb) → BufTy
  | .hbm, ⟨0, _⟩ => ⟨S64, .i32⟩
  | .hbm, ⟨1, _⟩ => ⟨S4x36x144x128, .i32⟩
  | .hbm, ⟨2, _⟩ => ⟨S4x36x128, .i32⟩
  | .hbm, ⟨3, _⟩ => ⟨S4x3, .f32⟩
  | .hbm, ⟨4, _⟩ => ⟨S4x36x9x16x128, .i32⟩
  | .hbm, ⟨5, _⟩ => ⟨S36x128x16x9x4, .i32⟩
  | .hbm, ⟨6, _⟩ => ⟨S73728x9x4x1, .i32⟩
  | .hbm, ⟨7, _⟩ => ⟨S36x128x4, .i32⟩
  | .hbm, ⟨8, _⟩ => ⟨S36x128x1x4, .i32⟩
  | .hbm, ⟨9, _⟩ => ⟨S36x128x16x4, .i32⟩
  | .hbm, ⟨10, _⟩ => ⟨S4x16x1, .i32⟩
  | .hbm, ⟨11, _⟩ => ⟨S4x1x1, .i32⟩
  | .hbm, ⟨12, _⟩ => ⟨S73728x4x1, .i32⟩
  | .hbm, ⟨13, _⟩ => ⟨S3x4, .f32⟩
  | .hbm, ⟨14, _⟩ => ⟨S3x4x1x1, .f32⟩
  | .hbm, ⟨15, _⟩ => ⟨S4x5x64x256, .f32⟩
  | .local _ .vmem, ⟨0, _⟩ => ⟨S4x1x1, .i32⟩
  | .local _ .vmem, ⟨1, _⟩ => ⟨S73728x9x4x1, .i32⟩
  | .local _ .vmem, ⟨2, _⟩ => ⟨S73728x4x1, .i32⟩
  | .local _ .vmem, ⟨3, _⟩ => ⟨S3x4x1x1, .f32⟩
  | .local _ .vmem, ⟨4, _⟩ => ⟨S4x5x64x256, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c73728_i32 : BitVec 32 := 73728#32
  let v26 : BitVec 32 := Scalar.addi c0_i32 c73728_i32
  let c1_i32 : BitVec 32 := 1#32
  ⟨c0_i32, v26, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v58 : Index := Scalar.indexCast arg5
  let c0_35 : Index := 0#32
  let c0_36 : Index := 0#32
  ![v58.toNat, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v71 : Index := Scalar.indexCast arg5
  let c0_40 : Index := 0#32
  let c0_41 : Index := 0#32
  let c0_42 : Index := 0#32
  ![v71.toNat, 0, 0, 0]
def k0_off3 (k0_t1 : Fin k0_t1_loop.trips) : Fin 4 → Nat :=
  let c0_i32 : BitVec 32 := 0#32
  let c1_i32 : BitVec 32 := 1#32
  let arg5 : BitVec 32 := Scf.iv c0_i32 c1_i32 k0_t1
  let v78 : Index := Scalar.indexCast arg5
  let c1_43 : Index := 1#32
  let c0_44 : Index := 0#32
  let c0_45 : Index := 0#32
  ![v78.toNat, 1, 0, 0]
def k0_off4 (k0_t1 : Fin k0_t1_loop.trips) : Fin 4 → Nat :=
  let c0_i32 : BitVec 32 := 0#32
  let c1_i32 : BitVec 32 := 1#32
  let arg5 : BitVec 32 := Scf.iv c0_i32 c1_i32 k0_t1
  let v85 : Index := Scalar.indexCast arg5
  let c2_46 : Index := 2#32
  let c0_47 : Index := 0#32
  let c0_48 : Index := 0#32
  ![v85.toNat, 2, 0, 0]
def k0_off5 (k0_t1 : Fin k0_t1_loop.trips) : Fin 4 → Nat :=
  let c0_i32 : BitVec 32 := 0#32
  let c1_i32 : BitVec 32 := 1#32
  let arg5 : BitVec 32 := Scf.iv c0_i32 c1_i32 k0_t1
  let v93 : Index := Scalar.indexCast arg5
  let c4_49 : Index := 4#32
  let c0_50 : Index := 0#32
  let c0_51 : Index := 0#32
  ![v93.toNat, 4, 0, 0]
def k0_off6 (k0_t1 : Fin k0_t1_loop.trips) : Fin 4 → Nat :=
  let c0_i32 : BitVec 32 := 0#32
  let c1_i32 : BitVec 32 := 1#32
  let arg5 : BitVec 32 := Scf.iv c0_i32 c1_i32 k0_t1
  let v104 : Index := Scalar.indexCast arg5
  let c3_53 : Index := 3#32
  let c0_54 : Index := 0#32
  let c0_55 : Index := 0#32
  ![v104.toNat, 3, 0, 0]
def k0_off7 (k0_t1 : Fin k0_t1_loop.trips) : Fin 4 → Nat :=
  let c0_i32 : BitVec 32 := 0#32
  let c1_i32 : BitVec 32 := 1#32
  let arg5 : BitVec 32 := Scf.iv c0_i32 c1_i32 k0_t1
  let v113 : Index := Scalar.indexCast arg5
  let c5 : Index := 5#32
  let c0_56 : Index := 0#32
  let c0_57 : Index := 0#32
  ![v113.toNat, 5, 0, 0]
def k0_off8 (k0_t1 : Fin k0_t1_loop.trips) : Fin 4 → Nat :=
  let c0_i32 : BitVec 32 := 0#32
  let c1_i32 : BitVec 32 := 1#32
  let arg5 : BitVec 32 := Scf.iv c0_i32 c1_i32 k0_t1
  let v128 : Index := Scalar.indexCast arg5
  let c6 : Index := 6#32
  let c0_61 : Index := 0#32
  let c0_62 : Index := 0#32
  ![v128.toNat, 6, 0, 0]
def k0_off9 (k0_t1 : Fin k0_t1_loop.trips) : Fin 4 → Nat :=
  let c0_i32 : BitVec 32 := 0#32
  let c1_i32 : BitVec 32 := 1#32
  let arg5 : BitVec 32 := Scf.iv c0_i32 c1_i32 k0_t1
  let v139 : Index := Scalar.indexCast arg5
  let c7 : Index := 7#32
  let c0_64 : Index := 0#32
  let c0_65 : Index := 0#32
  ![v139.toNat, 7, 0, 0]
def k0_off10 (k0_t1 : Fin k0_t1_loop.trips) : Fin 4 → Nat :=
  let c0_i32 : BitVec 32 := 0#32
  let c1_i32 : BitVec 32 := 1#32
  let arg5 : BitVec 32 := Scf.iv c0_i32 c1_i32 k0_t1
  let v179 : Index := Scalar.indexCast arg5
  let c8 : Index := 8#32
  let c0_81 : Index := 0#32
  let c0_82 : Index := 0#32
  ![v179.toNat, 8, 0, 0]
abbrev stage0_0 : Fin 1 → Memref sig .tc .vmem S4x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S73728x9x4x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S73728x4x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelWords.lean ====
/-
  The words of the group loop of `Kernel`, in closed form: the count read from scalar memory is any word, the main
  loop runs as many trips as its signed value (none for a negative one), the remainder loop runs none, and every
  offset a trip computes names group `k`. The run-time check of the body follows for any count of at most 36.
-/
module

public import proofs.«01_k».proof.Proof.Gen.Kernel.Skeleton
public import Idealize.ShloMosaic.Lib.Affine
public import Idealize.ShloMosaic.Lib.Tactic

@[expose] public section

noncomputable section

namespace Cert.Proof.Kernel

open Cert.Kernel Cert.Kernel.Gen
open Idealize.ShloMosaic
open Affine

variable (v : BitVec 32)

/-- The count less zero is the count. -/
theorem isInt_sub : IsInt (Scalar.subi v 0#32) v.toInt := by
  have hr := word_range v
  exact subi (e := v.toInt) (word v) (ofNat (e := 0) 0 ⟨rfl, by decide⟩) ⟨by omega, by omega, by omega⟩
/-- The main loop's upper bound is the count. -/
theorem isInt_ub : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_sub v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
/-- The remainder loop's upper bound is the count too. -/
theorem isInt_ub3 : IsInt (Scalar.addi 0#32 (Scalar.subi v 0#32)) v.toInt := by
  have hr := word_range v
  exact addi (e := v.toInt) (ofNat (e := 0) 0 ⟨rfl, by decide⟩) (isInt_sub v) ⟨by omega, by omega, by omega⟩

private theorem toInt_of_isInt {x : BitVec 32} {e : Int} (h : IsInt x e) : x.toInt = e := by
  delta Affine.IsInt at h; exact h

/-- The main loop runs `v` trips, `v` read signed (none for a negative count); -/
theorem trips1_eq : (k0_t1_loop v).trips = v.toInt.toNat := by
  show Scf.trips 0#32 (Scalar.addi 0#32 (Scalar.muli (Scalar.divsi (Scalar.subi v 0#32) 1#32) 1#32)) 1#32 = _
  unfold Scf.trips; rw [toInt_of_isInt (isInt_ub v)]; simp
/-- the remainder loop none. -/
theorem trips3_eq : (k0_t3_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_ub v), toInt_of_isInt (isInt_ub3 v)]; simp

theorem trips1_lt (k : Fin (k0_t1_loop v).trips) : (k.val : Int) < 2 ^ 31 := by
  have h := Nat.lt_of_lt_of_eq k.isLt (trips1_eq v); have := word_range v; omega

/-- Trip `k`'s induction variable is `k`. -/
theorem isInt_iv (k : Fin (k0_t1_loop v).trips) : IsInt (Scf.iv 0#32 1#32 k.val) k.val :=
  iv (e := k.val) (ofNat (e := 0) 0 ⟨rfl, by decide⟩) (ofNat (e := 1) 1 ⟨rfl, by decide⟩) k.val ⟨by omega, by omega, trips1_lt v k⟩

/-- The same as an index: its value read unsigned is `k`. -/
theorem ivNat (k : Fin (k0_t1_loop v).trips) : (Scalar.indexCast (Scf.iv 0#32 1#32 k.val)).toNat = k.val := by
  have h := toInt_of_isInt (indexCast (isInt_iv v k))
  have hc := BitVec.toInt_eq_toNat_cond (Scalar.indexCast (Scf.iv 0#32 1#32 k.val)); split at hc <;> omega

variable (k : Fin (k0_t1_loop v).trips)

/-- Trip `k` reads row `k` of the tile indices, -/
theorem off2_eq : k0_off2 v k = ![0, k.val, 0] := congrArg (fun n : ℕ => (![0, n, 0] : Fin 3 → ℕ)) (ivNat v k)
/-- and the nine 16-row components of group `k`. -/
theorem off3_eq : k0_off3 v k = ![0, k.val, 0, 0] := congrArg (fun n : ℕ => (![0, n, 0, 0] : Fin 4 → ℕ)) (ivNat v k)
theorem off4_eq : k0_off4 v k = ![0, k.val, 16, 0] := congrArg (fun n : ℕ => (![0, n, 16, 0] : Fin 4 → ℕ)) (ivNat v k)
theorem off5_eq : k0_off5 v k = ![0, k.val, 32, 0] := congrArg (fun n : ℕ => (![0, n, 32, 0] : Fin 4 → ℕ)) (ivNat v k)
theorem off6_eq : k0_off6 v k = ![0, k.val, 48, 0] := congrArg (fun n : ℕ => (![0, n, 48, 0] : Fin 4 → ℕ)) (ivNat v k)
theorem off7_eq : k0_off7 v k = ![0, k.val, 64, 0] := congrArg (fun n : ℕ => (![0, n, 64, 0] : Fin 4 → ℕ)) (ivNat v k)
theorem off8_eq : k0_off8 v k = ![0, k.val, 80, 0] := congrArg (fun n : ℕ => (![0, n, 80, 0] : Fin 4 → ℕ)) (ivNat v k)
theorem off9_eq : k0_off9 v k = ![0, k.val, 96, 0] := congrArg (fun n : ℕ => (![0, n, 96, 0] : Fin 4 → ℕ)) (ivNat v k)
theorem off10_eq : k0_off10 v k = ![0, k.val, 112, 0] := congrArg (fun n : ℕ => (![0, n, 112, 0] : Fin 4 → ℕ)) (ivNat v k)
theorem off11_eq : k0_off11 v k = ![0, k.val, 128, 0] := congrArg (fun n : ℕ => (![0, n, 128, 0] : Fin 4 → ℕ)) (ivNat v k)

instance : ClosedOff (k0_off2 v k) := ⟨_, off2_eq v k⟩
instance : ClosedOff (k0_off3 v k) := ⟨_, off3_eq v k⟩
instance : ClosedOff (k0_off4 v k) := ⟨_, off4_eq v k⟩
instance : ClosedOff (k0_off5 v k) := ⟨_, off5_eq v k⟩
instance : ClosedOff (k0_off6 v k) := ⟨_, off6_eq v k⟩
instance : ClosedOff (k0_off7 v k) := ⟨_, off7_eq v k⟩
instance : ClosedOff (k0_off8 v k) := ⟨_, off8_eq v k⟩
instance : ClosedOff (k0_off9 v k) := ⟨_, off9_eq v k⟩
instance : ClosedOff (k0_off10 v k) := ⟨_, off10_eq v k⟩
instance : ClosedOff (k0_off11 v k) := ⟨_, off11_eq v k⟩

/-- A `Fin` below the remainder loop's trip count does not exist. -/
theorem no3 {P : Fin (k0_t3_loop v).trips → Prop} : ∀ k, P k := fun k =>
  (Nat.not_lt_zero _ (Nat.lt_of_lt_of_eq k.isLt (trips3_eq v))).elim

/-- THE CHECK of the body holds of every count of at most 36 (read signed). -/
theorem chk_of_le (hv : v.toInt ≤ 36) : k0_chk1 v := by
  have hk : ∀ k : Fin (k0_t1_loop v).trips, k.val < 36 := fun k => by
    have h := Nat.lt_of_lt_of_eq k.isLt (trips1_eq v); omega
  have i3 : ∀ (k : Fin (k0_t1_loop v).trips) (x : ℕ), x ≤ 128 → ∀ a, (![0, k.val, x, 0] : Fin 4 → ℕ) a + S1x1x16x128.size a ≤ S1x36x144x128.size a := by
    intro k x hx a; have := hk k
    fin_cases a
    · show 0 + 1 ≤ 1; omega
    · show k.val + 1 ≤ 36; omega
    · show x + 16 ≤ 144; omega
    · show 0 + 128 ≤ 128; omega
  unfold k0_chk1
  refine ⟨?_, fun k a => ?_, fun k => ?_, fun k => ?_, fun k => ?_, fun k => ?_, fun k => ?_, fun k => ?_, fun k => ?_, fun k => ?_, fun k => ?_,
    ?_, no3 v, no3 v, no3 v, no3 v, no3 v, no3 v, no3 v, no3 v, no3 v, no3 v⟩
  · refine ⟨show 0 < (1#32 : BitVec 32).toInt by decide, ?_⟩
    have := trips1_eq v
    have h1 : ((1#32 : BitVec 32).toInt) = 1 := by decide
    have h0 : ((0#32 : BitVec 32).toInt) = 0 := by decide
    show (0#32 : BitVec 32).toInt + ((k0_t1_loop v).trips : Int) * (1#32 : BitVec 32).toInt < 2 ^ 31
    rw [this, h0, h1]; omega
  · rw [off2_eq]; have := hk k
    fin_cases a
    · show 0 + 1 ≤ 1; omega
    · show k.val + 1 ≤ 36; omega
    · show 0 + 128 ≤ 128; omega
  · rw [off3_eq]; exact i3 k _ (by omega)
  · rw [off4_eq]; exact i3 k _ (by omega)
  · rw [off5_eq]; exact i3 k _ (by omega)
  · rw [off6_eq]; exact i3 k _ (by omega)
  · rw [off7_eq]; exact i3 k _ (by omega)
  · rw [off8_eq]; exact i3 k _ (by omega)
  · rw [off9_eq]; exact i3 k _ (by omega)
  · rw [off10_eq]; exact i3 k _ (by omega)
  · rw [off11_eq]; exact i3 k _ (by omega)
  · refine ⟨show 0 < (1#32 : BitVec 32).toInt by decide, ?_⟩
    have h1 : ((1#32 : BitVec 32).toInt) = 1 := by decide
    have := word_range v
    show (Scalar.addi 0#32 (Scalar.muli (Scalar.divsi (Scalar.subi v 0#32) 1#32) 1#32)).toInt + ((k0_t3_loop v).trips : Int) * (1#32 : BitVec 32).toInt < 2 ^ 31
    rw [trips3_eq, toInt_of_isInt (isInt_ub v)]; simp; omega

end Cert.Proof.Kernel

end
-- ==== Proof.KernelLoops.lean ====
/-
  The group loop of `Kernel` as an invariant that says nothing of the contents: before every trip the inputs hold
  what the pipeline fetched and the scratch buffers hold something. The chunk loop inside a trip
  is gone through by its generated invariant; the remainder loop has no trip.
-/
module

public import proofs.«01_k».proof.Proof.KernelWords
public import proofs.«01_k».proof.Proof.Gen.Kernel.Frame
public import proofs.«01_k».proof.Proof.Gen.Kernel.Loops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ
abbrev 𝒱₀ : Variants := Variants.none

variable (c : Dev nD) (i : grid0.Coords) (arg1 : Memref sig .tc .smem S64 .i32) (harg1 : arg1.IsWhole)
  (arg2 : Memref sig .tc .vmem S1x36x144x128 .i32) (harg2 : arg2.IsWhole) (arg3 : Memref sig .tc .vmem S1x36x128 .i32) (harg3 : arg3.IsWhole) (arg4 : Memref sig .tc .smem S12 .f32) (harg4 : arg4.IsWhole)
  (arg5 : Memref sig .tc .vmem S2048x256 .bf16) (harg5 : arg5.IsWhole) (arg6 : Memref sig .tc .vmem S1x5x64x256 .f32) (harg6 : arg6.IsWhole)
  (arg7 : Memref sig .tc .vmem S64x128 .f32) (harg7 : arg7.IsWhole) (arg8 : Memref sig .tc .vmem S64x128 .f32) (harg8 : arg8.IsWhole)
  (arg9 : Memref sig .tc .vmem S256x256 .bf16) (harg9 : arg9.IsWhole) (arg10 : Memref sig .tc .vmem S256x128 .f32) (harg10 : arg10.IsWhole)
  (arg11 : Memref sig .tc .vmem S4x256x128 .f32) (harg11 : arg11.IsWhole)
  (arg12 : Memref sig .tc .vmem S256x128 .f32) (harg12 : arg12.IsWhole) (arg13 : Memref sig .tc .vmem S4x256x128 .f32) (harg13 : arg13.IsWhole)

/-- A memref's buffer held whole at the contents `f`. -/
abbrev heldAt {sp : Space} {s : Shape} {e : EltTy} (c : Dev nD) (a : Memref sig .tc sp s e) (f : BufTy.Contents (Elt F) a.view.ty) : sProp 𝕄 :=
  a.view.loc (c : Thread nD τ) ↦[a.view.set]{fullShare} f
/-- A memref's buffer held whole at some contents. -/
abbrev heldAny {sp : Space} {s : Shape} {e : EltTy} (c : Dev nD) (a : Memref sig .tc sp s e) : sProp 𝕄 := iprop(∃ f, heldAt (F := F) c a f)

/-- What a trip works on: the inputs at their contents, the scratch at anything. -/
def loopRes (X2 : BufTy.Contents (Elt F) arg2.view.ty) (X3 : BufTy.Contents (Elt F) arg3.view.ty) (X4 : BufTy.Contents (Elt F) arg5.view.ty) : sProp 𝕄 :=
  iprop(heldAt c arg2 X2 ∗ heldAt c arg3 X3 ∗ heldAt c arg5 X4 ∗ heldAny (F := F) c arg7 ∗ heldAny (F := F) c arg8
    ∗ heldAny (F := F) c arg9 ∗ heldAny (F := F) c arg10 ∗ heldAny (F := F) c arg11
    ∗ heldAny (F := F) c arg12 ∗ heldAny (F := F) c arg13)

variable (v14 : Elt F .i32) (k0_hw1 : k0_chk1 v14)

/-- ONE TRIP of the group loop at a symbolic group. -/
theorem trip1 (X2 : BufTy.Contents (Elt F) arg2.view.ty) (X3 : BufTy.Contents (Elt F) arg3.view.ty) (X4 : BufTy.Contents (Elt F) arg5.view.ty)
    (k : Fin (k0_t1_loop v14).trips) (hk : k.val < 36) (acc : BitVec 32) :
    loopRes (F := F) c arg2 arg3 arg5 arg7 arg8 arg9 arg10 arg11 arg12 arg13 X2 X3 X4
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 v14 k0_hw1 k acc)
          (fun _ => loopRes (F := F) c arg2 arg3 arg5 arg7 arg8 arg9 arg10 arg11 arg12 arg13 X2 X3 X4) := by
  unfold loopRes k0_t1_body
  iintro ⟨H2, H3, H4, ⟨%f5, H5⟩, ⟨%f6, H6⟩, ⟨%f7, H7⟩, ⟨%f8, H8⟩, ⟨%f9, H9⟩, ⟨%f10, H10⟩, ⟨%f11, H11⟩⟩
  sl_exec
  sl_step
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

set_option warn.classDefReducibility false in
/-- The group loop's invariant, with the trip count at most 36. -/
@[sl_loop] def loopInv1 (X2 : BufTy.Contents (Elt F) arg2.view.ty) (X3 : BufTy.Contents (Elt F) arg3.view.ty) (X4 : BufTy.Contents (Elt F) arg5.view.ty) (init : BitVec 32) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 v14 k0_hw1 init where
  inv _ _ := iprop(⌜(k0_t1_loop v14).trips ≤ 36⌝ ∗ loopRes (F := F) c arg2 arg3 arg5 arg7 arg8 arg9 arg10 arg11 arg12 arg13 X2 X3 X4)
  step k acc := by
    iintro ⟨%h, H⟩
    iapply (wp_wand_r Idealize.ShloMosaic.frame (wpE (defs₀ (F := F)) 𝒱₀ (c : Thread nD τ) none) Set.univ)
    isplitl [H]
    · iapply (trip1 c i arg1 harg1 arg2 harg2 arg3 harg3 arg4 harg4 arg5 harg5 arg6 harg6 arg7 harg7 arg8 harg8 arg9 harg9 arg10 harg10 arg11 harg11 arg12 harg12 arg13 harg13 v14 k0_hw1 X2 X3 X4 k (by omega) acc); iexact H
    · iintro %_ H'
      isplitr; · ipureintro; exact h
      iexact H'

set_option warn.classDefReducibility false in
/-- The remainder loop's invariant: it has no trip. -/
@[sl_loop] def loopInv3 (X2 : BufTy.Contents (Elt F) arg2.view.ty) (X3 : BufTy.Contents (Elt F) arg3.view.ty) (X4 : BufTy.Contents (Elt F) arg5.view.ty) (v13 : BitVec 32) (init : BitVec 32) :
    LoopInvTy_k0_t3 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 v14 k0_hw1 v13 init where
  inv _ _ := loopRes (F := F) c arg2 arg3 arg5 arg7 arg8 arg9 arg10 arg11 arg12 arg13 X2 X3 X4
  step k _ := (Nat.not_lt_zero _ (Nat.lt_of_lt_of_eq k.isLt (trips3_eq v14))).elim

end Cert.Proof.Kernel

end
-- ==== Proof.KernelFrame.lean ====
/-
  The run of `Kernel` from the body's triple: at every point the body ends, provided that the count word it reads is at
  most 36, with the inputs as it found them; what the output block holds is not said (the output window is forgotten).
  The frame claim follows.
-/
module

public import proofs.«01_k».proof.Proof.KernelLoops

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [BitOps F]

local notation "𝕄" => MT nD τ sig Unit (Elt F) ℕ (UR sig nD τ) ℕ

/-- The count word of batch `i` is at most the number of groups. -/
def CountOK (i : grid0.Coords) (x0 : Vec F S64 .i32) : Prop := ∀ j : S64.Idx, (j 0).val = 16 * (i 0).val → (x0 j : BitVec 32).toInt ≤ 36

section Body

variable (c : Dev nD) (i : grid0.Coords) (arg1 : Memref sig .tc .smem S64 .i32) (harg1 : arg1.IsWhole)
  (arg2 : Memref sig .tc .vmem S1x36x144x128 .i32) (harg2 : arg2.IsWhole) (arg3 : Memref sig .tc .vmem S1x36x128 .i32) (harg3 : arg3.IsWhole) (arg4 : Memref sig .tc .smem S12 .f32) (harg4 : arg4.IsWhole)
  (arg5 : Memref sig .tc .vmem S2048x256 .bf16) (harg5 : arg5.IsWhole) (arg6 : Memref sig .tc .vmem S1x5x64x256 .f32) (harg6 : arg6.IsWhole)
  (arg7 : Memref sig .tc .vmem S64x128 .f32) (harg7 : arg7.IsWhole) (arg8 : Memref sig .tc .vmem S64x128 .f32) (harg8 : arg8.IsWhole)
  (arg9 : Memref sig .tc .vmem S256x256 .bf16) (harg9 : arg9.IsWhole) (arg10 : Memref sig .tc .vmem S256x128 .f32) (harg10 : arg10.IsWhole)
  (arg11 : Memref sig .tc .vmem S4x256x128 .f32) (harg11 : arg11.IsWhole)
  (arg12 : Memref sig .tc .vmem S256x128 .f32) (harg12 : arg12.IsWhole) (arg13 : Memref sig .tc .vmem S4x256x128 .f32) (harg13 : arg13.IsWhole)

/-- Every word read at the count's cell is one of the words `CountOK` bounds. -/
theorem count_le (x0 : Vec F S64 .i32) (h : CountOK i x0) (f1 : BufTy.Contents (Elt F) arg1.view.ty) (hf : arg1.view.read (Elt F) f1 = x0)
    (y : S1.Idx) : (arg1.view.readAt (Elt F) (Rect.unit (s := S64) (k0_off1 i) S1.size (k0_off1_inb i)).toLoadRect f1 y : BitVec 32).toInt ≤ 36 := by
  subst hf
  rw [View.readAt_apply]
  refine h _ ?_
  have hy : (y 0).val = 0 := by have := (y 0).isLt; change (y 0).val < 1 at this; omega
  have ho : k0_off1 i 0 = 16 * (i 0).val :=
    (by decide : ∀ n : Fin 4, (Scalar.indexCast (Scalar.muli (BitVec.ofNat 32 n.val) 16#32)).toNat = 16 * n.val) (i 0)
  rw [← ho]
  show k0_off1 i 0 + 1 * (y 0).val = _
  omega

set_option maxHeartbeats 1600000 in
theorem sound_kernel (x0 : Vec F S64 .i32) (h : CountOK i x0) (x1 : Vec F S1x36x144x128 .i32) (x2 : Vec F S1x36x128 .i32) (xb : Vec F S12 .f32) (x3 : Vec F S2048x256 .bf16) :
    iprop(owns (c : Thread nD τ) arg1 fullShare x0 ∗ owns (c : Thread nD τ) arg2 fullShare x1 ∗ owns (c : Thread nD τ) arg3 fullShare x2
        ∗ owns (c : Thread nD τ) arg4 fullShare xb ∗ owns (c : Thread nD τ) arg5 fullShare x3 ∗ (∃ d, owns (c : Thread nD τ) arg6 fullShare d)
        ∗ heldAny (F := F) c arg7 ∗ heldAny (F := F) c arg8 ∗ heldAny (F := F) c arg9 ∗ heldAny (F := F) c arg10 ∗ heldAny (F := F) c arg11
        ∗ heldAny (F := F) c arg12 ∗ heldAny (F := F) c arg13)
      ⊢ wp frame (wpE (defs₀ (F := F)) 𝒱₀ (c : Thread nD τ) none) Set.univ
          (cc0_splat_blend (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x0 ∗ owns (c : Thread nD τ) arg2 fullShare x1 ∗ owns (c : Thread nD τ) arg3 fullShare x2
        ∗ owns (c : Thread nD τ) arg4 fullShare xb ∗ owns (c : Thread nD τ) arg5 fullShare x3 ∗ (∃ d, owns (c : Thread nD τ) arg6 fullShare d)
        ∗ heldAny (F := F) c arg7 ∗ heldAny (F := F) c arg8 ∗ heldAny (F := F) c arg9 ∗ heldAny (F := F) c arg10 ∗ heldAny (F := F) c arg11
        ∗ heldAny (F := F) c arg12 ∗ heldAny (F := F) c arg13)) := by
  simp only [cc0_splat_blend_eq_skeleton]; unfold cc0_splat_blend_skel
  unfold owns
  iintro ⟨⟨%f1, %hf1, H1⟩, ⟨%f2, %hf2, H2⟩, ⟨%f3, %hf3, H3⟩, ⟨%fb, %hfb, HB⟩, ⟨%f4, %hf4, H4⟩, ⟨%d5, %f5, -, H5⟩, ⟨%f6, H6⟩, ⟨%f7, H7⟩, ⟨%f8, H8⟩, ⟨%f9, H9⟩, ⟨%f10, H10⟩, ⟨%f11, H11⟩, ⟨%f12, H12⟩⟩
  sl_exec
  have hle : (sound_kernel.sl.r c i arg1 f1 : BitVec 32).toInt ≤ 36 := by
    unfold sound_kernel.sl.r
    exact count_le (F := F) i arg1 x0 h f1 hf1 _
  have hchk : k0_chk1 (sound_kernel.sl.r c i arg1 f1) := chk_of_le _ hle
  have htr : (k0_t1_loop (sound_kernel.sl.r c i arg1 f1)).trips ≤ 36 := by rw [trips1_eq]; omega
  unfold heldAt
  sl_exec
  sl_step
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [HB]; · iexists fb; isplitr; · ipureintro; exact hfb
                  iexact HB
  isplitl [H4]; · iexists f4; isplitr; · ipureintro; exact hf4
                  iexact H4
  isplitl [H5]; · iexists _; iexists _; isplitr
                  on_goal 2 => iexact H5
                  ipureintro; rfl
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Body

/-! ## The pipeline's proof data -/

variable (m : (ℓ : Loc nD τ sig) → Buf (Elt F) ℓ) (ρ : Dev nD → PrngReg)

/-- The proof data: the inputs' buffers at their blocks after the body, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Only the output window is forgotten. -/
def fgt (w : Fin cfg0.W) : Bool := w.val == 5

/-- The count of every batch, read off the launch memory, is at most 36. -/
def CountsLe : Prop := ∀ (c : Dev nD) (j : S64.Idx), 16 ∣ (j 0).val → (m ((c : Thread nD τ).loc main_arg0) j : BitVec 32).toInt ≤ 36

/-- The block of the counts is the array of the counts. -/
theorem iblk_0 (c : Dev nD) (t : Fin cfg0.N) : (iblk m c 0 t : S64.Idx → BitVec 32) = (m ((c : Thread nD τ).loc main_arg0) : S64.Idx → BitVec 32) := by
  rw [← V_main_arg0 m c]
  unfold iblk
  funext j
  show V m c main_arg0 (((cfg0.win 0).blk t).view.emb j) = V m c main_arg0 j
  congr 1
  funext a; apply Fin.ext
  match a with
  | ⟨0, _⟩ => show win0_0.index t (0 : Fin 1) * 64 + 1 * (j 0).val = (j 0).val
              rw [show win0_0.index t (0 : Fin 1) = 0 from rfl]; omega

theorem countOK (h : CountsLe m) (c : Dev nD) (t : Fin cfg0.N) : CountOK (F := F) (grid0.coords t) (iblk m c 0 t) := by
  intro j hj
  rw [iblk_0]
  exact h c j ⟨_, hj⟩

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

set_option maxHeartbeats 1600000 in
theorem sound_body (h : CountsLe m) (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA
  rw [scopedRest0_eq]
  iintro ⟨⟨⟨HS0, HS1, HS2, HS3, HS4, HS5, HS6⟩, Hr⟩, Ho, ⟨%d0, H0⟩, ⟨%d1, H1⟩, ⟨%d2, H2⟩, ⟨%d3, H3⟩, ⟨%d4, H4⟩, H5⟩
  iapply (wp_wand_r Idealize.ShloMosaic.frame (wpE (defs₀ (F := F)) 𝒱₀ (c : Thread nD τ) none) Set.univ)
  isplitl [H0 H1 H2 H3 H4 H5 HS0 HS1 HS2 HS3 HS4 HS5 HS6]
  · iapply (sound_kernel c (grid0.coords t) _ _ _ _ _ _ _ _ _ _ _ _ _ _ _ _ _ _ _ _ _ _ _ _ _ _ (iblk m c 0 t) (countOK m h c t) (iblk m c 1 t) (iblk m c 2 t) (iblk m c 3 t) (iblk m c 4 t))
    unfold heldAny heldAt
    simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iexact HS6
  · unfold heldAny heldAt
    simp only [Memref.view_whole, View.set_whole]
    iintro %_ ⟨H0, H1, H2, H3, H4, H5, HS0, HS1, HS2, HS3, HS4, HS5, HS6⟩
    isplitl [HS0 HS1 HS2 HS3 HS4 HS5 HS6 Hr]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (h : CountsLe m) (c : Dev nD) : BodyObligation (dats (F := F) m 0 c) (defs₀ (F := F)) 𝒱₀ () Set.univ fgt := fun t => by
  rw [bigSep_W0, bigSep_W0, defs₀_row]
  exact triple_restated (sound_body m h c t) rfl .rfl fun _ => .rfl

/-! ## The run and the frame -/

set_option backward.isDefEq.respectTransparency.types false in
set_option maxHeartbeats 800000 in
theorem run_forget (h : CountsLe m) : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m h c).loose) (hshare := fun c => (dats m 0 c).share_full fun _ => rfl)
    (howed := fun _ _ => rfl) (V := V m) (hmain := hmain m 𝒱₀) (hA := A_eq m) (hΦ := fun _ _ => rfl)

set_option maxHeartbeats 3200000 in
/-- THE FRAME: from any launch whose counts are at most 36 the run ends with the arguments unchanged and every
    semaphore at zero. -/
theorem frame (h : CountsLe m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c =>
    ⟨(hr.1.arr_in c 0 rfl).trans ((A_eq m c 0).trans (V_main_arg0 m c)),
     (hr.1.arr_in c 1 rfl).trans ((A_eq m c 1).trans (V_main_arg1 m c)),
     (hr.1.arr_in c 2 rfl).trans ((A_eq m c 2).trans (V_main_arg2 m c)),
     ((hr.1 c).2 main_arg3 (Pipeline.mem_restRefs_of main_arg3 (by decide) (by decide))).trans (V_main_arg3 m c)⟩, hr.2⟩) (run_forget m ρ h)

end Cert.Proof.Kernel

end
-- ==== Proof.IdealWords.lean ====
/-
  The words of the group loop of `KernelIdeal`, in closed form: the count read from scalar memory is any word, the main
  loop runs as many trips as its signed value (none for a negative one), the remainder loop runs none, and every
  offset a trip computes names group `k`. The run-time check of the body follows for any count of at most 36.
-/
module

public import proofs.«01_k».proof.Proof.Gen.KernelIdeal.Skeleton
public import Idealize.ShloMosaic.Lib.Affine
public import Idealize.ShloMosaic.Lib.Tactic
public import proofs.«01_k».proof.Proof.KernelWords
@[expose] public section

noncomputable section

namespace Cert.Proof.KernelIdeal

open Cert.KernelIdeal Cert.KernelIdeal.Gen
open Idealize.ShloMosaic
open Affine

variable (v : BitVec 32)

/-- The count less zero is the count. -/
theorem isInt_sub : IsInt (Scalar.subi v 0#32) v.toInt := by
  have hr := word_range v
  exact subi (e := v.toInt) (word v) (ofNat (e := 0) 0 ⟨rfl, by decide⟩) ⟨by omega, by omega, by omega⟩
/-- The main loop's upper bound is the count. -/
theorem isInt_ub : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_sub v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
/-- The remainder loop's upper bound is the count too. -/
theorem isInt_ub3 : IsInt (Scalar.addi 0#32 (Scalar.subi v 0#32)) v.toInt := by
  have hr := word_range v
  exact addi (e := v.toInt) (ofNat (e := 0) 0 ⟨rfl, by decide⟩) (isInt_sub v) ⟨by omega, by omega, by omega⟩

private theorem toInt_of_isInt {x : BitVec 32} {e : Int} (h : IsInt x e) : x.toInt = e := by
  delta Affine.IsInt at h; exact h

/-- The main loop runs `v` trips, `v` read signed (none for a negative count); -/
theorem trips1_eq : (k0_t1_loop v).trips = v.toInt.toNat := by
  show Scf.trips 0#32 (Scalar.addi 0#32 (Scalar.muli (Scalar.divsi (Scalar.subi v 0#32) 1#32) 1#32)) 1#32 = _
  unfold Scf.trips; rw [toInt_of_isInt (isInt_ub v)]; simp
/-- the remainder loop none. -/
theorem trips3_eq : (k0_t3_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_ub v), toInt_of_isInt (isInt_ub3 v)]; simp

theorem trips1_lt (k : Fin (k0_t1_loop v).trips) : (k.val : Int) < 2 ^ 31 := by
  have h := Nat.lt_of_lt_of_eq k.isLt (trips1_eq v); have := word_range v; omega

/-- Trip `k`'s induction variable is `k`. -/
theorem isInt_iv (k : Fin (k0_t1_loop v).trips) : IsInt (Scf.iv 0#32 1#32 k.val) k.val :=
  iv (e := k.val) (ofNat (e := 0) 0 ⟨rfl, by decide⟩) (ofNat (e := 1) 1 ⟨rfl, by decide⟩) k.val ⟨by omega, by omega, trips1_lt v k⟩

/-- The same as an index: its value read unsigned is `k`. -/
theorem ivNat (k : Fin (k0_t1_loop v).trips) : (Scalar.indexCast (Scf.iv 0#32 1#32 k.val)).toNat = k.val := by
  have h := toInt_of_isInt (indexCast (isInt_iv v k))
  have hc := BitVec.toInt_eq_toNat_cond (Scalar.indexCast (Scf.iv 0#32 1#32 k.val)); split at hc <;> omega

variable (k : Fin (k0_t1_loop v).trips)

/-- Trip `k` reads row `k` of the tile indices, -/
theorem off2_eq : k0_off2 v k = ![0, k.val, 0] := congrArg (fun n : ℕ => (![0, n, 0] : Fin 3 → ℕ)) (ivNat v k)
/-- and the nine 16-row components of group `k`. -/
theorem off3_eq : k0_off3 v k = ![0, k.val, 0, 0] := congrArg (fun n : ℕ => (![0, n, 0, 0] : Fin 4 → ℕ)) (ivNat v k)
theorem off4_eq : k0_off4 v k = ![0, k.val, 16, 0] := congrArg (fun n : ℕ => (![0, n, 16, 0] : Fin 4 → ℕ)) (ivNat v k)
theorem off5_eq : k0_off5 v k = ![0, k.val, 32, 0] := congrArg (fun n : ℕ => (![0, n, 32, 0] : Fin 4 → ℕ)) (ivNat v k)
theorem off6_eq : k0_off6 v k = ![0, k.val, 48, 0] := congrArg (fun n : ℕ => (![0, n, 48, 0] : Fin 4 → ℕ)) (ivNat v k)
theorem off7_eq : k0_off7 v k = ![0, k.val, 64, 0] := congrArg (fun n : ℕ => (![0, n, 64, 0] : Fin 4 → ℕ)) (ivNat v k)
theorem off8_eq : k0_off8 v k = ![0, k.val, 80, 0] := congrArg (fun n : ℕ => (![0, n, 80, 0] : Fin 4 → ℕ)) (ivNat v k)
theorem off9_eq : k0_off9 v k = ![0, k.val, 96, 0] := congrArg (fun n : ℕ => (![0, n, 96, 0] : Fin 4 → ℕ)) (ivNat v k)
theorem off10_eq : k0_off10 v k = ![0, k.val, 112, 0] := congrArg (fun n : ℕ => (![0, n, 112, 0] : Fin 4 → ℕ)) (ivNat v k)
theorem off11_eq : k0_off11 v k = ![0, k.val, 128, 0] := congrArg (fun n : ℕ => (![0, n, 128, 0] : Fin 4 → ℕ)) (ivNat v k)

instance : ClosedOff (k0_off2 v k) := ⟨_, off2_eq v k⟩
instance : ClosedOff (k0_off3 v k) := ⟨_, off3_eq v k⟩
instance : ClosedOff (k0_off4 v k) := ⟨_, off4_eq v k⟩
instance : ClosedOff (k0_off5 v k) := ⟨_, off5_eq v k⟩
instance : ClosedOff (k0_off6 v k) := ⟨_, off6_eq v k⟩
instance : ClosedOff (k0_off7 v k) := ⟨_, off7_eq v k⟩
instance : ClosedOff (k0_off8 v k) := ⟨_, off8_eq v k⟩
instance : ClosedOff (k0_off9 v k) := ⟨_, off9_eq v k⟩
instance : ClosedOff (k0_off10 v k) := ⟨_, off10_eq v k⟩
instance : ClosedOff (k0_off11 v k) := ⟨_, off11_eq v k⟩

/-- A `Fin` below the remainder loop's trip count does not exist. -/
theorem no3 {P : Fin (k0_t3_loop v).trips → Prop} : ∀ k, P k := fun k =>
  (Nat.not_lt_zero _ (Nat.lt_of_lt_of_eq k.isLt (trips3_eq v))).elim

/-- THE CHECK of the body holds of every count of at most 36 (read signed). -/
theorem chk_of_le (hv : v.toInt ≤ 36) : k0_chk1 v := by
  have hk : ∀ k : Fin (k0_t1_loop v).trips, k.val < 36 := fun k => by
    have h := Nat.lt_of_lt_of_eq k.isLt (trips1_eq v); omega
  have i3 : ∀ (k : Fin (k0_t1_loop v).trips) (x : ℕ), x ≤ 128 → ∀ a, (![0, k.val, x, 0] : Fin 4 → ℕ) a + S1x1x16x128.size a ≤ S1x36x144x128.size a := by
    intro k x hx a; have := hk k
    fin_cases a
    · show 0 + 1 ≤ 1; omega
    · show k.val + 1 ≤ 36; omega
    · show x + 16 ≤ 144; omega
    · show 0 + 128 ≤ 128; omega
  unfold k0_chk1
  refine ⟨?_, fun k a => ?_, fun k => ?_, fun k => ?_, fun k => ?_, fun k => ?_, fun k => ?_, fun k => ?_, fun k => ?_, fun k => ?_, fun k => ?_,
    ?_, no3 v, no3 v, no3 v, no3 v, no3 v, no3 v, no3 v, no3 v, no3 v, no3 v⟩
  · refine ⟨show 0 < (1#32 : BitVec 32).toInt by decide, ?_⟩
    have := trips1_eq v
    have h1 : ((1#32 : BitVec 32).toInt) = 1 := by decide
    have h0 : ((0#32 : BitVec 32).toInt) = 0 := by decide
    show (0#32 : BitVec 32).toInt + ((k0_t1_loop v).trips : Int) * (1#32 : BitVec 32).toInt < 2 ^ 31
    rw [this, h0, h1]; omega
  · rw [off2_eq]; have := hk k
    fin_cases a
    · show 0 + 1 ≤ 1; omega
    · show k.val + 1 ≤ 36; omega
    · show 0 + 128 ≤ 128; omega
  · rw [off3_eq]; exact i3 k _ (by omega)
  · rw [off4_eq]; exact i3 k _ (by omega)
  · rw [off5_eq]; exact i3 k _ (by omega)
  · rw [off6_eq]; exact i3 k _ (by omega)
  · rw [off7_eq]; exact i3 k _ (by omega)
  · rw [off8_eq]; exact i3 k _ (by omega)
  · rw [off9_eq]; exact i3 k _ (by omega)
  · rw [off10_eq]; exact i3 k _ (by omega)
  · rw [off11_eq]; exact i3 k _ (by omega)
  · refine ⟨show 0 < (1#32 : BitVec 32).toInt by decide, ?_⟩
    have h1 : ((1#32 : BitVec 32).toInt) = 1 := by decide
    have := word_range v
    show (Scalar.addi 0#32 (Scalar.muli (Scalar.divsi (Scalar.subi v 0#32) 1#32) 1#32)).toInt + ((k0_t3_loop v).trips : Int) * (1#32 : BitVec 32).toInt < 2 ^ 31
    rw [trips3_eq, toInt_of_isInt (isInt_ub v)]; simp; omega

end Cert.Proof.KernelIdeal

end
-- ==== Proof.IdealChunk.lean ====
/-
  The chunk loop of `KernelIdeal`, in values: what one trip stores are the front-to-back sums over sixteen splats of the
  thirty-two pixels of its chunk, so that what the eight trips leave is one function of the pixel.
-/
module

public import proofs.«01_k».proof.Proof.Gen.KernelIdeal.Loops
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F] [Named F]

/-! ## Front-to-back blending of one register of pixels -/

/-- What is left of the light behind splats `0 … n`, of opacities `a`. -/
def restV (a : ℕ → FVec F S8x128 .f32) : ℕ → FVec F S8x128 .f32
  | 0 => subf (broadcast S8x128 (Scalar.ofBits .f32 0x3F800000#32)) (a 0)
  | n + 1 => subf (restV a n) (mulf (a (n + 1)) (restV a n))

/-- The sum of the features `f` of splats `0 … n`, each weighted by its opacity and by what is left before it. -/
def accV (a f : ℕ → FVec F S8x128 .f32) : ℕ → FVec F S8x128 .f32
  | 0 => mulf (a 0) (f 0)
  | n + 1 => addf (accV a f n) (mulf (mulf (a (n + 1)) (restV a n)) (f (n + 1)))

/-- What splats `0 … n` take of the light. -/
def spentV (a : ℕ → FVec F S8x128 .f32) : ℕ → FVec F S8x128 .f32
  | 0 => a 0
  | n + 1 => addf (spentV a n) (mulf (a (n + 1)) (restV a n))

/-- The binary logarithm of the light left over, as the kernel takes it: four terms of a series while little is spent. -/
def logRestV (rest spent : FVec F S8x128 .f32) : FVec F S8x128 .f32 :=
  select (cmpf .olt spent (broadcast S8x128 (Named.named κ "series_below" 0x3C800000#32)))
    (mulf (mulf spent (addf (broadcast S8x128 (Scalar.ofBits .f32 0x3F800000#32)) (mulf spent (addf (broadcast S8x128 (Scalar.ofBits .f32 0x3F000000#32))
        (mulf spent (addf (broadcast S8x128 (Scalar.ofBits .f32 0x3EAAAAAB#32)) (mulf spent (broadcast S8x128 (Scalar.ofBits .f32 0x3E800000#32)))))))))
      (broadcast S8x128 (Named.named κ "neg_log2e" 0xBFB8AA3B#32)))
    (mulf (log rest) (broadcast S8x128 (Named.named κ "log2e" 0x3FB8AA3B#32)))

theorem slice_inb (i : Fin 4) (n : ℕ) : S256x256.Slices ![n % 8 * 32 + 8 * i.val, n / 8 % 2 * 128] S8x128 :=
  ⟨rfl, fun a => by
    match a with
    | ⟨0, _⟩ => show n % 8 * 32 + 8 * i.val + 8 ≤ 256; omega
    | ⟨1, _⟩ => show n / 8 % 2 * 128 + 128 ≤ 256; omega⟩

/-- The opacities of splat `n` at the pixels of register `i`, read off the product of the basis and the monomials. -/
def alphaV (s : FVec F S256x256 .f32) (i : Fin 4) (n : ℕ) : FVec F S8x128 .f32 :=
  minimumf (exp2 (extractStridedSlice S8x128 ![n % 8 * 32 + 8 * i.val, n / 8 % 2 * 128] s (slice_inb i n)))
    (broadcast S8x128 (Scalar.ofBits .f32 0x3F7D70A4#32))

theorem feat_inb (c : Fin 4) (n : ℕ) : ∀ a, ![16 * c.val + n % 16, 0] a + S1x128.size a ≤ S64x128.size a := fun a => by
  match a with
  | ⟨0, _⟩ => show 16 * c.val + n % 16 + 1 ≤ 64; omega
  | ⟨1, _⟩ => show 0 + 128 ≤ 128; omega

/-- Feature `c` of splat `n`, the same at every pixel. -/
def featV (arg7 : Memref sig .tc .vmem S64x128 .f32) (X : BufTy.Contents (Elt F) arg7.view.ty) (c : Fin 4) (n : ℕ) : FVec F S8x128 .f32 :=
  broadcastTo S8x128 (shapeCast S1x128 (arg7.view.readAt (Elt F) (Rect.unit (s := S64x128) ![16 * c.val + n % 16, 0] S1x128.size (feat_inb c n)).toLoadRect X)
    shapeCasts_S1x128_S1x128) broadcasts_S1x128_S8x128

section Trip

variable (arg5 : Memref sig .tc .vmem S2048x256 .bf16) (arg7 : Memref sig .tc .vmem S64x128 .f32) (arg9 : Memref sig .tc .vmem S256x256 .bf16)
  (X4 : BufTy.Contents (Elt F) arg5.view.ty) (X6 : BufTy.Contents (Elt F) arg7.view.ty) (X8 : BufTy.Contents (Elt F) arg9.view.ty)
  (k : Fin k0_t2_loop.trips)

/-- The chunk's product of the basis and the monomials. -/
abbrev prodV : FVec F S256x256 .f32 := trip_k0_t2.sl.v470 arg5 arg9 X4 X8 k

/-- Where trip `k` stores register `i` of feature `c`. -/
def offSums (i : Fin 4) : Fin 4 → Fin 3 → ℕ
  | 0 => k0_off14 k (BitVec.ofNat 32 (8 * i.val))
  | 1 => k0_off15 k (BitVec.ofNat 32 (8 * i.val))
  | 2 => k0_off16 k (BitVec.ofNat 32 (8 * i.val))
  | 3 => k0_off17 k (BitVec.ofNat 32 (8 * i.val))

theorem offSums_eq (i c : Fin 4) : offSums k i c = ![c.val, 32 * k.val + 8 * i.val, 0] := by
  match c with
  | 0 => exact k0_off14_eq k i
  | 1 => exact k0_off15_eq k i
  | 2 => exact k0_off16_eq k i
  | 3 => exact k0_off17_eq k i

theorem offSums_inb (i c : Fin 4) : ∀ a, offSums k i c a + S1x8x128.size a ≤ S4x256x128.size a := by
  match c with
  | 0 => exact k0_off14_inb k i
  | 1 => exact k0_off15_inb k i
  | 2 => exact k0_off16_inb k i
  | 3 => exact k0_off17_inb k i

/-- What trip `k` stores of the logarithm of the light left over: register `i`. -/
def piece9 (i : Fin 4) : View.Piece (Elt F) S256x128 .f32 :=
  ⟨Rect.unit (s := S256x128) (k0_off13 k (BitVec.ofNat 32 (8 * i.val))) S8x128.size (k0_off13_inb k i),
    shapeCast S8x128 (logRestV (restV (alphaV (prodV arg5 arg9 X4 X8 k) i) 15) (spentV (alphaV (prodV arg5 arg9 X4 X8 k) i) 15)) shapeCasts_S8x128_S8x128⟩

/-- What trip `k` stores of the sums: register `i` of feature `c`. -/
def piece10 (i c : Fin 4) : View.Piece (Elt F) S4x256x128 .f32 :=
  ⟨Rect.unit (s := S4x256x128) (offSums k i c) S1x8x128.size (offSums_inb k i c),
    shapeCast S1x8x128 (accV (alphaV (prodV arg5 arg9 X4 X8 k) i) (featV arg7 X6 c) 15) shapeCasts_S8x128_S1x8x128⟩

variable (𝒱 : Variants) (c : Dev nD) (bd : Option 𝒱.V) (i : grid0.Coords) (arg1 : Memref sig .tc .smem S64 .i32) (harg1 : arg1.IsWhole)
  (arg2 : Memref sig .tc .vmem S1x36x144x128 .i32) (harg2 : arg2.IsWhole) (arg3 : Memref sig .tc .vmem S1x36x128 .i32) (harg3 : arg3.IsWhole) (arg4 : Memref sig .tc .smem S12 .f32) (harg4 : arg4.IsWhole)
  (harg5 : arg5.IsWhole) (arg6 : Memref sig .tc .vmem S1x5x64x256 .f32) (harg6 : arg6.IsWhole)
  (harg7 : arg7.IsWhole) (arg8 : Memref sig .tc .vmem S64x128 .f32) (harg8 : arg8.IsWhole)
  (harg9 : arg9.IsWhole) (arg10 : Memref sig .tc .vmem S256x128 .f32) (harg10 : arg10.IsWhole)
  (arg11 : Memref sig .tc .vmem S4x256x128 .f32) (harg11 : arg11.IsWhole)
  (arg12 : Memref sig .tc .vmem S256x128 .f32) (harg12 : arg12.IsWhole) (arg13 : Memref sig .tc .vmem S4x256x128 .f32) (harg13 : arg13.IsWhole)
  (v82 : IVec S1x128 32) (a71 a72 : BitVec 32) (acc : BitVec 32)

/-- The pieces of one trip. -/
theorem tripL_eq :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 k acc
      = ([3, 2, 1, 0].map (piece9 arg5 arg9 X4 X8 k),
         [3, 2, 1, 0].flatMap fun i => [3, 2, 1, 0].map fun c => piece10 arg5 arg7 arg9 X4 X6 X8 k i c) := by
  sl_kernel_rfl

end Trip

end Cert.Proof.KernelIdeal

end
-- ==== Proof.IdealChunkValue.lean ====
/-
  The chunk loop of `KernelIdeal` over the reals, pixel by pixel: the pieces of every trip agree with one function of the
  pixel, and the eight trips' pieces cover the two buffers.
-/
module

public import proofs.«01_k».proof.Proof.IdealChunk
public import Idealize.ShloMosaic.Lib.MatmulPlain
public import Idealize.ShloMosaic.Lib.Pipeline.Value
public import Idealize.ShloMosaic.Lib.Writes

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open scoped BigOperators

/-! ## One pixel -/

/-- What is left of the light behind splats `0 … n` at one pixel. -/
def restE (a : ℕ → EReal) : ℕ → EReal
  | 0 => Ideal.ofBits .f32 0x3F800000#32 - a 0
  | n + 1 => restE a n - a (n + 1) * restE a n

/-- The blended feature of splats `0 … n` at one pixel. -/
def accE (a f : ℕ → EReal) : ℕ → EReal
  | 0 => a 0 * f 0
  | n + 1 => accE a f n + a (n + 1) * restE a n * f (n + 1)

theorem restV_apply (a : ℕ → FVec Ideal S8x128 .f32) (x : S8x128.Idx) : ∀ n, restV a n x = restE (fun n => a n x) n
  | 0 => rfl
  | n + 1 => by
    show restV a n x - a (n + 1) x * restV a n x = _
    rw [restV_apply a x n]; rfl

theorem accV_apply (a f : ℕ → FVec Ideal S8x128 .f32) (x : S8x128.Idx) : ∀ n, accV a f n x = accE (fun n => a n x) (fun n => f n x) n
  | 0 => rfl
  | n + 1 => by
    show accV a f n x + a (n + 1) x * restV a n x * f (n + 1) x = _
    rw [restV_apply a x n, accV_apply a f x n]; rfl

/-- The exponent of splat `n` at pixel `r` of lane `l`: a row of the basis times a column of the monomials. -/
def logAlpha (B : S2048x256.Idx → EReal) (R : S256x256.Idx → EReal) (r : Fin 256) (l : Fin 128) (n : ℕ) : EReal :=
  ∑ j : Fin 256, B (ValueIdx.ix2 ⟨256 * (r.val / 32) + (n % 8 * 32 + r.val % 32), by omega⟩ j) * R (ValueIdx.ix2 j ⟨n / 8 % 2 * 128 + l.val, by omega⟩)

/-- The opacity of splat `n` at pixel `r` of lane `l`. -/
def alphaE (B : S2048x256.Idx → EReal) (R : S256x256.Idx → EReal) (r : Fin 256) (l : Fin 128) (n : ℕ) : EReal :=
  min (Ideal.exp2 (logAlpha B R r l n)) (Ideal.ofBits .f32 0x3F7D70A4#32)

/-- Feature `c` of splat `n` in lane `l`. -/
def featE (Φ : S64x128.Idx → EReal) (c : Fin 4) (l : Fin 128) (n : ℕ) : EReal :=
  Φ (ValueIdx.ix2 ⟨16 * c.val + n % 16, by omega⟩ l)

/-- The name "log2e". -/
abbrev log2e : EReal := (((Real.log 2)⁻¹ : ℝ) : EReal)

/-- What the chunk loop leaves of the light: its binary logarithm. -/
def lightC (B : S2048x256.Idx → EReal) (R : S256x256.Idx → EReal) (y : S256x128.Idx) : EReal :=
  Ideal.log (restE (alphaE B R (y 0) (y 1)) 15) * log2e

/-- Nothing lies below the bound of the series, whose name is the least of the extended reals: the kernel's logarithm is
    the logarithm. -/
theorem logRestV_apply (rest spent : FVec Ideal S8x128 .f32) (x : S8x128.Idx) : logRestV rest spent x = Ideal.log (rest x) * log2e := by
  have hb : Named.named (F := Ideal) κ "series_below" (φ := .f32) 0x3C800000#32 = (⊥ : EReal) := IdealRules.named_const.ideal_named_scalar _ _ _ _ rfl
  have hl : Named.named (F := Ideal) κ "log2e" (φ := .f32) 0x3FB8AA3B#32 = log2e := IdealRules.named_const.ideal_named_scalar _ _ _ _ rfl
  have hc : Ideal.cmp .olt (spent x) (Named.named (F := Ideal) κ "series_below" (φ := .f32) 0x3C800000#32) = 0#1 := by
    rw [hb]; simp [Ideal.cmp]
  have hsel : ∀ (t : IVec S8x128 1) (u v : FVec Ideal S8x128 .f32), t x = 0#1 → select t u v x = v x := fun t u v h => by
    show Scalar.select (t x) (u x) (v x) = v x
    rw [h]; rfl
  unfold logRestV
  rw [hsel _ _ _ hc]
  show Ideal.log (rest x) * Named.named (F := Ideal) κ "log2e" (φ := .f32) 0x3FB8AA3B#32 = _
  rw [hl]

/-- What the chunk loop leaves of the sums. -/
def sumsC (B : S2048x256.Idx → EReal) (R : S256x256.Idx → EReal) (Φ : S64x128.Idx → EReal) (y : S4x256x128.Idx) : EReal :=
  accE (alphaE B R (y 1) (y 2)) (featE Φ (y 0) (y 2)) 15

theorem mem_four (i : Fin 4) : i ∈ [(3 : Fin 4), 2, 1, 0] := by revert i; decide

theorem trips2_eq : k0_t2_loop.trips = 8 := by decide

/-- The pieces of all trips, told from the recursion that gathers them. -/
theorem pieces_all {α : Type} (S : ℕ → List α) (P : Fin k0_t2_loop.trips → List α) (h0 : S 0 = [])
    (hs : ∀ k : Fin k0_t2_loop.trips, S (k.val + 1) = P k ++ S k.val) (p : α) : p ∈ S k0_t2_loop.trips ↔ ∃ k, p ∈ P k := by
  have key : ∀ n, n ≤ k0_t2_loop.trips → (p ∈ S n ↔ ∃ k : Fin k0_t2_loop.trips, k.val < n ∧ p ∈ P k) := by
    intro n
    induction n with
    | zero => intro _; rw [h0]; simp
    | succ n ih =>
      intro hn
      rw [hs ⟨n, hn⟩, List.mem_append, ih (by omega)]
      constructor
      · rintro (h | ⟨k, hk, h⟩)
        · exact ⟨⟨n, hn⟩, Nat.lt_succ_self n, h⟩
        · exact ⟨k, by omega, h⟩
      · rintro ⟨k, hk, h⟩
        by_cases e : k.val = n
        · have : k = ⟨n, hn⟩ := Fin.ext e
          subst this; exact .inl h
        · exact .inr ⟨k, by omega, h⟩
  rw [key _ le_rfl]
  exact ⟨fun ⟨k, _, h⟩ => ⟨k, h⟩, fun ⟨k, h⟩ => ⟨k, k.isLt, h⟩⟩

section Trip

variable (arg5 : Memref sig .tc .vmem S2048x256 .bf16) (arg7 : Memref sig .tc .vmem S64x128 .f32) (arg9 : Memref sig .tc .vmem S256x256 .bf16)
  (X4 : BufTy.Contents (Elt Ideal) arg5.view.ty) (X6 : BufTy.Contents (Elt Ideal) arg7.view.ty) (X8 : BufTy.Contents (Elt Ideal) arg9.view.ty)
  (k : Fin k0_t2_loop.trips)

theorem k_lt : k.val < 8 := Nat.lt_of_lt_of_le k.isLt k0_t2_abs.2.1

theorem prodV_apply (p q : Fin 256) :
    prodV (F := Ideal) arg5 arg9 X4 X8 k (ValueIdx.ix2 p q)
      = ∑ j : Fin 256, arg5.view.read (Elt Ideal) X4 (ValueIdx.ix2 ⟨256 * k.val + p.val, by have := k_lt k; omega⟩ j)
          * arg9.view.read (Elt Ideal) X8 (ValueIdx.ix2 j q) := by
  refine (Ideal.matmul_plain_apply (φ₁ := .bf16) (φ₂ := .bf16) none _ _ _ p q).trans ?_
  refine (congrArg (· + _) Ideal.ofBits_zero_f32).trans ?_
  rw [zero_add]
  refine Finset.sum_congr rfl fun j _ => ?_
  congr 1
  · show trip_k0_t2.sl.v468 arg5 X4 k (ValueIdx.ix2 p j) = _
    unfold trip_k0_t2.sl.v468
    rw [shapeCast_self, View.readAt_apply]
    congr 1
    funext a; apply Fin.ext
    match a with
    | ⟨0, _⟩ => show k0_off12 k 0 + 1 * p.val = _
                rw [k0_off12_eq]; show 256 * k.val + 1 * p.val = 256 * k.val + p.val; omega
    | ⟨1, _⟩ => show k0_off12 k 1 + 1 * j.val = _
                rw [k0_off12_eq]; show 0 + 1 * j.val = j.val; omega
  · rw [View.readAt_apply]
    congr 1
    funext a; apply Fin.ext
    match a with
    | ⟨0, _⟩ => show 0 + 1 * j.val = j.val; omega
    | ⟨1, _⟩ => show 0 + 1 * q.val = q.val; omega

theorem alphaV_apply (i : Fin 4) (n : ℕ) (x : S8x128.Idx) (r : Fin 256) (hr : r.val = 32 * k.val + 8 * i.val + (x 0).val) :
    alphaV (prodV (F := Ideal) arg5 arg9 X4 X8 k) i n x
      = alphaE (arg5.view.read (Elt Ideal) X4) (arg9.view.read (Elt Ideal) X8) r (x 1) n := by
  have hx0 : (x 0).val < 8 := (x 0).isLt
  have hx1 : (x 1).val < 128 := (x 1).isLt
  have hk := k_lt k
  unfold alphaV alphaE logAlpha
  show min (Ideal.exp2 (extractStridedSlice S8x128 _ _ _ x)) _ = _
  rw [extractStridedSlice_apply _ _ _ _ (ValueIdx.ix2 ⟨n % 8 * 32 + 8 * i.val + (x 0).val, by omega⟩ ⟨n / 8 % 2 * 128 + (x 1).val, by omega⟩)
    (fun a => by match a with | ⟨0, _⟩ => rfl | ⟨1, _⟩ => rfl)]
  rw [prodV_apply]
  refine congrArg (fun t => min (Ideal.exp2 t) (Ideal.ofBits .f32 0x3F7D70A4#32)) (Finset.sum_congr rfl fun j _ => ?_)
  congr 2
  funext a; apply Fin.ext
  match a with
  | ⟨0, _⟩ => show 256 * k.val + (n % 8 * 32 + 8 * i.val + (x 0).val) = 256 * (r.val / 32) + (n % 8 * 32 + r.val % 32); omega
  | ⟨1, _⟩ => rfl

theorem featV_apply (c : Fin 4) (n : ℕ) (x : S8x128.Idx) :
    featV (F := Ideal) arg7 X6 c n x = featE (arg7.view.read (Elt Ideal) X6) c (x 1) n := by
  unfold featV featE
  refine (broadcastTo_apply _ _ _ (ValueIdx.ix2 0 (x 1)) (fun a => by match a with | ⟨0, _⟩ => rfl | ⟨1, _⟩ => rfl)).trans ?_
  refine (congrFun (shapeCast_self _ _) _).trans ?_
  refine (View.readAt_apply _ _ _).trans (congrArg _ ?_)
  funext a; apply Fin.ext
  match a with
  | ⟨0, _⟩ => show 16 * c.val + n % 16 + 1 * 0 = _; rfl
  | ⟨1, _⟩ => show 0 + 1 * (x 1).val = (x 1).val; omega

theorem piece9_agrees (i : Fin 4) (x : S8x128.Idx) :
    (piece9 (F := Ideal) arg5 arg9 X4 X8 k i).2 x
      = lightC (arg5.view.read (Elt Ideal) X4) (arg9.view.read (Elt Ideal) X8) ((piece9 (F := Ideal) arg5 arg9 X4 X8 k i).1.emb x) := by
  have h0 : (((piece9 (F := Ideal) arg5 arg9 X4 X8 k i).1.emb x) 0).val = 32 * k.val + 8 * i.val + (x 0).val := by
    show k0_off13 k (BitVec.ofNat 32 (8 * i.val)) 0 + 1 * (x 0).val = _
    rw [k0_off13_eq]; show 32 * k.val + 8 * i.val + 1 * (x 0).val = _; omega
  have h1 : ((piece9 (F := Ideal) arg5 arg9 X4 X8 k i).1.emb x) 1 = x 1 := by
    apply Fin.ext
    show k0_off13 k (BitVec.ofNat 32 (8 * i.val)) 1 + 1 * (x 1).val = _
    rw [k0_off13_eq]; show 0 + 1 * (x 1).val = _; omega
  unfold lightC
  rw [h1]
  show shapeCast S8x128 (logRestV (restV (alphaV (prodV (F := Ideal) arg5 arg9 X4 X8 k) i) 15) (spentV (alphaV (prodV (F := Ideal) arg5 arg9 X4 X8 k) i) 15)) shapeCasts_S8x128_S8x128 x = _
  rw [shapeCast_self, logRestV_apply, restV_apply]
  refine congrArg (fun a => Ideal.log (restE a 15) * log2e) ?_
  funext n
  exact alphaV_apply arg5 arg9 X4 X8 k i n x _ h0

theorem piece10_agrees (i c : Fin 4) (x : S1x8x128.Idx) :
    (piece10 (F := Ideal) arg5 arg7 arg9 X4 X6 X8 k i c).2 x
      = sumsC (arg5.view.read (Elt Ideal) X4) (arg9.view.read (Elt Ideal) X8) (arg7.view.read (Elt Ideal) X6)
          ((piece10 (F := Ideal) arg5 arg7 arg9 X4 X6 X8 k i c).1.emb x) := by
  have hx : (x 0).val = 0 := by have := (x 0).isLt; change (x 0).val < 1 at this; omega
  have h0 : ((piece10 (F := Ideal) arg5 arg7 arg9 X4 X6 X8 k i c).1.emb x) 0 = c := by
    apply Fin.ext
    show offSums k i c 0 + 1 * (x 0).val = _
    rw [offSums_eq, hx]; rfl
  have h1 : (((piece10 (F := Ideal) arg5 arg7 arg9 X4 X6 X8 k i c).1.emb x) 1).val = 32 * k.val + 8 * i.val + (x 1).val := by
    show offSums k i c 1 + 1 * (x 1).val = _
    rw [offSums_eq]; show 32 * k.val + 8 * i.val + 1 * (x 1).val = _; omega
  have h2 : ((piece10 (F := Ideal) arg5 arg7 arg9 X4 X6 X8 k i c).1.emb x) 2 = x 2 := by
    apply Fin.ext
    show offSums k i c 2 + 1 * (x 2).val = _
    rw [offSums_eq]; show 0 + 1 * (x 2).val = _; omega
  unfold sumsC
  rw [h0, h2]
  show shapeCast S1x8x128 (accV (alphaV (prodV (F := Ideal) arg5 arg9 X4 X8 k) i) (featV (F := Ideal) arg7 X6 c) 15) shapeCasts_S8x128_S1x8x128 x = _
  refine (shapeCast_apply _ _ _ (ValueIdx.ix2 (x 1) (x 2)) (by
    rw [Shape.rowMajor_val_two, Shape.rowMajor_val_three]
    show (x 1).val * 128 + (x 2).val = ((x 0).val * 8 + (x 1).val) * 128 + (x 2).val
    omega)).trans ((accV_apply _ _ _ _).trans ?_)
  congr 1
  · funext n
    exact alphaV_apply arg5 arg9 X4 X8 k i n _ _ h1
  · funext n
    exact featV_apply arg7 X6 c n _

theorem piece10_mem (i c : Fin 4) (y : S4x256x128.Idx) (h0 : (y 0).val = c.val) (h1 : 32 * k.val + 8 * i.val ≤ (y 1).val)
    (h2 : (y 1).val < 32 * k.val + 8 * i.val + 8) : y ∈ (piece10 (F := Ideal) arg5 arg7 arg9 X4 X6 X8 k i c).1.set := by
  unfold piece10
  rw [Rect.mem_set_unit]
  intro a
  rw [offSums_eq]
  match a with
  | ⟨0, _⟩ => exact ⟨h0.ge, by show (y 0).val < c.val + 1; omega⟩
  | ⟨1, _⟩ => exact ⟨h1, h2⟩
  | ⟨2, _⟩ => exact ⟨Nat.zero_le _, by have := (y 2).isLt; show (y 2).val < 0 + 128; change (y 2).val < 128 at this; omega⟩

variable (𝒱 : Variants) (c : Dev nD) (bd : Option 𝒱.V) (i : grid0.Coords) (arg1 : Memref sig .tc .smem S64 .i32) (harg1 : arg1.IsWhole)
  (arg2 : Memref sig .tc .vmem S1x36x144x128 .i32) (harg2 : arg2.IsWhole) (arg3 : Memref sig .tc .vmem S1x36x128 .i32) (harg3 : arg3.IsWhole) (arg4 : Memref sig .tc .smem S12 .f32) (harg4 : arg4.IsWhole)
  (harg5 : arg5.IsWhole) (arg6 : Memref sig .tc .vmem S1x5x64x256 .f32) (harg6 : arg6.IsWhole)
  (harg7 : arg7.IsWhole) (arg8 : Memref sig .tc .vmem S64x128 .f32) (harg8 : arg8.IsWhole)
  (harg9 : arg9.IsWhole) (arg10 : Memref sig .tc .vmem S256x128 .f32) (harg10 : arg10.IsWhole)
  (arg11 : Memref sig .tc .vmem S4x256x128 .f32) (harg11 : arg11.IsWhole)
  (arg12 : Memref sig .tc .vmem S256x128 .f32) (harg12 : arg12.IsWhole) (arg13 : Memref sig .tc .vmem S4x256x128 .f32) (harg13 : arg13.IsWhole)
  (v82 : IVec S1x128 32) (a71 a72 : BitVec 32) (init : BitVec 32)

/-- Every trip adds its pieces in front of those of the trips before it. -/
theorem st_succ (k : Fin k0_t2_loop.trips) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init (k.val + 1)).2
      = ([3, 2, 1, 0].map (piece9 arg5 arg9 X4 X8 k)
          ++ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init k.val).2.1,
        ([3, 2, 1, 0].flatMap fun i => [3, 2, 1, 0].map fun c => piece10 arg5 arg7 arg9 X4 X6 X8 k i c)
          ++ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init k.val).2.2) := by
  rw [st_k0_t2_succ, tripL_eq]

/-- What the eight trips leave, whatever the buffers held before. -/
theorem chunks_leave (f9 : BufTy.Contents (Elt Ideal) arg10.view.ty) (f10 : BufTy.Contents (Elt Ideal) arg11.view.ty) :
    arg10.view.read (Elt Ideal) (arg10.view.writes (Elt Ideal) f9 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init k0_t2_loop.trips).2.1)
      = lightC (arg5.view.read (Elt Ideal) X4) (arg9.view.read (Elt Ideal) X8)
    ∧ arg11.view.read (Elt Ideal) (arg11.view.writes (Elt Ideal) f10 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init k0_t2_loop.trips).2.2)
      = sumsC (arg5.view.read (Elt Ideal) X4) (arg9.view.read (Elt Ideal) X8) (arg7.view.read (Elt Ideal) X6) := by
  have hst := st_succ arg5 arg7 arg9 X4 X6 X8 𝒱 c bd i arg1 harg1 arg2 harg2 arg3 harg3 arg4 harg4 harg5 arg6 harg6 harg7 arg8 harg8 harg9 arg10 harg10 arg11 harg11 arg12 harg12 arg13 harg13 v82 a71 a72 init
  have h9 := pieces_all (fun n => (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init n).2.1) (fun k => [3, 2, 1, 0].map (piece9 arg5 arg9 X4 X8 k)) rfl
    (fun k => congrArg Prod.fst (hst k))
  have h10 := pieces_all (fun n => (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 v82 a71 a72 X4 X6 X8 init n).2.2)
    (fun k => [3, 2, 1, 0].flatMap fun i => [3, 2, 1, 0].map fun c => piece10 arg5 arg7 arg9 X4 X6 X8 k i c) rfl
    (fun k => congrArg Prod.snd (hst k))
  constructor
  · funext y
    have hy : (y 0).val < 256 := (y 0).isLt
    refine View.read_writes_apply_of_pieces _ _ _ _ (fun p hp x => ?_) y ?_
    · obtain ⟨k, hk⟩ := (h9 p).mp hp
      simp only [List.mem_map] at hk
      obtain ⟨i, -, rfl⟩ := hk
      exact piece9_agrees arg5 arg9 X4 X8 k i x
    · refine ⟨piece9 arg5 arg9 X4 X8 ⟨(y 0).val / 32, by rw [trips2_eq]; omega⟩ ⟨(y 0).val % 32 / 8, by omega⟩,
        (h9 _).mpr ⟨_, List.mem_map_of_mem (mem_four _)⟩, ?_⟩
      unfold piece9
      rw [Rect.mem_set_unit]
      intro a
      rw [k0_off13_eq]
      match a with
      | ⟨0, _⟩ => show 32 * ((y 0).val / 32) + 8 * ((y 0).val % 32 / 8) ≤ (y 0).val ∧ (y 0).val < 32 * ((y 0).val / 32) + 8 * ((y 0).val % 32 / 8) + 8; omega
      | ⟨1, _⟩ => exact ⟨Nat.zero_le _, by have := (y 1).isLt; show (y 1).val < 0 + 128; change (y 1).val < 128 at this; omega⟩
  · funext y
    have hy : (y 1).val < 256 := (y 1).isLt
    refine View.read_writes_apply_of_pieces _ _ _ _ (fun p hp x => ?_) y ?_
    · obtain ⟨k, hk⟩ := (h10 p).mp hp
      simp only [List.mem_flatMap, List.mem_map] at hk
      obtain ⟨i, -, c, -, rfl⟩ := hk
      exact piece10_agrees arg5 arg7 arg9 X4 X6 X8 k i c x
    · refine ⟨piece10 arg5 arg7 arg9 X4 X6 X8 ⟨(y 1).val / 32, by rw [trips2_eq]; omega⟩ ⟨(y 1).val % 32 / 8, by omega⟩ (y 0),
        (h10 _).mpr ⟨_, List.mem_flatMap.mpr ⟨_, mem_four _, List.mem_map_of_mem (mem_four _)⟩⟩, ?_⟩
      exact piece10_mem arg5 arg7 arg9 X4 X6 X8 _ _ _ y rfl (by show 32 * ((y 1).val / 32) + 8 * ((y 1).val % 32 / 8) ≤ (y 1).val; omega) (by show (y 1).val < 32 * ((y 1).val / 32) + 8 * ((y 1).val % 32 / 8) + 8; omega)

end Trip

end Cert.Proof.KernelIdeal

end
-- ==== Proof.IdealRows.lean ====
/-
  What one group's trip of `KernelIdeal` lays into its scratch buffers, as functions of the group's words: the rows of
  log-alpha coefficients (six coefficients, each cut into three pieces whose sum it is, each piece's sixteen rows folded
  into eight rows of two halves) and the features (three decoded colours times a scale, and the depth word).
-/
module

public import proofs.«01_k».proof.Proof.IdealChunkValue

@[expose] public section

set_option maxRecDepth 16384

noncomputable section

namespace Cert.Proof.KernelIdeal

open Cert.KernelIdeal Cert.KernelIdeal.Gen
open Idealize.ShloMosaic Idealize.ShloMosaic.Tactic

section Rows

variable (T : Vec Ideal S1x1x128 .i32) (L : Fin 9 → Vec Ideal S1x1x16x128 .i32)

/-- The six coefficients of a group, in the kernel's order: constant, x, y, xx, xy, yy. -/
def monoV : Fin 6 → FVec Ideal S16x128 .f32
  | 0 => k0_pay550 (k0_pay545 T (L 0)) (k0_pay546 T (L 1)) (k0_pay547 (L 2)) (L 3) (L 4) (L 5)
  | 1 => k0_pay551 (k0_pay545 T (L 0)) (k0_pay546 T (L 1)) (k0_pay547 (L 2)) (L 3)
  | 2 => k0_pay552 (k0_pay545 T (L 0)) (k0_pay546 T (L 1)) (L 3) (L 4)
  | 3 => k0_pay553 (k0_pay547 (L 2))
  | 4 => k0_pay554 (L 3)
  | 5 => k0_pay555 (k0_pay549 (L 4)) (Named.named κ "neg_half_log2e" 0xBF38AA3B#32)

/-- The three pieces of a coefficient: itself, what is left, and what is then left. -/
def cutV (v : FVec Ideal S16x128 .f32) : Fin 3 → FVec Ideal S16x128 .f32
  | 0 => v
  | 1 => subf v v
  | 2 => subf (subf v v) (subf v v)

/-- Sixteen rows folded into eight: the later eight beside the earlier. -/
def foldV (v : FVec Ideal S16x128 .f32) : FVec Ideal S8x256 .f32 :=
  concatenate S8x256 1 [⟨S8x128, extractStridedSlice S8x128 ![0, 0] v slices_S16x128_o0_0_S8x128⟩,
    ⟨S8x128, extractStridedSlice S8x128 ![8, 0] v slices_S16x128_o8_0_S8x128⟩] concatenates_S8x128_S8x128_S8x256_d1

def rowPart (n : Fin 18) : FVec Ideal S8x256 .f32 :=
  foldV (cutV (monoV T L ⟨n.val / 3, by omega⟩) ⟨n.val % 3, by omega⟩)

/-- The rows of coefficients. -/
def rowsV : S144x256.Idx → EReal :=
  concatenate S144x256 0 (List.ofFn fun n : Fin 18 => (⟨S8x256, rowPart T L n⟩ : (s : Shape) × (s.Idx → EReal))) (by
    exact concatenates_S8x256_S8x256_S8x256_S8x256_S8x256_S8x256_S8x256_S8x256_S8x256_S8x256_S8x256_S8x256_S8x256_S8x256_S8x256_S8x256_S8x256_S8x256_S144x256_d0)

theorem foldV_apply (v : FVec Ideal S16x128 .f32) (e : Fin 8) (q : Fin 256) :
    foldV v (ValueIdx.ix2 e q) = v (ValueIdx.ix2 ⟨8 * (q.val / 128) + e.val, by omega⟩ ⟨q.val % 128, Nat.mod_lt _ (by omega)⟩) := by
  unfold foldV
  by_cases hq : q.val < 128
  · refine (concatenate_pair_apply_left (t := S8x256) (s₁ := S8x128) (s₂ := S8x128) (1 : Fin 2) _ _ concatenates_S8x128_S8x128_S8x256_d1 (ValueIdx.ix2 e q) rfl
      (ValueIdx.ix2 e ⟨q.val, hq⟩) (fun a => by match a with | ⟨0, _⟩ => rfl | ⟨1, _⟩ => rfl)).trans ?_
    refine (extractStridedSlice_apply _ _ _ _ (ValueIdx.ix2 ⟨8 * (q.val / 128) + e.val, by omega⟩ ⟨q.val % 128, Nat.mod_lt _ (by omega)⟩) (fun a => ?_))
    match a with
    | ⟨0, _⟩ => show 8 * (q.val / 128) + e.val = 0 + e.val; omega
    | ⟨1, _⟩ => show q.val % 128 = 0 + q.val; omega
  · refine (concatenate_pair_apply_right (t := S8x256) (s₁ := S8x128) (s₂ := S8x128) (1 : Fin 2) _ _ concatenates_S8x128_S8x128_S8x256_d1 (ValueIdx.ix2 e q) rfl rfl
      (ValueIdx.ix2 e ⟨q.val - 128, by omega⟩) (fun a => by match a with | ⟨0, _⟩ => exact fun _ => rfl | ⟨1, _⟩ => exact fun h => absurd rfl h)
        (by show q.val - 128 + 128 = q.val; omega)).trans ?_
    refine (extractStridedSlice_apply _ _ _ _ (ValueIdx.ix2 ⟨8 * (q.val / 128) + e.val, by omega⟩ ⟨q.val % 128, Nat.mod_lt _ (by omega)⟩) (fun a => ?_))
    match a with
    | ⟨0, _⟩ => show 8 * (q.val / 128) + e.val = 8 + e.val; omega
    | ⟨1, _⟩ => show q.val % 128 = 0 + (q.val - 128); omega

theorem rowsV_apply (j : Fin 144) (q : Fin 256) :
    rowsV T L (ValueIdx.ix2 j q) = cutV (monoV T L ⟨j.val / 24, by omega⟩) ⟨j.val / 8 % 3, by omega⟩
      (ValueIdx.ix2 ⟨8 * (q.val / 128) + j.val % 8, by omega⟩ ⟨q.val % 128, Nat.mod_lt _ (by omega)⟩) := by
  unfold rowsV
  refine (concatenate_ofFn_apply (t := S144x256) (s₁ := S8x256) (0 : Fin 2) (rowPart T L) _ rfl 8 rfl (ValueIdx.ix2 j q) ⟨j.val / 8, by omega⟩ rfl
    (ValueIdx.ix2 ⟨j.val % 8, by omega⟩ q) rfl (fun b => by match b with | ⟨0, _⟩ => exact fun h => absurd rfl h | ⟨1, _⟩ => exact fun _ => rfl)).trans ?_
  unfold rowPart
  rw [foldV_apply]
  have h : j.val / 8 / 3 = j.val / 24 := by omega
  simp only [h]

/-- The features: rows 0 to 47 the three colours, a colour's sixteen splats together, rows 48 to 63 the depths. -/
def featsV : S64x128.Idx → EReal := fun y =>
  if h : (y 0).val < 48 then
    k0_pay578 (L 6) (ValueIdx.ix2 ⟨4 * ((y 0).val % 16) + (y 0).val / 16, by omega⟩ ⟨(y 1).val, (y 1).isLt⟩)
      * k0_pay580 (L 7) (ValueIdx.ix2 ⟨(y 0).val % 16, by omega⟩ ⟨(y 1).val, (y 1).isLt⟩)
  else k0_pay580 (L 8) (ValueIdx.ix2 ⟨(y 0).val % 16, by omega⟩ ⟨(y 1).val, (y 1).isLt⟩)

end Rows

/-- Component `c` of group `g`: sixteen rows of words. -/
def ldW (W : S1x36x144x128.Idx → BitVec 32) (g : Fin 36) (c : Fin 9) : Vec Ideal S1x1x16x128 .i32 := fun x =>
  W (ValueIdx.ix4 0 g ⟨16 * c.val + (x 2).val, by have : (x 2).val < 16 := (x 2).isLt; omega⟩ ⟨(x 3).val, (x 3).isLt⟩)
/-- The tile numbers of group `g`. -/
def ldT (T : S1x36x128.Idx → BitVec 32) (g : Fin 36) : Vec Ideal S1x1x128 .i32 := fun x => T (ValueIdx.ix3 0 g ⟨(x 2).val, (x 2).isLt⟩)

/-- The right operand of the chunk products of group `g`: the rows of coefficients, the rest zero. -/
def rhsE (W : S1x36x144x128.Idx → BitVec 32) (T : S1x36x128.Idx → BitVec 32) (g : Fin 36) : S256x256.Idx → EReal := fun y =>
  if h : (y 0).val < 144 then rowsV (ldT T g) (ldW W g) (ValueIdx.ix2 ⟨(y 0).val, h⟩ ⟨(y 1).val, (y 1).isLt⟩) else 0

/-- What the kernel leaves for group `g`: four weighted sums and the light left, for every pixel and lane. -/
def groupE (B : S2048x256.Idx → EReal) (W : S1x36x144x128.Idx → BitVec 32) (T : S1x36x128.Idx → BitVec 32) (g : Fin 36)
    (p : Fin 5) (r : Fin 256) (l : Fin 128) : EReal :=
  if h : p.val < 4 then sumsC B (rhsE W T g) (featsV (ldW W g)) (ValueIdx.ix3 ⟨p.val, h⟩ r l) else lightC B (rhsE W T g) (ValueIdx.ix2 r l)

end Cert.Proof.KernelIdeal

end
-- ==== Proof.IdealTrip.lean ====
/-
  One trip of the group loop of `KernelIdeal` by value: if the rows of the right operand that no trip writes hold zero and
  the two running buffers hold what `LTn` and `OSn` say of the groups before the trip, then after the trip they hold what
  these say of one group more. The loop's invariant follows.
-/
module

public import proofs.«01_k».proof.Proof.KernelFrame
public import proofs.«01_k».proof.Proof.IdealWords
public import proofs.«01_k».proof.Proof.IdealRows
public import proofs.«01_k».proof.Proof.Gen.KernelIdeal.Frame
public import Idealize.ShloMosaic.Lib.WritesUnit
public import proofs.«01_k».proof.Proof.Gen.KernelIdeal.Loops
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ
abbrev 𝒱₀ : Variants := Variants.none

variable (c : Dev nD) (i : grid0.Coords) (arg1 : Memref sig .tc .smem S64 .i32) (harg1 : arg1.IsWhole)
  (arg2 : Memref sig .tc .vmem S1x36x144x128 .i32) (harg2 : arg2.IsWhole) (arg3 : Memref sig .tc .vmem S1x36x128 .i32) (harg3 : arg3.IsWhole) (arg4 : Memref sig .tc .smem S12 .f32) (harg4 : arg4.IsWhole)
  (arg5 : Memref sig .tc .vmem S2048x256 .bf16) (harg5 : arg5.IsWhole) (arg6 : Memref sig .tc .vmem S1x5x64x256 .f32) (harg6 : arg6.IsWhole)
  (arg7 : Memref sig .tc .vmem S64x128 .f32) (harg7 : arg7.IsWhole) (arg8 : Memref sig .tc .vmem S64x128 .f32) (harg8 : arg8.IsWhole)
  (arg9 : Memref sig .tc .vmem S256x256 .bf16) (harg9 : arg9.IsWhole) (arg10 : Memref sig .tc .vmem S256x128 .f32) (harg10 : arg10.IsWhole)
  (arg11 : Memref sig .tc .vmem S4x256x128 .f32) (harg11 : arg11.IsWhole)
  (arg12 : Memref sig .tc .vmem S256x128 .f32) (harg12 : arg12.IsWhole) (arg13 : Memref sig .tc .vmem S4x256x128 .f32) (harg13 : arg13.IsWhole)

/-- A memref's buffer held whole at the contents `f`. -/
abbrev heldAt {sp : Space} {s : Shape} {e : EltTy} (c : Dev nD) (a : Memref sig .tc sp s e) (f : BufTy.Contents (Elt Ideal) a.view.ty) : sProp 𝕄 :=
  a.view.loc (c : Thread nD τ) ↦[a.view.set]{fullShare} f
/-- A memref's buffer held whole at some contents. -/
abbrev heldAny {sp : Space} {s : Shape} {e : EltTy} (c : Dev nD) (a : Memref sig .tc sp s e) : sProp 𝕄 := iprop(∃ f, heldAt c a f)

section Contents

variable (X2 : BufTy.Contents (Elt Ideal) arg2.view.ty) (X3 : BufTy.Contents (Elt Ideal) arg3.view.ty) (X4 : BufTy.Contents (Elt Ideal) arg5.view.ty)

/-- The rows of the right operand that no trip writes hold zero. -/
def RestZero (f8 : BufTy.Contents (Elt Ideal) arg9.view.ty) : Prop :=
  ∀ y : S256x256.Idx, 144 ≤ (y 0).val → arg9.view.read (Elt Ideal) f8 y = (0 : EReal)

/-- Laying the rows of coefficients into the operand makes it what `rhsE` says. -/
theorem rhs_read (f8 : BufTy.Contents (Elt Ideal) arg9.view.ty) (h8 : RestZero arg9 f8) (W : S1x36x144x128.Idx → BitVec 32) (T : S1x36x128.Idx → BitVec 32)
    (g : Fin 36) (inb) (v : S144x256.Idx → EReal) (hv : v = rowsV (ldT T g) (ldW W g)) :
    arg9.view.read (Elt Ideal) (arg9.view.writes (Elt Ideal) f8 [⟨Rect.unit (s := S256x256) ![0, 0] S144x256.size inb, v⟩]) = rhsE W T g := by
  subst hv
  funext y
  unfold rhsE
  by_cases hy : (y 0).val < 144
  · rw [dif_pos hy]
    refine View.read_writes_cons_unit_of_mem arg9.view f8 inb _ [] y (ValueIdx.ix2 ⟨(y 0).val, hy⟩ ⟨(y 1).val, (y 1).isLt⟩) rfl (fun a => ?_)
    match a with
    | ⟨0, _⟩ => exact (Nat.zero_add _).symm
    | ⟨1, _⟩ => exact (Nat.zero_add _).symm
  · rw [dif_neg hy, View.read_writes_apply_of_forall_not_mem]
    · exact h8 y (by omega)
    · intro p hp
      rw [List.mem_singleton] at hp
      subst hp
      intro hm
      rw [Rect.mem_set_unit] at hm
      have h2 := (hm 0).2
      exact hy (by change (y 0).val < 0 + 144 at h2; omega)

/-- The rows no trip writes still hold zero afterwards. -/
theorem rest_kept (f8 : BufTy.Contents (Elt Ideal) arg9.view.ty) (h8 : RestZero arg9 f8) (inb) (v : S144x256.Idx → EReal) :
    RestZero arg9 (arg9.view.writes (Elt Ideal) f8 [⟨Rect.unit (s := S256x256) ![0, 0] S144x256.size inb, v⟩]) := by
  intro y hy
  rw [View.read_writes_apply_of_forall_not_mem]
  · exact h8 y hy
  · intro p hp
    rw [List.mem_singleton] at hp
    subst hp
    intro hm
    rw [Rect.mem_set_unit] at hm
    have h2 := (hm 0).2
    change (y 0).val < 0 + 144 at h2; omega

/-- A load of sixteen rows is a component of the group. -/
theorem ld_eq (g : Fin 36) (cc : Fin 9) (off : Fin 4 → ℕ) (inb) (ho : off = ![0, g.val, 16 * cc.val, 0]) :
    View.readAt (Elt Ideal) arg2.view (Rect.unit (s := S1x36x144x128) off S1x1x16x128.size inb).toLoadRect X2
      = ldW (arg2.view.read (Elt Ideal) X2) g cc := by
  subst ho
  funext x
  refine (View.readAt_apply _ _ _).trans (congrArg _ ?_)
  funext a; apply Fin.ext
  match a with
  | ⟨0, _⟩ => show 0 + 1 * (x 0).val = 0; have := (x 0).isLt; change (x 0).val < 1 at this; omega
  | ⟨1, _⟩ => show g.val + 1 * (x 1).val = g.val; have := (x 1).isLt; change (x 1).val < 1 at this; omega
  | ⟨2, _⟩ => show 16 * cc.val + 1 * (x 2).val = 16 * cc.val + (x 2).val; omega
  | ⟨3, _⟩ => show 0 + 1 * (x 3).val = (x 3).val; omega

theorem ldT_eq (g : Fin 36) (off : Fin 3 → ℕ) (inb) (ho : off = ![0, g.val, 0]) :
    View.readAt (Elt Ideal) arg3.view (Rect.unit (s := S1x36x128) off S1x1x128.size inb).toLoadRect X3
      = ldT (arg3.view.read (Elt Ideal) X3) g := by
  subst ho
  funext x
  refine (View.readAt_apply _ _ _).trans (congrArg _ ?_)
  funext a; apply Fin.ext
  match a with
  | ⟨0, _⟩ => show 0 + 1 * (x 0).val = 0; have := (x 0).isLt; change (x 0).val < 1 at this; omega
  | ⟨1, _⟩ => show g.val + 1 * (x 1).val = g.val; have := (x 1).isLt; change (x 1).val < 1 at this; omega
  | ⟨2, _⟩ => show 0 + 1 * (x 2).val = (x 2).val; omega

/-- A strided read of the decoded bytes: a colour's sixteen rows. -/
theorem code_read (W6 : Vec Ideal S1x1x16x128 .i32) (n : ℕ) (hn : n < 3) (inb0) (inb) (x : S16x128.Idx) :
    arg8.view.readCov [(⟨Rect.unit (s := S64x128) ![0, 0] ![64, 128] inb0, k0_pay579 (k0_pay578 W6)⟩ : View.Piece (Elt Ideal) S64x128 .f32)]
        { off := ![n, 0], size := S16x128.size, stride := ![4, 1], inb := inb } x
      = k0_pay578 W6 (ValueIdx.ix2 ⟨4 * (x 0).val + n, by have : (x 0).val < 16 := (x 0).isLt; omega⟩ ⟨(x 1).val, (x 1).isLt⟩) := by
  have h0 : (x 0).val < 16 := (x 0).isLt
  refine (View.readAt_apply _ _ _).trans ?_
  refine (View.read_writes_cons_unit_of_mem arg8.view _ inb0 _ [] _ (ValueIdx.ix2 ⟨4 * (x 0).val + n, by omega⟩ ⟨(x 1).val, (x 1).isLt⟩) rfl (fun a => ?_)).trans ?_
  · match a with
    | ⟨0, _⟩ => show n + 4 * (x 0).val = 0 + (4 * (x 0).val + n); omega
    | ⟨1, _⟩ => show 0 + 1 * (x 1).val = 0 + (x 1).val; omega
  · exact congrFun (shapeCast_self (k0_pay578 W6) shapeCasts_S64x128_S64x128) _

theorem pay519_apply (W7 : Vec Ideal S1x1x16x128 .i32) (k : Fin 16) (l : Fin 128) :
    k0_pay580 W7 (ValueIdx.ix2 k l) = Ideal.ofBits .f32 (W7 (ValueIdx.ix4 0 0 k l)) := by
  refine congrArg (Ideal.ofBits .f32) (shapeCast_apply _ _ _ (ValueIdx.ix4 0 0 k l) ?_)
  rw [Shape.rowMajor_val_two, Shape.rowMajor_val_four]
  show ((0 * 1 + 0) * 16 + k.val) * 128 + l.val = k.val * 128 + l.val
  omega

theorem featsV_row (L : Fin 9 → Vec Ideal S1x1x16x128 .i32) (y : S64x128.Idx) (n : Fin 3) (x : S16x128.Idx) (h0 : (y 0).val = 16 * n.val + (x 0).val)
    (h1 : (y 1).val = (x 1).val) :
    featsV L y = k0_pay578 (L 6) (ValueIdx.ix2 ⟨4 * (x 0).val + n.val, by have : (x 0).val < 16 := (x 0).isLt; omega⟩ ⟨(x 1).val, (x 1).isLt⟩) * k0_pay580 (L 7) x := by
  have hx : (x 0).val < 16 := (x 0).isLt
  unfold featsV
  rw [dif_pos (by omega)]
  congr 2
  · congr 1 <;> apply Fin.ext
    · show 4 * ((y 0).val % 16) + (y 0).val / 16 = 4 * (x 0).val + n.val; omega
    · exact h1
  · funext a; apply Fin.ext
    match a with
    | ⟨0, _⟩ => show (y 0).val % 16 = (x 0).val; omega
    | ⟨1, _⟩ => exact h1

theorem featsV_row3 (L : Fin 9 → Vec Ideal S1x1x16x128 .i32) (y : S64x128.Idx) (x : S16x128.Idx) (h0 : (y 0).val = 48 + (x 0).val)
    (h1 : (y 1).val = (x 1).val) : featsV L y = k0_pay580 (L 8) x := by
  have hx : (x 0).val < 16 := (x 0).isLt
  unfold featsV
  rw [dif_neg (by omega)]
  congr 1
  funext a; apply Fin.ext
  match a with
  | ⟨0, _⟩ => show (y 0).val % 16 = (x 0).val; omega
  | ⟨1, _⟩ => exact h1

/-- The four stores of features make them what `featsV` says. -/
theorem feats_read (L : Fin 9 → Vec Ideal S1x1x16x128 .i32) (f6 : BufTy.Contents (Elt Ideal) arg7.view.ty) (v0 v1 v2 : Vec Ideal S16x128 .f32) (i0 i1 i2 i3)
    (h : ∀ (n : Fin 3) (x : S16x128.Idx), (match n with | 0 => v0 | 1 => v1 | 2 => v2) x
      = k0_pay578 (L 6) (ValueIdx.ix2 ⟨4 * (x 0).val + n.val, by have : (x 0).val < 16 := (x 0).isLt; omega⟩ ⟨(x 1).val, (x 1).isLt⟩)) :
    arg7.view.read (Elt Ideal) (arg7.view.writes (Elt Ideal) f6
      [⟨Rect.unit (s := S64x128) ![48, 0] S16x128.size i3, k0_pay584 (L 8)⟩, ⟨Rect.unit (s := S64x128) ![32, 0] S16x128.size i2, k0_pay583 (L 7) v2⟩,
       ⟨Rect.unit (s := S64x128) ![16, 0] S16x128.size i1, k0_pay582 (L 7) v1⟩, ⟨Rect.unit (s := S64x128) ![0, 0] S16x128.size i0, k0_pay581 (L 7) v0⟩])
      = featsV L := by
  funext y
  have hy : (y 0).val < 64 := (y 0).isLt
  have hy1 : (y 1).val < 128 := (y 1).isLt
  refine View.read_writes_apply_of_pieces _ _ _ _ (fun p hp x => ?_) y ?_
  · simp only [List.mem_cons, List.not_mem_nil, _root_.or_false] at hp
    have hx0 : (x 0).val < 16 := by rcases hp with rfl | rfl | rfl | rfl <;> exact (x 0).isLt
    rcases hp with rfl | rfl | rfl | rfl
    · refine (congrFun (shapeCast_self _ _) x).trans (featsV_row3 L _ x ?_ ?_).symm
      · show 48 + 1 * (x 0).val = _; omega
      · show 0 + 1 * (x 1).val = _; omega
    · refine (congrFun (shapeCast_self (mulf v2 (k0_pay580 (L 7))) _) x).trans ((congrArg (· * k0_pay580 (L 7) x) (h 2 x)).trans (featsV_row L _ 2 x ?_ ?_).symm)
      · show 32 + 1 * (x 0).val = 16 * 2 + (x 0).val; omega
      · show 0 + 1 * (x 1).val = _; omega
    · refine (congrFun (shapeCast_self (mulf v1 (k0_pay580 (L 7))) _) x).trans ((congrArg (· * k0_pay580 (L 7) x) (h 1 x)).trans (featsV_row L _ 1 x ?_ ?_).symm)
      · show 16 + 1 * (x 0).val = 16 * 1 + (x 0).val; omega
      · show 0 + 1 * (x 1).val = _; omega
    · refine (congrFun (shapeCast_self (mulf v0 (k0_pay580 (L 7))) _) x).trans ((congrArg (· * k0_pay580 (L 7) x) (h 0 x)).trans (featsV_row L _ 0 x ?_ ?_).symm)
      · show 0 + 1 * (x 0).val = 16 * 0 + (x 0).val; omega
      · show 0 + 1 * (x 1).val = _; omega
  · have mem : ∀ (o : ℕ) (inb) (ho : o ≤ (y 0).val) (ho' : (y 0).val < o + 16), y ∈ (Rect.unit (s := S64x128) ![o, 0] S16x128.size inb).set := by
      intro o inb ho ho'
      rw [Rect.mem_set_unit]
      intro a
      match a with
      | ⟨0, _⟩ => exact ⟨ho, ho'⟩
      | ⟨1, _⟩ => exact ⟨Nat.zero_le _, by show (y 1).val < 0 + 128; omega⟩
    by_cases h3 : 48 ≤ (y 0).val
    · exact ⟨_, .head _, mem 48 i3 h3 (by omega)⟩
    by_cases h2 : 32 ≤ (y 0).val
    · exact ⟨_, .tail _ (.head _), mem 32 i2 h2 (by omega)⟩
    by_cases h1 : 16 ≤ (y 0).val
    · exact ⟨_, .tail _ (.tail _ (.head _)), mem 16 i1 h1 (by omega)⟩
    · exact ⟨_, .tail _ (.tail _ (.tail _ (.head _))), mem 0 i0 (by omega) (by omega)⟩

end Contents

/-! ## The two running buffers -/

/-- The tile numbers of a group, as one row. -/
def rowT (T : S1x36x128.Idx → BitVec 32) (g : Fin 36) : IVec S1x128 32 := k0_pay543 (F := Ideal) (ldT T g)

/-- One plane of four. -/
def plane4 (A : S4x256x128.Idx → EReal) (n : Fin 4) : Vec Ideal S1x256x128 .f32 := fun x => A (ValueIdx.ix3 n ⟨(x 1).val, (x 1).isLt⟩ ⟨(x 2).val, (x 2).isLt⟩)

/-- The running logarithms after a group. -/
def stepL (B : S2048x256.Idx → EReal) (W : S1x36x144x128.Idx → BitVec 32) (T : S1x36x128.Idx → BitVec 32) (g : Fin 36) (L : S256x128.Idx → EReal) : S256x128.Idx → EReal :=
  k0_pay591 (F := Ideal) (rowT T g) (lightC B (rhsE W T g)) L

/-- The running sums after a group. -/
def stepO (B : S2048x256.Idx → EReal) (W : S1x36x144x128.Idx → BitVec 32) (T : S1x36x128.Idx → BitVec 32) (g : Fin 36) (L : S256x128.Idx → EReal)
    (O : S4x256x128.Idx → EReal) (n : Fin 4) : Vec Ideal S1x256x128 .f32 :=
  k0_pay594 (F := Ideal) (k0_pay589 (rowT T g)) (k0_pay590 (rowT T g) (lightC B (rhsE W T g)) L)
    (plane4 (sumsC B (rhsE W T g) (featsV (ldW W g))) n) (plane4 O n)

/-- The running logarithms and sums before group `n`. -/
def runE (B : S2048x256.Idx → EReal) (W : S1x36x144x128.Idx → BitVec 32) (T : S1x36x128.Idx → BitVec 32) : ℕ → (S256x128.Idx → EReal) × (S4x256x128.Idx → EReal)
  | 0 => (fun _ => 0, fun _ => 0)
  | n + 1 => (stepL B W T ⟨n % 36, by omega⟩ (runE B W T n).1,
      fun y => stepO B W T ⟨n % 36, by omega⟩ (runE B W T n).1 (runE B W T n).2 ⟨(y 0).val, (y 0).isLt⟩ (ValueIdx.ix3 0 ⟨(y 1).val, (y 1).isLt⟩ ⟨(y 2).val, (y 2).isLt⟩))

section Stores

variable (B : S2048x256.Idx → EReal) (W : S1x36x144x128.Idx → BitVec 32) (T : S1x36x128.Idx → BitVec 32) (g : Fin 36)

/-- The store of the logarithms, of what was loaded. -/
theorem logt_written (f11 : BufTy.Contents (Elt Ideal) arg12.view.ty) (V : IVec S1x128 32) (lg lt : Vec Ideal S256x128 .f32) (L : S256x128.Idx → EReal)
    (hV : V = rowT T g) (hlg : lg = lightC B (rhsE W T g)) (hlt : lt = L) (inb) :
    arg12.view.read (Elt Ideal) (arg12.view.writes (Elt Ideal) f11 [⟨Rect.unit (s := S256x128) ![0, 0] S256x128.size inb, k0_pay591 (F := Ideal) V lg lt⟩])
      = stepL B W T g L := by
  subst hV hlg hlt
  funext y
  refine (View.read_writes_cons_unit_of_mem arg12.view f11 inb _ [] y y rfl (fun a => ?_)).trans rfl
  match a with
  | ⟨0, _⟩ | ⟨1, _⟩ => exact (Nat.zero_add _).symm

/-- The four stores of the sums, of what was loaded. -/
theorem osum_written (f12 : BufTy.Contents (Elt Ideal) arg13.view.ty) (V : IVec S1x128 32) (lg lt : Vec Ideal S256x128 .f32) (L : S256x128.Idx → EReal)
    (O : S4x256x128.Idx → EReal) (a0 a1 a2 a3 o0 o1 o2 o3 : Vec Ideal S1x256x128 .f32)
    (hV : V = rowT T g) (hlg : lg = lightC B (rhsE W T g)) (hlt : lt = L)
    (ha : a0 = plane4 (sumsC B (rhsE W T g) (featsV (ldW W g))) 0 ∧ a1 = plane4 (sumsC B (rhsE W T g) (featsV (ldW W g))) 1
      ∧ a2 = plane4 (sumsC B (rhsE W T g) (featsV (ldW W g))) 2 ∧ a3 = plane4 (sumsC B (rhsE W T g) (featsV (ldW W g))) 3)
    (ho : o0 = plane4 O 0 ∧ o1 = plane4 O 1 ∧ o2 = plane4 O 2 ∧ o3 = plane4 O 3) (i0 i1 i2 i3) :
    arg13.view.read (Elt Ideal) (arg13.view.writes (Elt Ideal) f12
      [⟨Rect.unit (s := S4x256x128) ![3, 0, 0] ![1, 256, 128] i3, k0_pay1200 (F := Ideal) (k0_pay598 o3) (k0_pay599 (k0_pay592 (k0_pay590 V lg lt)) (k0_pay593 (k0_pay589 V)) a3)⟩,
       ⟨Rect.unit (s := S4x256x128) ![2, 0, 0] S1x256x128.size i2, k0_pay597 (F := Ideal) (k0_pay592 (k0_pay590 V lg lt)) (k0_pay593 (k0_pay589 V)) a2 o2⟩,
       ⟨Rect.unit (s := S4x256x128) ![1, 0, 0] S1x256x128.size i1, k0_pay596 (F := Ideal) (k0_pay595 (k0_pay589 V) (k0_pay590 V lg lt) a1 o1)⟩,
       ⟨Rect.unit (s := S4x256x128) ![0, 0, 0] S1x256x128.size i0, k0_pay594 (F := Ideal) (k0_pay589 V) (k0_pay590 V lg lt) a0 o0⟩])
      = fun y => stepO B W T g L O ⟨(y 0).val, (y 0).isLt⟩ (ValueIdx.ix3 0 ⟨(y 1).val, (y 1).isLt⟩ ⟨(y 2).val, (y 2).isLt⟩) := by
  subst hV hlg hlt
  obtain ⟨rfl, rfl, rfl, rfl⟩ := ha
  obtain ⟨rfl, rfl, rfl, rfl⟩ := ho
  funext y
  have hy : (y 0).val < 4 := (y 0).isLt
  have hy1 : (y 1).val < 256 := (y 1).isLt
  have hy2 : (y 2).val < 128 := (y 2).isLt
  have key : ∀ (n : Fin 4) (o : ℕ) (ho : o = n.val) (inb) (x : S1x256x128.Idx),
      stepO B W T g lt O n x = (fun y : S4x256x128.Idx => stepO B W T g lt O ⟨(y 0).val, (y 0).isLt⟩ (ValueIdx.ix3 0 ⟨(y 1).val, (y 1).isLt⟩ ⟨(y 2).val, (y 2).isLt⟩))
        ((Rect.unit (s := S4x256x128) ![o, 0, 0] S1x256x128.size inb).emb x) := by
    intro n o ho inb x
    have hx0 : (x 0).val < 1 := (x 0).isLt
    have e0 : (⟨((Rect.unit (s := S4x256x128) ![o, 0, 0] S1x256x128.size inb).emb x 0).val, ((Rect.unit (s := S4x256x128) ![o, 0, 0] S1x256x128.size inb).emb x 0).isLt⟩ : Fin 4) = n :=
      Fin.ext (by show o + 1 * (x 0).val = n.val; omega)
    show _ = stepO B W T g lt O ⟨((Rect.unit (s := S4x256x128) ![o, 0, 0] S1x256x128.size inb).emb x 0).val, ((Rect.unit (s := S4x256x128) ![o, 0, 0] S1x256x128.size inb).emb x 0).isLt⟩ _
    rw [e0]
    congr 1
    funext a; apply Fin.ext
    match a with
    | ⟨0, _⟩ => show (x 0).val = 0; omega
    | ⟨1, _⟩ => show (x 1).val = 0 + 1 * (x 1).val; omega
    | ⟨2, _⟩ => show (x 2).val = 0 + 1 * (x 2).val; omega
  have mem : ∀ (o : ℕ) (inb), (y 0).val = o → y ∈ (Rect.unit (s := S4x256x128) ![o, 0, 0] S1x256x128.size inb).set := by
    intro o inb ho
    rw [Rect.mem_set_unit]
    intro a
    match a with
    | ⟨0, _⟩ => exact ⟨ho.ge, by show (y 0).val < o + 1; omega⟩
    | ⟨1, _⟩ => exact ⟨Nat.zero_le _, by show (y 1).val < 0 + 256; omega⟩
    | ⟨2, _⟩ => exact ⟨Nat.zero_le _, by show (y 2).val < 0 + 128; omega⟩
  refine View.read_writes_apply_of_pieces arg13.view f12 (fun y : S4x256x128.Idx => stepO B W T g lt O ⟨(y 0).val, (y 0).isLt⟩ (ValueIdx.ix3 0 ⟨(y 1).val, (y 1).isLt⟩ ⟨(y 2).val, (y 2).isLt⟩)) _ (fun p hp x => ?_) y ?_
  · simp only [List.mem_cons, List.not_mem_nil, _root_.or_false] at hp
    rcases hp with rfl | rfl | rfl | rfl
    · exact (congrFun (show k0_pay1200 (F := Ideal) _ _ = stepO B W T g lt O 3 from by sl_kernel_rfl) x).trans (key 3 3 rfl i3 x)
    · exact (congrFun (show k0_pay597 (F := Ideal) _ _ _ _ = stepO B W T g lt O 2 from by sl_kernel_rfl) x).trans (key 2 2 rfl i2 x)
    · exact (congrFun (show k0_pay596 (F := Ideal) (k0_pay595 (k0_pay589 (rowT T g)) (k0_pay590 (rowT T g) (lightC B (rhsE W T g)) lt)
        (plane4 (sumsC B (rhsE W T g) (featsV (ldW W g))) 1) (plane4 O 1)) = stepO B W T g lt O 1 from by sl_kernel_rfl) x).trans (key 1 1 rfl i1 x)
    · exact key 0 0 rfl i0 x
  · have hc : (y 0).val = 3 ∨ (y 0).val = 2 ∨ (y 0).val = 1 ∨ (y 0).val = 0 := by omega
    rcases hc with h | h | h | h
    · exact ⟨_, .head _, mem 3 i3 h⟩
    · exact ⟨_, .tail _ (.head _), mem 2 i2 h⟩
    · exact ⟨_, .tail _ (.tail _ (.head _)), mem 1 i1 h⟩
    · exact ⟨_, .tail _ (.tail _ (.tail _ (.head _))), mem 0 i0 h⟩

end Stores

/-- A load of a whole square buffer, and of one plane of four. -/
theorem load_all (f : BufTy.Contents (Elt Ideal) arg12.view.ty) (L : S256x128.Idx → EReal) (h : arg12.view.read (Elt Ideal) f = L) (inb) :
    View.readAt (Elt Ideal) arg12.view (Rect.unit (s := S256x128) ![0, 0] S256x128.size inb).toLoadRect f = L := by
  funext x
  refine (View.readAt_apply _ _ _).trans ((congrArg _ ?_).trans (congrFun h x))
  funext a; apply Fin.ext
  match a with
  | ⟨0, _⟩ => show 0 + 1 * (x 0).val = (x 0).val; omega
  | ⟨1, _⟩ => show 0 + 1 * (x 1).val = (x 1).val; omega

theorem load_plane (f : BufTy.Contents (Elt Ideal) arg13.view.ty) (O : S4x256x128.Idx → EReal) (h : arg13.view.read (Elt Ideal) f = O) (n : Fin 4) (o : ℕ) (ho : o = n.val) (inb) :
    View.readAt (Elt Ideal) arg13.view (Rect.unit (s := S4x256x128) ![o, 0, 0] S1x256x128.size inb).toLoadRect f = plane4 O n := by
  funext x
  have h0 : (x 0).val < 1 := (x 0).isLt
  refine (View.readAt_apply _ _ _).trans ((congrArg _ ?_).trans (congrFun h (ValueIdx.ix3 n ⟨(x 1).val, (x 1).isLt⟩ ⟨(x 2).val, (x 2).isLt⟩)))
  funext a; apply Fin.ext
  match a with
  | ⟨0, _⟩ => show o + 1 * (x 0).val = n.val; omega
  | ⟨1, _⟩ => show 0 + 1 * (x 1).val = (x 1).val; omega
  | ⟨2, _⟩ => show 0 + 1 * (x 2).val = (x 2).val; omega

variable (v14 : Elt Ideal .i32) (k0_hw1 : k0_chk1 v14)

/-- The buffer of the logarithm holds the state after `n` groups. -/
def LogtAt (X2 : BufTy.Contents (Elt Ideal) arg2.view.ty) (X3 : BufTy.Contents (Elt Ideal) arg3.view.ty) (X4 : BufTy.Contents (Elt Ideal) arg5.view.ty) (n : ℕ)
    (f : BufTy.Contents (Elt Ideal) arg12.view.ty) : Prop :=
  arg12.view.read (Elt Ideal) f = (runE (arg5.view.read (Elt Ideal) X4) (arg2.view.read (Elt Ideal) X2) (arg3.view.read (Elt Ideal) X3) n).1

/-- The buffer of the sums holds the state after `n` groups. -/
def SumsAt (X2 : BufTy.Contents (Elt Ideal) arg2.view.ty) (X3 : BufTy.Contents (Elt Ideal) arg3.view.ty) (X4 : BufTy.Contents (Elt Ideal) arg5.view.ty) (n : ℕ)
    (f : BufTy.Contents (Elt Ideal) arg13.view.ty) : Prop :=
  arg13.view.read (Elt Ideal) f = (runE (arg5.view.read (Elt Ideal) X4) (arg2.view.read (Elt Ideal) X2) (arg3.view.read (Elt Ideal) X3) n).2

/-- What a trip works on: the inputs at their contents, the scratch as said. -/
def loopRes (X2 : BufTy.Contents (Elt Ideal) arg2.view.ty) (X3 : BufTy.Contents (Elt Ideal) arg3.view.ty) (X4 : BufTy.Contents (Elt Ideal) arg5.view.ty) (n : ℕ) : sProp 𝕄 :=
  iprop(heldAt c arg2 X2 ∗ heldAt c arg3 X3 ∗ heldAt c arg5 X4 ∗ heldAny c arg7 ∗ heldAny c arg8
    ∗ (∃ f, heldAt c arg9 f ∗ ⌜RestZero arg9 f⌝) ∗ heldAny c arg10 ∗ heldAny c arg11
    ∗ (∃ f, heldAt c arg12 f ∗ ⌜LogtAt arg2 arg3 arg5 arg12 X2 X3 X4 n f⌝)
    ∗ (∃ f, heldAt c arg13 f ∗ ⌜SumsAt arg2 arg3 arg5 arg13 X2 X3 X4 n f⌝))

set_option maxHeartbeats 1600000 in
/-- ONE TRIP of the group loop at a symbolic group. -/
theorem trip1 (X2 : BufTy.Contents (Elt Ideal) arg2.view.ty) (X3 : BufTy.Contents (Elt Ideal) arg3.view.ty) (X4 : BufTy.Contents (Elt Ideal) arg5.view.ty)
    (k : Fin (k0_t1_loop v14).trips) (hk : k.val < 36) (acc : BitVec 32) :
    loopRes c arg2 arg3 arg5 arg7 arg8 arg9 arg10 arg11 arg12 arg13 X2 X3 X4 k.val
      ⊢ wp frame (wpE (defs₀ (F := Ideal)) 𝒱₀ (c : Thread nD τ) none) Set.univ
          (k0_t1_body (F := Ideal) i arg1 harg1 arg2 harg2 arg3 harg3 arg4 harg4 arg5 harg5 arg6 harg6 arg7 harg7 arg8 harg8 arg9 harg9 arg10 harg10 arg11 harg11 arg12 harg12 arg13 harg13 v14 k0_hw1 k acc)
          (fun _ => loopRes c arg2 arg3 arg5 arg7 arg8 arg9 arg10 arg11 arg12 arg13 X2 X3 X4 (k.val + 1)) := by
  unfold loopRes k0_t1_body
  simp only [k0_part28_eq_skeleton, k0_part29_eq_skeleton, k0_part30_eq_skeleton, k0_part31_eq_skeleton, k0_part32_eq_skeleton, k0_part33_eq_skeleton, k0_part34_eq_skeleton, k0_part35_eq_skeleton]
  iintro ⟨H2, H3, H4, ⟨%f6, H6⟩, ⟨%f7, H7⟩, ⟨%f8, H8, %h8⟩, ⟨%f9, H9⟩, ⟨%f10, H10⟩, ⟨%f11, H11, %h11⟩, ⟨%f12, H12, %h12⟩⟩
  sl_exec
  sl_step
  have e0 := ld_eq arg2 X2 ⟨k.val, hk⟩ 0 _ (k0_off3_inb v14 k0_hw1 k) (off3_eq v14 k)
  have e1 := ld_eq arg2 X2 ⟨k.val, hk⟩ 1 _ (k0_off4_inb v14 k0_hw1 k) (off4_eq v14 k)
  have e2 := ld_eq arg2 X2 ⟨k.val, hk⟩ 2 _ (k0_off5_inb v14 k0_hw1 k) (off5_eq v14 k)
  have e3 := ld_eq arg2 X2 ⟨k.val, hk⟩ 3 _ (k0_off6_inb v14 k0_hw1 k) (off6_eq v14 k)
  have e4 := ld_eq arg2 X2 ⟨k.val, hk⟩ 4 _ (k0_off7_inb v14 k0_hw1 k) (off7_eq v14 k)
  have e5 := ld_eq arg2 X2 ⟨k.val, hk⟩ 5 _ (k0_off8_inb v14 k0_hw1 k) (off8_eq v14 k)
  have e6 := ld_eq arg2 X2 ⟨k.val, hk⟩ 6 _ (k0_off9_inb v14 k0_hw1 k) (off9_eq v14 k)
  have e7 := ld_eq arg2 X2 ⟨k.val, hk⟩ 7 _ (k0_off10_inb v14 k0_hw1 k) (off10_eq v14 k)
  have e8 := ld_eq arg2 X2 ⟨k.val, hk⟩ 8 _ (k0_off11_inb v14 k0_hw1 k) (off11_eq v14 k)
  have eT := ldT_eq arg3 X3 ⟨k.val, hk⟩ _ (k0_off2_inb v14 k0_hw1 k) (off2_eq v14 k)

  have eg : (⟨k.val % 36, by omega⟩ : Fin 36) = ⟨k.val, hk⟩ := Fin.ext (Nat.mod_eq_of_lt hk)
  have er : trip1.sl.r arg3 v14 k0_hw1 X3 k = rowT (arg3.view.read (Elt Ideal) X3) ⟨k.val, hk⟩ := by
    unfold trip1.sl.r
    rw [eT]; rfl
  have hR : arg9.view.read (Elt Ideal) (arg9.view.writes (Elt Ideal) f8 [⟨Rect.unit (s := S256x256) ![0, 0] S144x256.size inb_S256x256_S144x256_0_0,
      k0_pay577 (F := Ideal) (trip1.sl.r_10 arg2 v14 k0_hw1 X2 k) (trip1.sl.r_11 arg2 v14 k0_hw1 X2 k) (trip1.sl.r_12 arg2 arg3 v14 k0_hw1 X2 X3 k) (trip1.sl.r_13 arg2 arg3 v14 k0_hw1 X2 X3 k) (trip1.sl.r_14 arg2 arg3 v14 k0_hw1 X2 X3 k) (trip1.sl.r_15 arg2 arg3 v14 k0_hw1 X2 X3 k) (trip1.sl.r_16 arg2 arg3 v14 k0_hw1 X2 X3 k) (trip1.sl.r_17 arg2 arg3 v14 k0_hw1 X2 X3 k) (trip1.sl.r_18 arg2 arg3 v14 k0_hw1 X2 X3 k) (trip1.sl.r_19 arg2 arg3 v14 k0_hw1 X2 X3 k) (trip1.sl.r_20 arg2 arg3 v14 k0_hw1 X2 X3 k) (trip1.sl.r_21 arg2 v14 k0_hw1 X2 k) (trip1.sl.r_22 arg2 v14 k0_hw1 X2 k) (trip1.sl.r_23 arg2 v14 k0_hw1 X2 k)⟩]) = rhsE (arg2.view.read (Elt Ideal) X2) (arg3.view.read (Elt Ideal) X3) ⟨k.val, hk⟩ := by
    refine rhs_read arg9 f8 h8 _ _ ⟨k.val, hk⟩ _ _ ?_
    refine Eq.trans (b := shapeCast S144x256 (rowsV (View.readAt (Elt Ideal) arg3.view (Rect.unit (s := S1x36x128) (k0_off2 v14 k) S1x1x128.size (k0_off2_inb v14 k0_hw1 k)).toLoadRect X3)
      ![View.readAt (Elt Ideal) arg2.view (Rect.unit (s := S1x36x144x128) (k0_off3 v14 k) S1x1x16x128.size (k0_off3_inb v14 k0_hw1 k)).toLoadRect X2,
        View.readAt (Elt Ideal) arg2.view (Rect.unit (s := S1x36x144x128) (k0_off4 v14 k) S1x1x16x128.size (k0_off4_inb v14 k0_hw1 k)).toLoadRect X2,
        View.readAt (Elt Ideal) arg2.view (Rect.unit (s := S1x36x144x128) (k0_off5 v14 k) S1x1x16x128.size (k0_off5_inb v14 k0_hw1 k)).toLoadRect X2,
        View.readAt (Elt Ideal) arg2.view (Rect.unit (s := S1x36x144x128) (k0_off6 v14 k) S1x1x16x128.size (k0_off6_inb v14 k0_hw1 k)).toLoadRect X2,
        View.readAt (Elt Ideal) arg2.view (Rect.unit (s := S1x36x144x128) (k0_off7 v14 k) S1x1x16x128.size (k0_off7_inb v14 k0_hw1 k)).toLoadRect X2,
        View.readAt (Elt Ideal) arg2.view (Rect.unit (s := S1x36x144x128) (k0_off8 v14 k) S1x1x16x128.size (k0_off8_inb v14 k0_hw1 k)).toLoadRect X2,
        View.readAt (Elt Ideal) arg2.view (Rect.unit (s := S1x36x144x128) (k0_off9 v14 k) S1x1x16x128.size (k0_off9_inb v14 k0_hw1 k)).toLoadRect X2,
        View.readAt (Elt Ideal) arg2.view (Rect.unit (s := S1x36x144x128) (k0_off10 v14 k) S1x1x16x128.size (k0_off10_inb v14 k0_hw1 k)).toLoadRect X2,
        View.readAt (Elt Ideal) arg2.view (Rect.unit (s := S1x36x144x128) (k0_off11 v14 k) S1x1x16x128.size (k0_off11_inb v14 k0_hw1 k)).toLoadRect X2]) shapeCasts_S144x256_S144x256) (by sl_kernel_rfl) ((shapeCast_self _ _).trans ?_)
    rw [eT, e0, e1, e2, e3, e4, e5, e6, e7, e8]
    congr 1
    funext n
    match n with
    | 0 | 1 | 2 | 3 | 4 | 5 | 6 | 7 | 8 => rfl
  have hΦ : arg7.view.read (Elt Ideal) (arg7.view.writes (Elt Ideal) arg7.view.junk (trip1.sl.H6_4 arg2 arg8 v14 k0_hw1 X2 k)) = featsV (ldW (arg2.view.read (Elt Ideal) X2) ⟨k.val, hk⟩) := by
    unfold trip1.sl.H6_4 trip1.sl.v295 trip1.sl.v300 trip1.sl.v305 trip1.sl.H7_1 trip1.sl.r_24
    rw [e6, e7, e8]
    refine feats_read arg7 (ldW (arg2.view.read (Elt Ideal) X2) ⟨k.val, hk⟩) _ _ _ _ _ _ _ _ (fun n x => ?_)
    match n with
    | 0 => exact code_read arg8 (ldW (arg2.view.read (Elt Ideal) X2) ⟨k.val, hk⟩ 6) 0 (by omega) _ _ x
    | 1 => exact code_read arg8 (ldW (arg2.view.read (Elt Ideal) X2) ⟨k.val, hk⟩ 6) 1 (by omega) _ _ x
    | 2 => exact code_read arg8 (ldW (arg2.view.read (Elt Ideal) X2) ⟨k.val, hk⟩ 6) 2 (by omega) _ _ x
  have C := chunks_leave arg5 arg7 arg9 X4 (arg7.view.writes (Elt Ideal) arg7.view.junk (trip1.sl.H6_4 arg2 arg8 v14 k0_hw1 X2 k))
    (arg9.view.writes (Elt Ideal) f8 [⟨Rect.unit (s := S256x256) ![0, 0] S144x256.size inb_S256x256_S144x256_0_0,
      k0_pay577 (F := Ideal) (trip1.sl.r_10 arg2 v14 k0_hw1 X2 k) (trip1.sl.r_11 arg2 v14 k0_hw1 X2 k) (trip1.sl.r_12 arg2 arg3 v14 k0_hw1 X2 X3 k) (trip1.sl.r_13 arg2 arg3 v14 k0_hw1 X2 X3 k) (trip1.sl.r_14 arg2 arg3 v14 k0_hw1 X2 X3 k) (trip1.sl.r_15 arg2 arg3 v14 k0_hw1 X2 X3 k) (trip1.sl.r_16 arg2 arg3 v14 k0_hw1 X2 X3 k) (trip1.sl.r_17 arg2 arg3 v14 k0_hw1 X2 X3 k) (trip1.sl.r_18 arg2 arg3 v14 k0_hw1 X2 X3 k) (trip1.sl.r_19 arg2 arg3 v14 k0_hw1 X2 X3 k) (trip1.sl.r_20 arg2 arg3 v14 k0_hw1 X2 X3 k) (trip1.sl.r_21 arg2 v14 k0_hw1 X2 k) (trip1.sl.r_22 arg2 v14 k0_hw1 X2 k) (trip1.sl.r_23 arg2 v14 k0_hw1 X2 k)⟩])
    𝒱₀ c none i arg1 harg1 arg2 harg2 arg3 harg3 arg4 harg4 harg5 arg6 harg6 harg7 arg8 harg8 harg9 arg10 harg10 arg11 harg11 arg12 harg12 arg13 harg13 (trip1.sl.r arg3 v14 k0_hw1 X3 k) (0#32) (0#32) (0#32) f9 f10
  rw [hR, hΦ] at C
  isplitl [H2]; · iexact H2
  isplitl [H3]; · iexact H3
  isplitl [H4]; · iexact H4
  isplitl [H6]; · iexists _; iexact H6
  isplitl [H7]; · iexists _; iexact H7
  isplitl [H8]
  · iexists _
    isplitl [H8]; · iexact H8
    ipureintro
    exact rest_kept arg9 f8 h8 _ _
  isplitl [H9]; · iexists _; iexact H9
  isplitl [H10]; · iexists _; iexact H10
  isplitl [H11]
  · iexists _
    isplitl [H11]; · iexact H11
    ipureintro
    unfold LogtAt trip1.sl.r_27
    refine (logt_written arg12 (arg5.view.read (Elt Ideal) X4) (arg2.view.read (Elt Ideal) X2) (arg3.view.read (Elt Ideal) X3) ⟨k.val, hk⟩ f11 _ _ _ _ er ?_ (load_all arg12 f11 _ h11 _) _).trans ?_
    · unfold trip1.sl.v344
      exact load_all arg10 _ _ C.1 _
    · rw [← eg]; rfl
  · iexists _
    isplitl [H12]; · iexact H12
    ipureintro
    unfold SumsAt trip1.sl.r_31 trip1.sl.r_32 trip1.sl.r_28 trip1.sl.r_29 trip1.sl.v420 trip1.sl.v434 trip1.sl.r_30 trip1.sl.r_25 trip1.sl.r_26 trip1.sl.v376
    refine (osum_written arg13 (arg5.view.read (Elt Ideal) X4) (arg2.view.read (Elt Ideal) X2) (arg3.view.read (Elt Ideal) X3) ⟨k.val, hk⟩ f12 _ _ _ _ _ _ _ _ _ _ _ _ _ er ?_ (load_all arg12 f11 _ h11 _)
      ⟨load_plane arg11 _ _ C.2 0 0 rfl _, ?_, load_plane arg11 _ _ C.2 2 2 rfl _, ?_⟩
      ⟨load_plane arg13 f12 _ h12 0 0 rfl _, ?_, load_plane arg13 f12 _ h12 2 2 rfl _, load_plane arg13 f12 _ h12 3 3 rfl _⟩ _ _ _ _).trans ?_
    · unfold trip1.sl.v344
      exact load_all arg10 _ _ C.1 _
    · unfold trip1.sl.v398
      exact load_plane arg11 _ _ C.2 1 1 rfl _
    · exact load_plane arg11 _ _ C.2 3 3 rfl _
    · unfold trip1.sl.v412
      exact load_plane arg13 f12 _ h12 1 1 rfl _
    · rw [← eg]; rfl

set_option warn.classDefReducibility false in
/-- The group loop's invariant, with the trip count at most 36: the groups before the trip hold what is said. -/
@[sl_loop] def loopInv1 (X2 : BufTy.Contents (Elt Ideal) arg2.view.ty) (X3 : BufTy.Contents (Elt Ideal) arg3.view.ty) (X4 : BufTy.Contents (Elt Ideal) arg5.view.ty) (init : BitVec 32) :
    LoopInvTy_k0_t1 (F := Ideal) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 v14 k0_hw1 init where
  inv n _ := iprop(⌜(k0_t1_loop v14).trips ≤ 36⌝ ∗ loopRes c arg2 arg3 arg5 arg7 arg8 arg9 arg10 arg11 arg12 arg13 X2 X3 X4 n)
  step k acc := by
    iintro ⟨%h, H⟩
    iapply (wp_wand_r Idealize.ShloMosaic.frame (wpE (defs₀ (F := Ideal)) 𝒱₀ (c : Thread nD τ) none) Set.univ)
    isplitl [H]
    · iapply (trip1 c i arg1 harg1 arg2 harg2 arg3 harg3 arg4 harg4 arg5 harg5 arg6 harg6 arg7 harg7 arg8 harg8 arg9 harg9 arg10 harg10 arg11 harg11 arg12 harg12 arg13 harg13 v14 k0_hw1 X2 X3 X4 k (by omega) acc); iexact H
    · iintro %_ H'
      isplitr; · ipureintro; exact h
      iexact H'

set_option warn.classDefReducibility false in
/-- The remainder loop's invariant: it has no trip. -/
@[sl_loop] def loopInv3 (X2 : BufTy.Contents (Elt Ideal) arg2.view.ty) (X3 : BufTy.Contents (Elt Ideal) arg3.view.ty) (X4 : BufTy.Contents (Elt Ideal) arg5.view.ty) (v19 : BitVec 32) (init : BitVec 32) :
    LoopInvTy_k0_t3 (F := Ideal) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 v14 k0_hw1 v19 init where
  inv _ _ := loopRes c arg2 arg3 arg5 arg7 arg8 arg9 arg10 arg11 arg12 arg13 X2 X3 X4 (k0_t1_loop v14).trips
  step k _ := (Nat.not_lt_zero _ (Nat.lt_of_lt_of_eq k.isLt (trips3_eq v14))).elim

end Cert.Proof.KernelIdeal

end
-- ==== Proof.IdealBody.lean ====
/-
  The body of `KernelIdeal`, run once: provided that the count word it reads is at most 36, it ends with the inputs as it found
  them and the output block at what `blockE` says.
-/
module

public import proofs.«01_k».proof.Proof.IdealTrip
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

local notation "𝕄" => MT nD τ sig Unit (Elt Ideal) ℕ (UR sig nD τ) ℕ

/-- The count word of batch `i`. -/
def cntW (i : grid0.Coords) (x0 : Vec Ideal S64 .i32) : BitVec 32 := x0 (ValueIdx.ix1 ⟨16 * (i 0).val, by have : (i 0).val < 4 := (i 0).isLt; omega⟩)

/-- The word of the background colour `n` of batch `i`. -/
def bgW (i : grid0.Coords) (xb : Vec Ideal S12 .f32) (n : Fin 3) : EReal := xb (ValueIdx.ix1 ⟨3 * (i 0).val + n.val, by have : (i 0).val < 4 := (i 0).isLt; omega⟩)

/-- The output block: the three colours over the background, the logarithm of what passes, the depth. -/
def blockE (bg : Fin 3 → EReal) (R : (S256x128.Idx → EReal) × (S4x256x128.Idx → EReal)) : S1x5x64x256.Idx → EReal := fun y =>
  if h : (y 1).val < 3 then
    R.2 (ValueIdx.ix3 ⟨(y 1).val, by omega⟩ ⟨(y 3).val, (y 3).isLt⟩ ⟨(y 2).val, lt_trans (y 2).isLt (by decide : 64 < 128)⟩)
      + Ideal.exp2 (R.1 (ValueIdx.ix2 ⟨(y 3).val, (y 3).isLt⟩ ⟨(y 2).val, lt_trans (y 2).isLt (by decide : 64 < 128)⟩)) * bg ⟨(y 1).val, h⟩
  else if (y 1).val = 3 then
    R.1 (ValueIdx.ix2 ⟨(y 3).val, (y 3).isLt⟩ ⟨(y 2).val, lt_trans (y 2).isLt (by decide : 64 < 128)⟩) * ((Real.log 2 : ℝ) : EReal)
  else R.2 (ValueIdx.ix3 3 ⟨(y 3).val, (y 3).isLt⟩ ⟨(y 2).val, lt_trans (y 2).isLt (by decide : 64 < 128)⟩)

section Body

variable (c : Dev nD) (i : grid0.Coords) (arg1 : Memref sig .tc .smem S64 .i32) (harg1 : arg1.IsWhole)
  (arg2 : Memref sig .tc .vmem S1x36x144x128 .i32) (harg2 : arg2.IsWhole) (arg3 : Memref sig .tc .vmem S1x36x128 .i32) (harg3 : arg3.IsWhole) (arg4 : Memref sig .tc .smem S12 .f32) (harg4 : arg4.IsWhole)
  (arg5 : Memref sig .tc .vmem S2048x256 .bf16) (harg5 : arg5.IsWhole) (arg6 : Memref sig .tc .vmem S1x5x64x256 .f32) (harg6 : arg6.IsWhole)
  (arg7 : Memref sig .tc .vmem S64x128 .f32) (harg7 : arg7.IsWhole) (arg8 : Memref sig .tc .vmem S64x128 .f32) (harg8 : arg8.IsWhole)
  (arg9 : Memref sig .tc .vmem S256x256 .bf16) (harg9 : arg9.IsWhole) (arg10 : Memref sig .tc .vmem S256x128 .f32) (harg10 : arg10.IsWhole)
  (arg11 : Memref sig .tc .vmem S4x256x128 .f32) (harg11 : arg11.IsWhole)
  (arg12 : Memref sig .tc .vmem S256x128 .f32) (harg12 : arg12.IsWhole) (arg13 : Memref sig .tc .vmem S4x256x128 .f32) (harg13 : arg13.IsWhole)

/-- Every word read at the count's cell is the count word. -/
theorem count_eq (x0 : Vec Ideal S64 .i32) (f1 : BufTy.Contents (Elt Ideal) arg1.view.ty) (hf : arg1.view.read (Elt Ideal) f1 = x0)
    (y : S1.Idx) : (arg1.view.readAt (Elt Ideal) (Rect.unit (s := S64) (k0_off1 i) S1.size (k0_off1_inb i)).toLoadRect f1 y : BitVec 32) = cntW i x0 := by
  subst hf
  refine (View.readAt_apply _ _ _).trans (congrArg _ ?_)
  have hy : (y 0).val = 0 := by have := (y 0).isLt; change (y 0).val < 1 at this; omega
  have ho : k0_off1 i 0 = 16 * (i 0).val :=
    (by decide : ∀ n : Fin 4, (Scalar.indexCast (Scalar.muli (BitVec.ofNat 32 n.val) 16#32)).toNat = 16 * n.val) (i 0)
  funext a; apply Fin.ext
  match a with
  | ⟨0, _⟩ => show k0_off1 i 0 + 1 * (y 0).val = 16 * (i 0).val; omega

/-- The rows of the right operand that no trip writes are zeroed. -/
theorem rest_zero (f8 : BufTy.Contents (Elt Ideal) arg9.view.ty) (inb) :
    RestZero arg9 (arg9.view.writes (Elt Ideal) f8 [⟨Rect.unit (s := S256x256) ![144, 0] S112x256.size inb, k0_pay1199 (F := Ideal)⟩]) := by
  intro y hy
  have h0 : (y 0).val < 256 := (y 0).isLt
  refine (View.read_writes_cons_unit_of_mem arg9.view f8 inb _ [] y (ValueIdx.ix2 ⟨(y 0).val - 144, by omega⟩ ⟨(y 1).val, (y 1).isLt⟩) rfl (fun a => ?_)).trans ?_
  · match a with
    | ⟨0, _⟩ => show (y 0).val = 144 + ((y 0).val - 144); omega
    | ⟨1, _⟩ => exact (Nat.zero_add _).symm
  · refine (congrFun (shapeCast_self (broadcast S112x256 (Scalar.ofBits (F := Ideal) .bf16 0x0000#16)) shapeCasts_S112x256_S112x256) _).trans ?_
    show Ideal.ofBits .bf16 0x0000#16 = 0
    simp [Ideal.ofBits, Ideal.ieee]

/-- The zeroed logarithm is the state after no group. -/
theorem logt_zero (X2 : BufTy.Contents (Elt Ideal) arg2.view.ty) (X3 : BufTy.Contents (Elt Ideal) arg3.view.ty) (X4 : BufTy.Contents (Elt Ideal) arg5.view.ty) (f11 : BufTy.Contents (Elt Ideal) arg12.view.ty) (inb) :
    LogtAt arg2 arg3 arg5 arg12 X2 X3 X4 0 (arg12.view.writes (Elt Ideal) f11 [⟨Rect.unit (s := S256x128) ![0, 0] S256x128.size inb, k0_pay1197 (F := Ideal)⟩]) := by
  funext y
  refine (View.read_writes_cons_unit_of_mem arg12.view f11 inb _ [] y y rfl (fun a => ?_)).trans ?_
  · match a with
    | ⟨0, _⟩ | ⟨1, _⟩ => exact (Nat.zero_add _).symm
  · refine (congrFun (shapeCast_self (broadcast S256x128 (Scalar.ofBits (F := Ideal) .f32 0x00000000#32)) shapeCasts_S256x128_S256x128) _).trans ?_
    exact Ideal.ofBits_zero_f32

/-- The zeroed sums are the state after no group. -/
theorem osum_zero (X2 : BufTy.Contents (Elt Ideal) arg2.view.ty) (X3 : BufTy.Contents (Elt Ideal) arg3.view.ty) (X4 : BufTy.Contents (Elt Ideal) arg5.view.ty) (f12 : BufTy.Contents (Elt Ideal) arg13.view.ty) (inb) :
    SumsAt arg2 arg3 arg5 arg13 X2 X3 X4 0 (arg13.view.writes (Elt Ideal) f12 [⟨Rect.unit (s := S4x256x128) ![0, 0, 0] S4x256x128.size inb, k0_pay1198 (F := Ideal)⟩]) := by
  funext y
  refine (View.read_writes_cons_unit_of_mem arg13.view f12 inb _ [] y y rfl (fun a => ?_)).trans ?_
  · match a with
    | ⟨0, _⟩ | ⟨1, _⟩ | ⟨2, _⟩ => exact (Nat.zero_add _).symm
  · refine (congrFun (shapeCast_self (broadcast S4x256x128 (Scalar.ofBits (F := Ideal) .f32 0x00000000#32)) shapeCasts_S4x256x128_S4x256x128) _).trans ?_
    exact Ideal.ofBits_zero_f32

/-- The constant whose name is the logarithm of two. -/
theorem named_ln2 : Named.named (F := Ideal) κ "ln2" (φ := .f32) 0x3F317218#32 = ((Real.log 2 : ℝ) : EReal) :=
  IdealRules.named_const.ideal_named_scalar _ _ _ _ rfl

/-- A square block transposed, its first 64 rows, as one plane of the output. -/
theorem turned (A : FVec Ideal S256x128 .f32) (x : S1x1x64x256.Idx) :
    shapeCast S1x1x64x256 (extractStridedSlice S64x256 ![0, 0] (transpose S128x256 [1, 0] A transposes_S256x128_p1_0_S128x256) slices_S128x256_o0_0_S64x256) shapeCasts_S64x256_S1x1x64x256 x
      = A (ValueIdx.ix2 ⟨(x 3).val, (x 3).isLt⟩ ⟨(x 2).val, lt_trans (x 2).isLt (by decide : 64 < 128)⟩) := by
  have h0 : (x 0).val < 1 := (x 0).isLt
  have h1 : (x 1).val < 1 := (x 1).isLt
  have h2 : (x 2).val < 64 := (x 2).isLt
  have h3 : (x 3).val < 256 := (x 3).isLt
  refine (shapeCast_apply _ _ x (ValueIdx.ix2 ⟨(x 2).val, h2⟩ ⟨(x 3).val, h3⟩) ?_).trans ?_
  · rw [Shape.rowMajor_val_two, Shape.rowMajor_val_four]
    show (x 2).val * 256 + (x 3).val = (((x 0).val * 1 + (x 1).val) * 64 + (x 2).val) * 256 + (x 3).val
    omega
  refine (extractStridedSlice_apply _ _ _ _ (ValueIdx.ix2 ⟨(x 2).val, by omega⟩ ⟨(x 3).val, h3⟩) (fun a => ?_)).trans ?_
  · match a with
    | ⟨0, _⟩ => show (x 2).val = 0 + (x 2).val; omega
    | ⟨1, _⟩ => show (x 3).val = 0 + (x 3).val; omega
  refine transpose_apply _ _ _ _ _ (fun b => ?_)
  match b with
  | ⟨0, _⟩ => rfl
  | ⟨1, _⟩ => rfl

/-- One plane of the four as a square. -/
theorem plane_apply (O : S4x256x128.Idx → EReal) (n : Fin 4) (x : S256x128.Idx) :
    shapeCast S256x128 (plane4 O n) shapeCasts_S1x256x128_S256x128 x = O (ValueIdx.ix3 n ⟨(x 0).val, (x 0).isLt⟩ ⟨(x 1).val, (x 1).isLt⟩) := by
  refine (shapeCast_apply _ _ x (ValueIdx.ix3 0 ⟨(x 0).val, (x 0).isLt⟩ ⟨(x 1).val, (x 1).isLt⟩) ?_).trans rfl
  rw [Shape.rowMajor_val_three, Shape.rowMajor_val_two]
  show (0 * 256 + (x 0).val) * 128 + (x 1).val = (x 0).val * 128 + (x 1).val
  omega

/-- The output block after its five stores. -/
theorem out_written (f5 : BufTy.Contents (Elt Ideal) arg6.view.ty) (bg : Fin 3 → EReal) (R : (S256x128.Idx → EReal) × (S4x256x128.Idx → EReal))
    (L E : Vec Ideal S256x128 .f32) (o0 : FVec Ideal S256x128 .f32) (o1 o2 o3 : Vec Ideal S1x256x128 .f32) (l0 : FVec Ideal S256x128 .f32) (b1 b2 ln2 : EReal)
    (hL : L = R.1) (hE : E = k0_pay1202 (F := Ideal) R.1) (h0 : o0 = k0_pay1203 (F := Ideal) (plane4 R.2 0)) (hl : l0 = k0_pay1204 (F := Ideal) R.1 (bg 0))
    (h1 : o1 = plane4 R.2 1) (h2 : o2 = plane4 R.2 2) (h3 : o3 = plane4 R.2 3) (hb1 : b1 = bg 1) (hb2 : b2 = bg 2) (hn : ln2 = ((Real.log 2 : ℝ) : EReal)) (i0 i1 i2 i3 i4) :
    arg6.view.read (Elt Ideal) (arg6.view.writes (Elt Ideal) f5
      [⟨Rect.unit (s := S1x5x64x256) ![0, 4, 0, 0] ![1, 1, 64, 256] i4, k0_pay2 (F := Ideal) o3⟩,
       ⟨Rect.unit (s := S1x5x64x256) ![0, 3, 0, 0] ![1, 1, 64, 256] i3, k0_pay1 (F := Ideal) L ln2⟩,
       ⟨Rect.unit (s := S1x5x64x256) ![0, 2, 0, 0] S1x1x64x256.size i2, k0_pay1207 (F := Ideal) E o2 b2⟩,
       ⟨Rect.unit (s := S1x5x64x256) ![0, 1, 0, 0] S1x1x64x256.size i1, k0_pay1206 (F := Ideal) E o1 b1⟩,
       ⟨Rect.unit (s := S1x5x64x256) ![0, 0, 0, 0] S1x1x64x256.size i0, k0_pay1205 (F := Ideal) o0 l0⟩])
      = blockE bg R := by
  subst hL hE h0 hl h1 h2 h3 hb1 hb2 hn
  funext y
  have hy0 : (y 0).val < 1 := (y 0).isLt
  have hy : (y 1).val < 5 := (y 1).isLt
  have hy1 : (y 2).val < 64 := (y 2).isLt
  have hy2 : (y 3).val < 256 := (y 3).isLt
  have mem : ∀ (o : ℕ) (inb), (y 1).val = o → y ∈ (Rect.unit (s := S1x5x64x256) ![0, o, 0, 0] S1x1x64x256.size inb).set := by
    intro o inb ho
    rw [Rect.mem_set_unit]
    intro a
    match a with
    | ⟨0, _⟩ => exact ⟨Nat.zero_le _, by show (y 0).val < 0 + 1; omega⟩
    | ⟨1, _⟩ => exact ⟨ho.ge, by show (y 1).val < o + 1; omega⟩
    | ⟨2, _⟩ => exact ⟨Nat.zero_le _, by show (y 2).val < 0 + 64; omega⟩
    | ⟨3, _⟩ => exact ⟨Nat.zero_le _, by show (y 3).val < 0 + 256; omega⟩
  have at_ : ∀ (o : ℕ) (inb) (x : S1x1x64x256.Idx) (b : Fin 4),
      ((Rect.unit (s := S1x5x64x256) ![0, o, 0, 0] S1x1x64x256.size inb).emb x b).val = (![0, o, 0, 0] : Fin 4 → ℕ) b + 1 * (x b).val := fun o inb x b => rfl
  have ix : ∀ (o : ℕ) (inb) (x : S1x1x64x256.Idx),
      (ValueIdx.ix2 ⟨((Rect.unit (s := S1x5x64x256) ![0, o, 0, 0] S1x1x64x256.size inb).emb x 3).val, ((Rect.unit (s := S1x5x64x256) ![0, o, 0, 0] S1x1x64x256.size inb).emb x 3).isLt⟩
        ⟨((Rect.unit (s := S1x5x64x256) ![0, o, 0, 0] S1x1x64x256.size inb).emb x 2).val, lt_trans ((Rect.unit (s := S1x5x64x256) ![0, o, 0, 0] S1x1x64x256.size inb).emb x 2).isLt (by decide : 64 < 128)⟩ : S256x128.Idx)
        = ValueIdx.ix2 ⟨(x 3).val, (x 3).isLt⟩ ⟨(x 2).val, lt_trans (x 2).isLt (by decide : 64 < 128)⟩ := by
    intro o inb x
    funext a; apply Fin.ext
    match a with
    | ⟨0, _⟩ => show 0 + 1 * (x 3).val = (x 3).val; omega
    | ⟨1, _⟩ => show 0 + 1 * (x 2).val = (x 2).val; omega
  have e1 : ∀ (o : ℕ) (inb) (x : S1x1x64x256.Idx), ((Rect.unit (s := S1x5x64x256) ![0, o, 0, 0] S1x1x64x256.size inb).emb x 1).val = o := by
    intro o inb x
    have hx1 : (x 1).val < 1 := (x 1).isLt
    show o + 1 * (x 1).val = o; omega
  -- the block's value at a cell of plane `o`
  have lo : ∀ (o : Fin 3) (inb) (x : S1x1x64x256.Idx), blockE bg R ((Rect.unit (s := S1x5x64x256) ![0, o.val, 0, 0] S1x1x64x256.size inb).emb x)
      = R.2 (ValueIdx.ix3 ⟨o.val, by omega⟩ ⟨(x 3).val, (x 3).isLt⟩ ⟨(x 2).val, lt_trans (x 2).isLt (by decide : 64 < 128)⟩)
        + Ideal.exp2 (R.1 (ValueIdx.ix2 ⟨(x 3).val, (x 3).isLt⟩ ⟨(x 2).val, lt_trans (x 2).isLt (by decide : 64 < 128)⟩)) * bg o := by
    intro o inb x
    unfold blockE
    rw [dif_pos (by rw [e1]; exact o.isLt), ix]
    refine congrArg₂ (· + ·) (congrArg R.2 ?_) (congrArg (Ideal.exp2 _ * bg ·) (Fin.ext (e1 _ _ _)))
    funext a; apply Fin.ext
    match a with
    | ⟨0, _⟩ => exact e1 _ _ _
    | ⟨1, _⟩ => show 0 + 1 * (x 3).val = (x 3).val; omega
    | ⟨2, _⟩ => show 0 + 1 * (x 2).val = (x 2).val; omega
  refine View.read_writes_apply_of_pieces arg6.view f5 (blockE bg R) _ (fun p hp x => ?_) y ?_
  · simp only [List.mem_cons, List.not_mem_nil, _root_.or_false] at hp
    rcases hp with rfl | rfl | rfl | rfl | rfl
    · refine (turned _ x).trans ((plane_apply _ _ _).trans ?_)
      show _ = blockE bg R ((Rect.unit (s := S1x5x64x256) ![0, 4, 0, 0] S1x1x64x256.size i4).emb x)
      unfold blockE
      rw [dif_neg (by rw [e1]; decide), if_neg (by rw [e1]; decide)]
      refine congrArg R.2 ?_
      funext a; apply Fin.ext
      match a with
      | ⟨0, _⟩ => rfl
      | ⟨1, _⟩ => show (x 3).val = 0 + 1 * (x 3).val; omega
      | ⟨2, _⟩ => show (x 2).val = 0 + 1 * (x 2).val; omega
    · refine (turned (mulf R.1 (broadcast S256x128 ((Real.log 2 : ℝ) : EReal))) x).trans ?_
      show _ = blockE bg R ((Rect.unit (s := S1x5x64x256) ![0, 3, 0, 0] S1x1x64x256.size i3).emb x)
      unfold blockE
      rw [dif_neg (by rw [e1]; decide), if_pos (e1 _ _ _), ix]
      rfl
    · refine (turned (addf (shapeCast S256x128 (plane4 R.2 2) shapeCasts_S1x256x128_S256x128) (mulf (exp2 R.1) (broadcast S256x128 (bg 2)))) x).trans ?_
      refine Eq.trans ?_ (lo 2 i2 x).symm
      exact congrArg (· + _) (plane_apply _ _ _)
    · refine (turned (addf (shapeCast S256x128 (plane4 R.2 1) shapeCasts_S1x256x128_S256x128) (mulf (exp2 R.1) (broadcast S256x128 (bg 1)))) x).trans ?_
      refine Eq.trans ?_ (lo 1 i1 x).symm
      exact congrArg (· + _) (plane_apply _ _ _)
    · refine (turned (addf (shapeCast S256x128 (plane4 R.2 0) shapeCasts_S1x256x128_S256x128) (mulf (exp2 R.1) (broadcast S256x128 (bg 0)))) x).trans ?_
      refine Eq.trans ?_ (lo 0 i0 x).symm
      exact congrArg (· + _) (plane_apply _ _ _)
  · have hc : (y 1).val = 4 ∨ (y 1).val = 3 ∨ (y 1).val = 2 ∨ (y 1).val = 1 ∨ (y 1).val = 0 := by omega
    rcases hc with h | h | h | h | h
    · exact ⟨_, .head _, mem 4 i4 h⟩
    · exact ⟨_, .tail _ (.head _), mem 3 i3 h⟩
    · exact ⟨_, .tail _ (.tail _ (.head _)), mem 2 i2 h⟩
    · exact ⟨_, .tail _ (.tail _ (.tail _ (.head _))), mem 1 i1 h⟩
    · exact ⟨_, .tail _ (.tail _ (.tail _ (.tail _ (.head _)))), mem 0 i0 h⟩

/-- The word read at a background cell. -/
theorem bg_read (xb : Vec Ideal S12 .f32) (fb : BufTy.Contents (Elt Ideal) arg4.view.ty) (hf : arg4.view.read (Elt Ideal) fb = xb) (n : Fin 3) (off : Fin 1 → ℕ)
    (ho : off 0 = 3 * (i 0).val + n.val) (inb) (y : S1.Idx) :
    (arg4.view.readAt (Elt Ideal) (Rect.unit (s := S12) off S1.size inb).toLoadRect fb y : EReal) = bgW i xb n := by
  subst hf
  refine (View.readAt_apply _ _ _).trans (congrArg _ ?_)
  have hy : (y 0).val = 0 := by have := (y 0).isLt; change (y 0).val < 1 at this; omega
  funext a; apply Fin.ext
  match a with
  | ⟨0, _⟩ => show off 0 + 1 * (y 0).val = 3 * (i 0).val + n.val; omega

set_option maxHeartbeats 1600000 in
theorem sound_kernel (x0 : Vec Ideal S64 .i32) (h : (cntW i x0).toInt ≤ 36) (x1 : Vec Ideal S1x36x144x128 .i32) (x2 : Vec Ideal S1x36x128 .i32) (xb : Vec Ideal S12 .f32) (x3 : Vec Ideal S2048x256 .bf16) :
    iprop(owns (c : Thread nD τ) arg1 fullShare x0 ∗ owns (c : Thread nD τ) arg2 fullShare x1 ∗ owns (c : Thread nD τ) arg3 fullShare x2
        ∗ owns (c : Thread nD τ) arg4 fullShare xb ∗ owns (c : Thread nD τ) arg5 fullShare x3 ∗ (∃ d, owns (c : Thread nD τ) arg6 fullShare d)
        ∗ heldAny c arg7 ∗ heldAny c arg8 ∗ heldAny c arg9 ∗ heldAny c arg10 ∗ heldAny c arg11 ∗ heldAny c arg12 ∗ heldAny c arg13)
      ⊢ wp frame (wpE (defs₀ (F := Ideal)) 𝒱₀ (c : Thread nD τ) none) Set.univ
          (cc0_splat_blend (F := Ideal) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x0 ∗ owns (c : Thread nD τ) arg2 fullShare x1 ∗ owns (c : Thread nD τ) arg3 fullShare x2
        ∗ owns (c : Thread nD τ) arg4 fullShare xb ∗ owns (c : Thread nD τ) arg5 fullShare x3 ∗ owns (c : Thread nD τ) arg6 fullShare (blockE (bgW i xb) (runE x3 x1 x2 (cntW i x0).toInt.toNat))
        ∗ heldAny c arg7 ∗ heldAny c arg8 ∗ heldAny c arg9 ∗ heldAny c arg10 ∗ heldAny c arg11 ∗ heldAny c arg12 ∗ heldAny c arg13)) := by
  simp only [cc0_splat_blend_eq_skeleton]; unfold cc0_splat_blend_skel
  simp only [k0_part71_eq_skeleton, k0_part72_eq_skeleton]
  unfold owns
  iintro ⟨⟨%f1, %hf1, H1⟩, ⟨%f2, %hf2, H2⟩, ⟨%f3, %hf3, H3⟩, ⟨%fb, %hfb, HB⟩, ⟨%f4, %hf4, H4⟩, ⟨%d5, %f5, -, H5⟩, ⟨%f6, H6⟩, ⟨%f7, H7⟩, ⟨%f8, H8⟩, ⟨%f9, H9⟩, ⟨%f10, H10⟩, ⟨%f11, H11⟩, ⟨%f12, H12⟩⟩
  sl_exec
  have hcnt : (sound_kernel.sl.r c i arg1 f1 : BitVec 32) = cntW i x0 := by
    unfold sound_kernel.sl.r
    exact count_eq i arg1 x0 f1 hf1 _
  have hle : (sound_kernel.sl.r c i arg1 f1 : BitVec 32).toInt ≤ 36 := by rw [hcnt]; exact h
  have hchk : k0_chk1 (sound_kernel.sl.r c i arg1 f1) := chk_of_le _ hle
  have htr : (k0_t1_loop (sound_kernel.sl.r c i arg1 f1)).trips ≤ 36 := by rw [trips1_eq]; omega
  have h8 := rest_zero arg9 f8 inb_S256x256_S112x256_144_0
  have h11 := logt_zero arg2 arg3 arg5 arg12 f2 f3 f4 arg12.view.junk inb_S256x128_S256x128_0_0
  have h12 := osum_zero arg2 arg3 arg5 arg13 f2 f3 f4 arg13.view.junk inb_S4x256x128_S4x256x128_0_0_0
  unfold heldAt
  sl_exec
  have hOut : arg6.view.read (Elt Ideal) (arg6.view.writes (Elt Ideal) f5
      [⟨Rect.unit (s := S1x5x64x256) ![0, 4, 0, 0] ![1, 1, 64, 256] inb_S1x5x64x256_S1x1x64x256_0_4_0_0,
          k0_pay2 (F := Ideal) (View.readAt (Elt Ideal) arg13.view (Rect.unit (s := S4x256x128) ![3, 0, 0] ![1, 256, 128] inb_S4x256x128_S1x256x128_3_0_0).toLoadRect fL13)⟩,
        ⟨Rect.unit (s := S1x5x64x256) ![0, 3, 0, 0] ![1, 1, 64, 256] inb_S1x5x64x256_S1x1x64x256_0_3_0_0, k0_pay1 (F := Ideal) (sound_kernel.sl.r_2 arg12 fL12) sound_kernel.sl.cst_35⟩,
        ⟨Rect.unit (s := S1x5x64x256) ![0, 2, 0, 0] S1x1x64x256.size inb_S1x5x64x256_S1x1x64x256_0_2_0_0,
          k0_pay1207 (F := Ideal) (sound_kernel.sl.r_3 arg12 fL12)
            (View.readAt (Elt Ideal) arg13.view (Rect.unit (s := S4x256x128) ![2, 0, 0] S1x256x128.size inb_S4x256x128_S1x256x128_2_0_0).toLoadRect fL13)
            (sound_kernel.sl.r_7 c i arg4 fb)⟩,
        ⟨Rect.unit (s := S1x5x64x256) ![0, 1, 0, 0] S1x1x64x256.size inb_S1x5x64x256_S1x1x64x256_0_1_0_0,
          k0_pay1206 (F := Ideal) (sound_kernel.sl.r_3 arg12 fL12)
            (View.readAt (Elt Ideal) arg13.view (Rect.unit (s := S4x256x128) ![1, 0, 0] S1x256x128.size inb_S4x256x128_S1x256x128_1_0_0).toLoadRect fL13)
            (sound_kernel.sl.r_6 c i arg4 fb)⟩,
        ⟨Rect.unit (s := S1x5x64x256) ![0, 0, 0, 0] S1x1x64x256.size inb_S1x5x64x256_S1x1x64x256_0_0_0_0,
          k0_pay1205 (F := Ideal) (sound_kernel.sl.r_4 arg13 fL13) (sound_kernel.sl.r_5 c i arg4 arg12 fb fL12)⟩])
      = blockE (bgW i xb) (runE x3 x1 x2 (cntW i x0).toInt.toNat) := by
    subst hf2 hf3 hf4
    rw [trips1_eq, hcnt] at hL24 hL26
    have hLd := load_all arg12 fL12 _ hL24
    refine out_written arg6 f5 (bgW i xb) _ _ _ _ _ _ _ _ _ _ _ ?_ ?_ ?_ ?_ ?_ ?_ ?_ ?_ ?_ ?_ _ _ _ _ _
    · unfold sound_kernel.sl.r_2
      exact hLd _
    · unfold sound_kernel.sl.r_3
      rw [hLd]
    · unfold sound_kernel.sl.r_4
      exact congrArg (k0_pay1203 (F := Ideal)) (load_plane arg13 fL13 _ hL26 0 0 rfl _)
    · unfold sound_kernel.sl.r_5
      exact congrArg₂ (k0_pay1204 (F := Ideal)) (hLd _) (bg_read i arg4 xb fb hfb 0 _ (by have := (by decide : ∀ n : Fin 4, (Scalar.indexCast (Scalar.addi (Scalar.muli (BitVec.ofNat 32 n.val) 3#32) 0#32)).toNat = 3 * n.val + 0) (i 0); exact this) _ _)
    · exact load_plane arg13 fL13 _ hL26 1 1 rfl _
    · exact load_plane arg13 fL13 _ hL26 2 2 rfl _
    · exact load_plane arg13 fL13 _ hL26 3 3 rfl _
    · unfold sound_kernel.sl.r_6
      exact bg_read i arg4 xb fb hfb 1 _ (by have := (by decide : ∀ n : Fin 4, (Scalar.indexCast (Scalar.addi (Scalar.muli (BitVec.ofNat 32 n.val) 3#32) 1#32)).toNat = 3 * n.val + 1) (i 0); exact this) _ _
    · unfold sound_kernel.sl.r_7
      exact bg_read i arg4 xb fb hfb 2 _ (by have := (by decide : ∀ n : Fin 4, (Scalar.indexCast (Scalar.addi (Scalar.muli (BitVec.ofNat 32 n.val) 3#32) 2#32)).toNat = 3 * n.val + 2) (i 0); exact this) _ _
    · exact named_ln2
  sl_step
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [HB]; · iexists fb; isplitr; · ipureintro; exact hfb
                  iexact HB
  isplitl [H4]; · iexists f4; isplitr; · ipureintro; exact hf4
                  iexact H4
  isplitl [H5]; · iexists _; isplitr
                  on_goal 2 => iexact H5
                  ipureintro; exact hOut
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Body

end Cert.Proof.KernelIdeal

end
-- ==== Proof.IdealRun.lean ====
/-
  The run of `KernelIdeal` from the body's triple: at every point the body ends, provided that the count word it reads is at
  most 36, with the inputs as it found them and the output block at what `blockE` says. The frame claim and the contents of
  the result follow.
-/
module

public import proofs.«01_k».proof.Proof.IdealBody
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

local notation "𝕄" => MT nD τ sig Unit (Elt Ideal) ℕ (UR sig nD τ) ℕ

/-! ## The pipeline's proof data -/

variable (m : (ℓ : Loc nD τ sig) → Buf (Elt Ideal) ℓ) (ρ : Dev nD → PrngReg)

/-- The proof data: the inputs' buffers at their blocks after the body, the output's at what is said. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockE (bgW (grid0.coords t) (iblk m c 3 t)) (runE (iblk m c 4 t) (iblk m c 1 t) (iblk m c 2 t) (cntW (grid0.coords t) (iblk m c 0 t)).toInt.toNat)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = blockE (bgW (grid0.coords t) (iblk m c 3 t)) (runE (iblk m c 4 t) (iblk m c 1 t) (iblk m c 2 t) (cntW (grid0.coords t) (iblk m c 0 t)).toInt.toNat) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The count of every batch, read off the launch memory, is at most 36. -/
def CountsLe : Prop := ∀ (c : Dev nD) (j : S64.Idx), 16 ∣ (j 0).val → (m ((c : Thread nD τ).loc main_arg0) j : BitVec 32).toInt ≤ 36

/-- The block of the counts is the array of the counts. -/
theorem iblk_0 (c : Dev nD) (t : Fin cfg0.N) : (iblk m c 0 t : S64.Idx → BitVec 32) = (m ((c : Thread nD τ).loc main_arg0) : S64.Idx → BitVec 32) := by
  rw [← V_main_arg0 m c]
  unfold iblk
  funext j
  show V m c main_arg0 (((cfg0.win 0).blk t).view.emb j) = V m c main_arg0 j
  congr 1
  funext a; apply Fin.ext
  match a with
  | ⟨0, _⟩ => show win0_0.index t (0 : Fin 1) * 64 + 1 * (j 0).val = (j 0).val
              rw [show win0_0.index t (0 : Fin 1) = 0 from rfl]; omega

theorem countOK (h : CountsLe m) (c : Dev nD) (t : Fin cfg0.N) : (cntW (grid0.coords t) (iblk m c 0 t)).toInt ≤ 36 := by
  unfold cntW
  rw [iblk_0]
  exact h c _ ⟨_, rfl⟩

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
theorem sound_body (h : CountsLe m) (c : Dev nD) (t : Fin cfg0.N) :
    bodyPre m c t ⊢ wp frame (wpE (defs₀ (F := Ideal)) 𝒱₀ (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl]
  unfold Pipeline.ΦA
  rw [scopedRest0_eq]
  iintro ⟨⟨⟨HS0, HS1, HS2, HS3, HS4, HS5, HS6⟩, Hr⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := Ideal)) 𝒱₀ (c : Thread nD τ) none) Set.univ)
  isplitl [H0 H1 H2 H3 H4 H5 HS0 HS1 HS2 HS3 HS4 HS5 HS6]
  · iapply (sound_kernel c (grid0.coords t) _ _ _ _ _ _ _ _ _ _ _ _ _ _ _ _ _ _ _ _ _ _ _ _ _ _ (iblk m c 0 t) (countOK m h c t) (iblk m c 1 t) (iblk m c 2 t) (iblk m c 3 t) (iblk m c 4 t))
    unfold heldAny heldAt
    simp only [Memref.view_whole, View.set_whole]
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    iexact HS6
  · unfold heldAny heldAt
    simp only [Memref.view_whole, View.set_whole]
    iintro %_ ⟨H0, H1, H2, H3, H4, H5, HS0, HS1, HS2, HS3, HS4, HS5, HS6⟩
    isplitl [HS0 HS1 HS2 HS3 HS4 HS5 HS6 Hr]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := Ideal) .tc cfg0.body (cfg0.bodyArgs t (cfg0.slots t)) = bodyAt0 t := by
  unfold defs₀; rw [Defs.onTc_tc]

set_option maxHeartbeats 1600000 in
theorem body_obligation (h : CountsLe m) (c : Dev nD) : BodyObligation (dats m 0 c) (defs₀ (F := Ideal)) 𝒱₀ () Set.univ := fun t => by
  rw [bigSep_W0, bigSep_W0, defs₀_row]
  refine triple_restated (sound_body m h c t) ?_ ?_ ?_
  · rfl
  · exact .rfl
  · exact fun _ => .rfl

/-! ## The run, the frame and the result -/

set_option backward.isDefEq.respectTransparency.types false in
set_option maxHeartbeats 800000 in
theorem run (h : CountsLe m) : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m h c).loose) (hshare := fun c => (dats m 0 c).share_full fun _ => rfl)
    (howed := fun _ _ => rfl) (V := V m) (hmain := hmain m 𝒱₀) (hA := A_eq m) (hΦ := fun _ _ => rfl)

/-- THE FRAME: from any launch whose counts are at most 36 the run ends with the arguments unchanged and every
    semaphore at zero. -/
theorem frame (h : CountsLe m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c =>
    ⟨(hr.1 c |>.1 0).trans (((dats m 0 c).arrAt_in 0 rfl _).trans ((A_eq m c 0).trans (V_main_arg0 m c))),
     (hr.1 c |>.1 1).trans (((dats m 0 c).arrAt_in 1 rfl _).trans ((A_eq m c 1).trans (V_main_arg1 m c))),
     (hr.1 c |>.1 2).trans (((dats m 0 c).arrAt_in 2 rfl _).trans ((A_eq m c 2).trans (V_main_arg2 m c))),
     (hr.1 c |>.2 main_arg3 (Pipeline.mem_restRefs_of main_arg3 (by decide) (by decide))).trans (V_main_arg3 m c)⟩, hr.2⟩) (run m ρ h)

/-- The words of batch `b`. -/
def batchW (A1 : S4x36x144x128.Idx → BitVec 32) (b : Fin 4) : S1x36x144x128.Idx → BitVec 32 :=
  fun x => A1 (ValueIdx.ix4 b ⟨(x 1).val, (x 1).isLt⟩ ⟨(x 2).val, (x 2).isLt⟩ ⟨(x 3).val, (x 3).isLt⟩)

/-- The tile numbers of batch `b`. -/
def batchT (A2 : S4x36x128.Idx → BitVec 32) (b : Fin 4) : S1x36x128.Idx → BitVec 32 :=
  fun x => A2 (ValueIdx.ix3 b ⟨(x 1).val, (x 1).isLt⟩ ⟨(x 2).val, (x 2).isLt⟩)

/-- What the result holds of batch `b`: the block over the state after the batch's groups. -/
def resultB (B : S2048x256.Idx → EReal) (A0 : S64.Idx → BitVec 32) (A1 : S4x36x144x128.Idx → BitVec 32) (A2 : S4x36x128.Idx → BitVec 32)
    (A3 : S4x3.Idx → EReal) (b : Fin 4) : S1x5x64x256.Idx → EReal :=
  blockE (fun n => A3 (ValueIdx.ix2 b n)) (runE B (batchW A1 b) (batchT A2 b) (A0 (ValueIdx.ix1 ⟨16 * b.val, by omega⟩)).toInt.toNat)

/-- What the result holds. -/
def resultE (B : S2048x256.Idx → EReal) (A0 : S64.Idx → BitVec 32) (A1 : S4x36x144x128.Idx → BitVec 32) (A2 : S4x36x128.Idx → BitVec 32)
    (A3 : S4x3.Idx → EReal) : S4x5x64x256.Idx → EReal := fun y =>
  resultB B A0 A1 A2 A3 ⟨(y 0).val, (y 0).isLt⟩ (ValueIdx.ix4 0 ⟨(y 1).val, (y 1).isLt⟩ ⟨(y 2).val, (y 2).isLt⟩ ⟨(y 3).val, (y 3).isLt⟩)

/-- A cell of a batch's output block is the cell of the result. -/
theorem resultB_eq (B : S2048x256.Idx → EReal) (A0 : S64.Idx → BitVec 32) (A1 : S4x36x144x128.Idx → BitVec 32) (A2 : S4x36x128.Idx → BitVec 32) (A3 : S4x3.Idx → EReal)
    (g : Fin 4) (y : S1x5x64x256.Idx) (b : S4x5x64x256.Idx) (h0 : (b 0).val = g.val) (h1 : (b 1).val = (y 1).val) (h2 : (b 2).val = (y 2).val)
    (h3 : (b 3).val = (y 3).val) : resultB B A0 A1 A2 A3 g y = resultE B A0 A1 A2 A3 b := by
  obtain rfl : g = ⟨(b 0).val, (b 0).isLt⟩ := Fin.ext h0.symm
  have hy : (y 0).val < 1 := (y 0).isLt
  unfold resultE
  congr 1
  funext a; apply Fin.ext
  match a with
  | ⟨0, _⟩ => show (y 0).val = 0; omega
  | ⟨1, _⟩ => exact h1.symm
  | ⟨2, _⟩ => exact h2.symm
  | ⟨3, _⟩ => exact h3.symm

theorem index_facts : ∀ t : Fin cfg0.N, win0_5.index t = ![(grid0.coords t 0).val, 0, 0, 0] ∧ win0_1.index t = ![(grid0.coords t 0).val, 0, 0, 0]
    ∧ win0_2.index t = ![(grid0.coords t 0).val, 0, 0] ∧ win0_4.index t = ![0, 0] ∧ win0_3.index t = ![0] := by decide +kernel

theorem iblk_1 (c : Dev nD) (t : Fin cfg0.N) : (iblk m c 1 t : S1x36x144x128.Idx → BitVec 32)
    = batchW (m ((c : Thread nD τ).loc main_arg1)) (grid0.coords t 0) := by
  unfold batchW
  rw [← V_main_arg1 m c]
  funext j
  have hj : (j 0).val < 1 := (j 0).isLt
  show V m c main_arg1 (((cfg0.win 1).blk t).view.emb j) = V m c main_arg1 _
  congr 1
  funext a; apply Fin.ext
  match a with
  | ⟨0, _⟩ => show win0_1.index t (0 : Fin 4) * 1 + 1 * (j 0).val = (grid0.coords t 0).val
              rw [(index_facts t).2.1]; show (grid0.coords t 0).val * 1 + 1 * (j 0).val = _; omega
  | ⟨1, _⟩ => show win0_1.index t (1 : Fin 4) * 36 + 1 * (j 1).val = (j 1).val
              rw [(index_facts t).2.1]; show 0 * 36 + 1 * (j 1).val = _; omega
  | ⟨2, _⟩ => show win0_1.index t (2 : Fin 4) * 144 + 1 * (j 2).val = (j 2).val
              rw [(index_facts t).2.1]; show 0 * 144 + 1 * (j 2).val = _; omega
  | ⟨3, _⟩ => show win0_1.index t (3 : Fin 4) * 128 + 1 * (j 3).val = (j 3).val
              rw [(index_facts t).2.1]; show 0 * 128 + 1 * (j 3).val = _; omega

theorem iblk_2 (c : Dev nD) (t : Fin cfg0.N) : (iblk m c 2 t : S1x36x128.Idx → BitVec 32)
    = batchT (m ((c : Thread nD τ).loc main_arg2)) (grid0.coords t 0) := by
  unfold batchT
  rw [← V_main_arg2 m c]
  funext j
  have hj : (j 0).val < 1 := (j 0).isLt
  show V m c main_arg2 (((cfg0.win 2).blk t).view.emb j) = V m c main_arg2 _
  congr 1
  funext a; apply Fin.ext
  match a with
  | ⟨0, _⟩ => show win0_2.index t (0 : Fin 3) * 1 + 1 * (j 0).val = (grid0.coords t 0).val
              rw [(index_facts t).2.2.1]; show (grid0.coords t 0).val * 1 + 1 * (j 0).val = _; omega
  | ⟨1, _⟩ => show win0_2.index t (1 : Fin 3) * 36 + 1 * (j 1).val = (j 1).val
              rw [(index_facts t).2.2.1]; show 0 * 36 + 1 * (j 1).val = _; omega
  | ⟨2, _⟩ => show win0_2.index t (2 : Fin 3) * 128 + 1 * (j 2).val = (j 2).val
              rw [(index_facts t).2.2.1]; show 0 * 128 + 1 * (j 2).val = _; omega

theorem iblk_4 (c : Dev nD) (t : Fin cfg0.N) : (iblk m c 4 t : S2048x256.Idx → EReal) = V m c main_v53 := by
  funext j
  show V m c main_v53 (((cfg0.win 4).blk t).view.emb j) = V m c main_v53 j
  congr 1
  funext a; apply Fin.ext
  match a with
  | ⟨0, _⟩ => show win0_4.index t (0 : Fin 2) * 2048 + 1 * (j 0).val = (j 0).val
              rw [(index_facts t).2.2.2.1]; show 0 * 2048 + 1 * (j 0).val = _; omega
  | ⟨1, _⟩ => show win0_4.index t (1 : Fin 2) * 256 + 1 * (j 1).val = (j 1).val
              rw [(index_facts t).2.2.2.1]; show 0 * 256 + 1 * (j 1).val = _; omega

theorem iblk_3 (c : Dev nD) (t : Fin cfg0.N) : (iblk m c 3 t : S12.Idx → EReal) = V m c main_v0 := by
  funext j
  show V m c main_v0 (((cfg0.win 3).blk t).view.emb j) = V m c main_v0 j
  congr 1
  funext a; apply Fin.ext
  match a with
  | ⟨0, _⟩ => show win0_3.index t (0 : Fin 1) * 12 + 1 * (j 0).val = (j 0).val
              rw [(index_facts t).2.2.2.2]; show 0 * 12 + 1 * (j 0).val = _; omega

/-- The background's words as the kernel finds them are the argument's, row by row. -/
theorem bg_eq (c : Dev nD) (i : grid0.Coords) : bgW i (V m c main_v0) = fun n => (m ((c : Thread nD τ).loc main_arg3) : S4x3.Idx → EReal) (ValueIdx.ix2 (i 0) n) := by
  have hv : V m c main_v0 = shapeCast S12 (m ((c : Thread nD τ).loc main_arg3) : S4x3.Idx → EReal) shapeCasts_S4x3_S12 := by
    rw [← V_main_arg3 m c]
    sl_kernel_rfl
  funext n
  unfold bgW
  rw [hv]
  refine shapeCast_apply (s := S4x3) _ _ _ _ ?_
  rw [Shape.rowMajor_val_two, Shape.rowMajor_val_one]
  show (i 0).val * 3 + n.val = 3 * (i 0).val + n.val
  omega

/-- The result's array after the run. -/
theorem final (c : Dev nD) : (dats m 0 c).arrAt 5 cfg0.N
    = resultE (V m c main_v53) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, iblk_0, iblk_1, iblk_2, iblk_3, iblk_4, bg_eq]
  have hy : (y 0).val < 1 := (y 0).isLt
  refine resultB_eq _ _ _ _ _ (grid0.coords t 0) y _ ?_ ?_ ?_ ?_
  · show win0_5.index t (0 : Fin 4) * 1 + 1 * (y 0).val = _
    rw [(index_facts t).1]; show (grid0.coords t 0).val * 1 + 1 * (y 0).val = _; omega
  · show win0_5.index t (1 : Fin 4) * 5 + 1 * (y 1).val = _
    rw [(index_facts t).1]; show 0 * 5 + 1 * (y 1).val = _; omega
  · show win0_5.index t (2 : Fin 4) * 64 + 1 * (y 2).val = _
    rw [(index_facts t).1]; show 0 * 64 + 1 * (y 2).val = _; omega
  · show win0_5.index t (3 : Fin 4) * 256 + 1 * (y 3).val = _
    rw [(index_facts t).1]; show 0 * 256 + 1 * (y 3).val = _; omega

/-- THE VALUE: the run ends with the result holding `resultE` over the launch memory, and the arguments unchanged. -/
theorem value (h : CountsLe m) : θ_run defs (onTc (τ := τ) (main (F := Ideal))) ⟨m, fun _ => 0, ρ⟩ (fun r => ∀ c : Dev nD,
      r.2.mem ((c.tc : Thread nD τ).loc main_v54)
        = resultE (V m c main_v53) (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
    ⟨(hr.1 c |>.1 5).trans (final m c),
     (hr.1 c |>.1 0).trans (((dats m 0 c).arrAt_in 0 rfl _).trans ((A_eq m c 0).trans (V_main_arg0 m c))),
     (hr.1 c |>.1 1).trans (((dats m 0 c).arrAt_in 1 rfl _).trans ((A_eq m c 1).trans (V_main_arg1 m c))),
     (hr.1 c |>.1 2).trans (((dats m 0 c).arrAt_in 2 rfl _).trans ((A_eq m c 2).trans (V_main_arg2 m c))),
     (hr.1 c |>.2 main_arg3 (Pipeline.mem_restRefs_of main_arg3 (by decide) (by decide))).trans (V_main_arg3 m c)⟩) (run m ρ h)

end Cert.Proof.KernelIdeal

end
-- ==== Proof.RefModel.lean ====
/-
  What the reference's kernel body computes: the trips of its loop, said as one step on six arrays.
-/
module

public import proofs.«01_k».proof.Proof.IdealRun
public import proofs.«01_k».proof.Proof.Gen.ReferenceIdeal.Frame

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL

abbrev Arr := FVec Ideal S4x64x256 .f32
abbrev State := Arr × Arr × Arr × Arr × Arr × Arr

/-- The tile of each place. -/
abbrev tileV : IVec S4x64x256 32 := iota .tc S4x64x256 32 [1] iota_S4x64x256_d1_w32

/-- A splat's opacity over all the images, tiles and pixels, from the loads. -/
def alphaV (k : Fin k0_t1_loop.trips) (C : Vec Ideal S4x1x1 .i32) (T : Vec Ideal S1x4x1 .i32) (w : Fin 9 → Vec Ideal S1x1x4x1 .i32) : Arr :=
  k0_pay10 (k0_pay5 (F := Ideal) tileV 0#32 1#32 k T C) (k0_pay6 k0_pay17 (w 0)) (k0_pay7 k0_pay18 (w 1)) (k0_pay8 k0_pay17 (w 0) (w 2)) (k0_pay9 (w 4)) (w 3) (w 5)

/-- One trip. -/
def stepV (k : Fin k0_t1_loop.trips) (C : Vec Ideal S4x1x1 .i32) (T : Vec Ideal S1x4x1 .i32) (w : Fin 9 → Vec Ideal S1x1x4x1 .i32) (s : State) : State :=
  (k0_pay21 s.1 (alphaV k C T w), k0_pay22 s.2.1 (alphaV k C T w),
    k0_pay23 s.2.2.1 (mulf (alphaV k C T w) s.1) (k0_pay13 (k0_pay12 (w 6)) (w 7)),
    k0_pay24 s.2.2.2.1 (mulf (alphaV k C T w) s.1) (k0_pay14 (w 6) (w 7)),
    k0_pay25 s.2.2.2.2.1 (mulf (alphaV k C T w) s.1) (k0_pay15 (w 6) (w 7)),
    k0_pay26 s.2.2.2.2.2 (mulf (alphaV k C T w) s.1) (k0_pay16 (F := Ideal) (w 8)))

variable (c : Dev nD) (arg0 : Memref sig .tc .vmem S4x1x1 .i32) (harg0 : arg0.IsWhole) (arg1 : Memref sig .tc .vmem S73728x9x4x1 .i32) (harg1 : arg1.IsWhole)
  (arg2 : Memref sig .tc .vmem S73728x4x1 .i32) (harg2 : arg2.IsWhole) (arg3 : Memref sig .tc .vmem S3x4x1x1 .f32) (harg3 : arg3.IsWhole)
  (arg4 : Memref sig .tc .vmem S4x5x64x256 .f32) (harg4 : arg4.IsWhole)

section Loads

variable (x0 : Vec Ideal S4x1x1 .i32) (x1 : Vec Ideal S73728x9x4x1 .i32) (x2 : Vec Ideal S73728x4x1 .i32)

/-- The loads of trip `k`. -/
def wordX (n : ℕ) (hn : n < 73728) (w : Fin 9) : Vec Ideal S1x1x4x1 .i32 := fun y => x1 (ValueIdx.ix4 ⟨n, hn⟩ w ⟨(y 2).val, (y 2).isLt⟩ (0 : Fin 1))
def tileX (n : ℕ) (hn : n < 73728) : Vec Ideal S1x4x1 .i32 := fun y => x2 (ValueIdx.ix3 ⟨n, hn⟩ ⟨(y 1).val, (y 1).isLt⟩ (0 : Fin 1))

theorem iv_toNat (n : ℕ) (hn : n < 73728) : (Scf.iv (0#32) (1#32) n).toNat = n := by
  unfold Scf.iv
  rw [BitVec.mul_one, BitVec.zero_add, BitVec.toNat_ofNat]
  exact Nat.mod_eq_of_lt (by omega)

theorem load_word (n : ℕ) (hn : n < 73728) (w : Fin 9) (off : Fin 4 → ℕ) (ho : off = ![(Scf.iv (0#32) (1#32) n).toNat, w.val, 0, 0]) (inb) :
    View.readAt (Elt Ideal) arg1.view (Rect.unit (s := S73728x9x4x1) off S1x1x4x1.size inb).toLoadRect (harg1.unread x1) = wordX x1 n hn w := by
  subst ho
  funext y
  refine (congrFun (harg1.read_unread x1) _).trans (congrArg x1 (funext fun a => Fin.ext ?_))
  have h0 : (y 0).val < 1 := (y 0).isLt
  have h1 : (y 1).val < 1 := (y 1).isLt
  have h3 : (y 3).val < 1 := (y 3).isLt
  match a with
  | ⟨0, _⟩ => show (Scf.iv (0#32) (1#32) n).toNat + 1 * (y 0).val = n; exact (congrArg (fun z => z + 1 * (y 0).val) (iv_toNat n hn)).trans (by show n + 1 * (y 0).val = n; omega)
  | ⟨1, _⟩ => show w.val + 1 * (y 1).val = w.val; omega
  | ⟨2, _⟩ => show 0 + 1 * (y 2).val = (y 2).val; omega
  | ⟨3, _⟩ => show 0 + 1 * (y 3).val = 0; omega

theorem load_tile (n : ℕ) (hn : n < 73728) (off : Fin 3 → ℕ) (ho : off = ![(Scf.iv (0#32) (1#32) n).toNat, 0, 0]) (inb) :
    View.readAt (Elt Ideal) arg2.view (Rect.unit (s := S73728x4x1) off S1x4x1.size inb).toLoadRect (harg2.unread x2) = tileX x2 n hn := by
  subst ho
  funext y
  refine (congrFun (harg2.read_unread x2) _).trans (congrArg x2 (funext fun a => Fin.ext ?_))
  have h0 : (y 0).val < 1 := (y 0).isLt
  have h2 : (y 2).val < 1 := (y 2).isLt
  match a with
  | ⟨0, _⟩ => show (Scf.iv (0#32) (1#32) n).toNat + 1 * (y 0).val = n; exact (congrArg (fun z => z + 1 * (y 0).val) (iv_toNat n hn)).trans (by show n + 1 * (y 0).val = n; omega)
  | ⟨1, _⟩ => show 0 + 1 * (y 1).val = (y 1).val; omega
  | ⟨2, _⟩ => show 0 + 1 * (y 2).val = 0; omega

theorem load_count (inb) :
    View.readAt (Elt Ideal) arg0.view (Rect.unit (s := S4x1x1) ![0, 0, 0] S4x1x1.size inb).toLoadRect (harg0.unread x0) = x0 := by
  funext y
  refine (congrFun (harg0.read_unread x0) _).trans (congrArg x0 (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

set_option maxHeartbeats 2000000 in
theorem trip_eq (k : Fin k0_t1_loop.trips) (hk : k.val < 73728) (s : State) :
    tripR_k0_t1 (F := Ideal) Variants.none c none arg0 harg0 arg1 harg1 arg2 harg2 arg3 harg3 arg4 harg4 tileV (harg0.unread x0) (harg1.unread x1) (harg2.unread x2) k s
      = stepV k x0 (tileX x2 k.val hk) (wordX x1 k.val hk) s := by
  have key : ∀ C : Vec Ideal S4x1x1 .i32, C = View.readAt (Elt Ideal) arg0.view
        (Rect.unit (s := S4x1x1) ![0, 0, 0] S4x1x1.size inb_S4x1x1_S4x1x1_0_0_0).toLoadRect (harg0.unread x0) →
      tripR_k0_t1 (F := Ideal) Variants.none c none arg0 harg0 arg1 harg1 arg2 harg2 arg3 harg3 arg4 harg4 tileV (harg0.unread x0) (harg1.unread x1) (harg2.unread x2) k s
        = stepV k C (tileX x2 k.val hk) (wordX x1 k.val hk) s := by
    intro C hC
    rw [hC, ← load_tile arg2 harg2 x2 k.val hk (k0_off1 k) rfl (k0_off1_inb k)]
    unfold stepV alphaV
    rw [← load_word arg1 harg1 x1 k.val hk 0 (k0_off2 k) rfl (k0_off2_inb k), ← load_word arg1 harg1 x1 k.val hk 1 (k0_off3 k) rfl (k0_off3_inb k),
      ← load_word arg1 harg1 x1 k.val hk 2 (k0_off4 k) rfl (k0_off4_inb k), ← load_word arg1 harg1 x1 k.val hk 4 (k0_off5 k) rfl (k0_off5_inb k),
      ← load_word arg1 harg1 x1 k.val hk 3 (k0_off6 k) rfl (k0_off6_inb k), ← load_word arg1 harg1 x1 k.val hk 5 (k0_off7 k) rfl (k0_off7_inb k),
      ← load_word arg1 harg1 x1 k.val hk 6 (k0_off8 k) rfl (k0_off8_inb k), ← load_word arg1 harg1 x1 k.val hk 7 (k0_off9 k) rfl (k0_off9_inb k),
      ← load_word arg1 harg1 x1 k.val hk 8 (k0_off10 k) rfl (k0_off10_inb k)]
    sl_kernel_rfl
  exact key x0 (load_count arg0 harg0 x0 _).symm

/-- The state after `n` trips. -/
def init : State := (k0_pay20 (F := Ideal), k0_pay19 (F := Ideal), k0_pay19 (F := Ideal), k0_pay19 (F := Ideal), k0_pay19 (F := Ideal), k0_pay19 (F := Ideal))
theorem trips_eq : k0_t1_loop.trips = 73728 := by decide +kernel
def stateV : ℕ → State
  | 0 => init
  | n + 1 => if h : n < 73728 then stepV ⟨n, trips_eq ▸ h⟩ x0 (tileX x2 n h) (wordX x1 n h) (stateV n) else stateV n

theorem st_eq : ∀ n, n ≤ 73728 →
    st_k0_t1 (F := Ideal) Variants.none c none arg0 harg0 arg1 harg1 arg2 harg2 arg3 harg3 arg4 harg4 tileV (harg0.unread x0) (harg1.unread x1) (harg2.unread x2) init n
      = stateV x0 x1 x2 n
  | 0, _ => rfl
  | n + 1, h => by
    refine (st_k0_t1_succ (F := Ideal) Variants.none c none arg0 harg0 arg1 harg1 arg2 harg2 arg3 harg3 arg4 harg4 tileV (harg0.unread x0) (harg1.unread x1)
      (harg2.unread x2) init ⟨n, trips_eq ▸ h⟩).trans ?_
    rw [show stateV x0 x1 x2 (n + 1) = stepV ⟨n, trips_eq ▸ h⟩ x0 (tileX x2 n h) (wordX x1 n h) (stateV x0 x1 x2 n) from dif_pos h, ← st_eq n (by omega)]
    exact trip_eq c arg0 harg0 arg1 harg1 arg2 harg2 arg3 harg3 arg4 harg4 x0 x1 x2 ⟨n, trips_eq ▸ h⟩ h _

/-- The words of the background, one colour at a time. -/
def bgX (x3 : Vec Ideal S3x4x1x1 .f32) (n : Fin 3) : Vec Ideal S1x4x1x1 .f32 := fun y => x3 (ValueIdx.ix4 n ⟨(y 1).val, (y 1).isLt⟩ (0 : Fin 1) (0 : Fin 1))

theorem load_bg (x3 : Vec Ideal S3x4x1x1 .f32) (n : Fin 3) (o : ℕ) (ho : o = n.val) (inb) :
    View.readAt (Elt Ideal) arg3.view (Rect.unit (s := S3x4x1x1) ![o, 0, 0, 0] S1x4x1x1.size inb).toLoadRect (harg3.unread x3) = bgX x3 n := by
  funext y
  refine (congrFun (harg3.read_unread x3) _).trans (congrArg x3 (funext fun a => Fin.ext ?_))
  have h0 : (y 0).val < 1 := (y 0).isLt
  have h2 : (y 2).val < 1 := (y 2).isLt
  have h3 : (y 3).val < 1 := (y 3).isLt
  match a with
  | ⟨0, _⟩ => show o + 1 * (y 0).val = n.val; omega
  | ⟨1, _⟩ => show 0 + 1 * (y 1).val = (y 1).val; omega
  | ⟨2, _⟩ => show 0 + 1 * (y 2).val = 0; omega
  | ⟨3, _⟩ => show 0 + 1 * (y 3).val = 0; omega

abbrev planeRect (q : ℕ) (inb : ∀ a, (![0, q, 0, 0] : Fin 4 → ℕ) a + S4x1x64x256.size a ≤ S4x5x64x256.size a) : Rect S4x5x64x256 := Rect.unit (s := S4x5x64x256) ![0, q, 0, 0] S4x1x64x256.size inb

/-- The pieces of the result. -/
def piecesV (x3 : Vec Ideal S3x4x1x1 .f32) (s : State) : List (View.Piece (Elt Ideal) S4x5x64x256 .f32) :=
  [⟨planeRect 4 inb_S4x5x64x256_S4x1x64x256_0_4_0_0, k0_pay4 s.2.2.2.2.2⟩,
   ⟨planeRect 3 inb_S4x5x64x256_S4x1x64x256_0_3_0_0, k0_pay3 s.2.1⟩,
   ⟨planeRect 2 inb_S4x5x64x256_S4x1x64x256_0_2_0_0, k0_pay2 s.1 s.2.2.2.2.1 (bgX x3 2)⟩,
   ⟨planeRect 1 inb_S4x5x64x256_S4x1x64x256_0_1_0_0, k0_pay1 s.1 s.2.2.2.1 (bgX x3 1)⟩,
   ⟨planeRect 0 inb_S4x5x64x256_S4x1x64x256_0_0_0_0, k0_pay27 s.1 s.2.2.1 (bgX x3 0)⟩]

set_option maxHeartbeats 2000000 in
theorem out_pieces (x3 : Vec Ideal S3x4x1x1 .f32) :
    (kernelRun0_A (F := Ideal) c arg0 harg0 arg1 harg1 arg2 harg2 arg3 harg3 arg4 harg4 x0 x1 x2 x3).1 = piecesV x3 (stateV x0 x1 x2 73728) := by
  rw [← st_eq c arg0 harg0 arg1 harg1 arg2 harg2 arg3 harg3 arg4 harg4 x0 x1 x2 73728 (le_refl _), ← trips_eq]
  unfold piecesV
  rw [← load_bg arg3 harg3 x3 0 0 rfl inb_S3x4x1x1_S1x4x1x1_0_0_0_0, ← load_bg arg3 harg3 x3 1 1 rfl inb_S3x4x1x1_S1x4x1x1_1_0_0_0,
    ← load_bg arg3 harg3 x3 2 2 rfl inb_S3x4x1x1_S1x4x1x1_2_0_0_0]
  sl_kernel_rfl

end Loads

end Cert.Proof.ReferenceIdeal

end
-- ==== Proof.PreCounts.lean ====
/-
  What the precondition on the counts says of the words: the count of every batch (the word at a multiple of 16) is at
  most 36.
-/
module

public import proofs.«01_k».proof.Defs
public import Idealize.ShloMosaic.Lib.Pipeline.Value
public import Idealize.ShloMosaic.Lib.ValueIdx
public import Idealize.ShloMosaic.Lib.Pointwise

@[expose] public section

noncomputable section

namespace Cert.Proof.Pre

open Idealize.ShloMosaic Cert.Pre_counts_ok Idealize.ShloMosaic.ValueIdx

theorem ofBool_one (p : Bool) : BitVec.ofBool p = 1#1 ↔ p = true := by cases p <;> decide

/-- The batch's count, read through the reshape to 4 rows of 16 words and the cut of their first column. -/
theorem count_apply (x : S64.Idx → BitVec 32) (h1 : S64.ShapeCasts S4x16) (h2 : S4x16.Slices ![0, 0] S4x1) (b : Fin 4) (j : S64.Idx)
    (hj : (j 0).val = 16 * b.val) :
    extractStridedSlice S4x1 ![0, 0] (shapeCast S4x16 x h1) h2 (ValueIdx.ix2 b (0 : Fin 1)) = x j := by
  unfold extractStridedSlice shapeCast
  congr 1
  refine Shape.reshapeEquiv_eq_of_rowMajor _ ?_
  rw [Shape.rowMajor_val_one, Shape.rowMajor_val_two]
  show (j 0).val = (0 + b.val) * 16 + (0 + 0)
  omega

theorem counts_le {F : FTy → Type} [FloatOps F] [Facts] (x0 : IVec S64 32) (x1 : IVec S4x36x144x128 32) (x2 : IVec S4x36x128 32) (x3 : FVec F S4x3 .f32)
    (h : Cert.Pre_counts_ok.fn (F := F) x0 x1 x2 x3 = fun _ => 1#1) (j : S64.Idx) (hj : 16 ∣ (j 0).val) : (x0 j).toInt ≤ 36 := by
  obtain ⟨b, hb⟩ := hj
  have hb4 : b < 4 := by have := (j 0).isLt; change (j 0).val < 64 at this; omega
  have e := congrFun h (ValueIdx.ix2 ⟨b, hb4⟩ (0 : Fin 1))
  simp only [Cert.Pre_counts_ok.fn, cmpi, broadcastInDim, constantI] at e
  rw [count_apply x0 _ _ ⟨b, hb4⟩ j hb] at e
  simp only [IntOp.cmpi, ofBool_one, BitVec.sle_eq_decide, decide_eq_true_eq] at e
  exact e.trans (by decide)

end Cert.Proof.Pre

end
-- ==== Proof.RefValue.lean ====
/-
  The reference's result read at an index: the recursion over the splats as numbers.
-/
module

public import proofs.«01_k».proof.Proof.RefModel
public import proofs.«01_k».proof.Proof.PreCounts
public import Idealize.ShloMosaic.Lib.VecWindow
public import Idealize.ShloMosaic.Lib.Routing.Words

@[expose] public section

set_option maxRecDepth 16384

noncomputable section

/-! ## The mathematics of one pixel -/

namespace Cert.Proof.Splat

open Idealize.ShloMosaic

/-- The transparency left before step `n`, and the weighted sum after `n` steps, from the steps' opacities and features. -/
def rest (α : ℕ → EReal) : ℕ → EReal
  | 0 => Ideal.ofBits .f32 0x3F800000#32
  | n + 1 => rest α n * (Ideal.ofBits .f32 0x3F800000#32 - α n)
def sums (α f : ℕ → EReal) : ℕ → EReal
  | 0 => Ideal.ofBits .f32 0x00000000#32
  | n + 1 => sums α f n + α n * rest α n * f n

/-- The logarithm of the transparency, summed splat by splat. -/
def logs (α : ℕ → EReal) : ℕ → EReal
  | 0 => Ideal.ofBits .f32 0x00000000#32
  | n + 1 => logs α n + Ideal.log (Ideal.ofBits .f32 0x3F800000#32 - α n)

/-- The same step as the program writes it. -/
theorem log1p_neg (a : EReal) : Ideal.log1p (Ideal.ofBits .f32 0x00000000#32 - a) = Ideal.log (Ideal.ofBits .f32 0x3F800000#32 - a) := by
  unfold Ideal.log1p
  rw [Ideal.ofBits_zero_f32, Ideal.ofBits_one_f32, zero_sub, ← sub_eq_add_neg]

/-- The pixel's coordinates in tile `t`. -/
def px (t : BitVec 32) (p : ℕ) : EReal :=
  Ideal.ofBits .f32 0x41800000#32 * (((IntOp.remsi .vector t 7#32).toInt : ℝ) : EReal)
    + (((IntOp.remsi .vector (BitVec.ofNat 32 p) 16#32).toInt : ℝ) : EReal) + Ideal.ofBits .f32 0x3F000000#32
def py (t : BitVec 32) (p : ℕ) : EReal :=
  Ideal.ofBits .f32 0x41800000#32 * (((IntOp.divsi .vector t 7#32).toInt : ℝ) : EReal)
    + (((IntOp.divsi .vector (BitVec.ofNat 32 p) 16#32).toInt : ℝ) : EReal) + Ideal.ofBits .f32 0x3F000000#32

/-- A splat's exponent and opacity at a pixel, from its nine words. -/
def sigma (w : Fin 9 → BitVec 32) (x y : EReal) : EReal :=
  Ideal.ofBits .f32 0x3F000000#32
      * (Ideal.ofBits .f32 (w 2) * (Ideal.ofBits .f32 (w 0) - x) * (Ideal.ofBits .f32 (w 0) - x)
        + Ideal.ofBits .f32 (w 4) * (Ideal.ofBits .f32 (w 1) - y) * (Ideal.ofBits .f32 (w 1) - y))
    + Ideal.ofBits .f32 (w 3) * (Ideal.ofBits .f32 (w 0) - x) * (Ideal.ofBits .f32 (w 1) - y)
def opacity (w : Fin 9 → BitVec 32) (x y : EReal) : EReal :=
  min (Ideal.ofBits .f32 0x3F7D70A4#32) (Ideal.ofBits .f32 (w 5) * Ideal.exp (Ideal.ofBits .f32 0x00000000#32 - sigma w x y))

/-- A splat's features: three colours and the depth. -/
def colour (w : Fin 9 → BitVec 32) (s : BitVec 32) : EReal :=
  Ideal.ofBits .fp8e4m3 ((IntOp.andi (IntOp.shrui .vector (w 6) s) 255#32).setWidth 8) * Ideal.ofBits .f32 (w 7)
def feature (w : Fin 9 → BitVec 32) (p : ℕ) : EReal :=
  if p = 3 then Ideal.ofBits .f32 (w 8) else colour w (BitVec.ofNat 32 (8 * p))

end Cert.Proof.Splat

namespace Cert.Proof.ReferenceIdeal

open Cert.ReferenceIdeal Cert.ReferenceIdeal.Gen
open Idealize.ShloMosaic Idealize.ShloMosaic.TcCoe Idealize.ShloMosaic.Tactic
open Idealize.SL

/-- The nine words of step `n`, splat lane `l` of group `g` of image `b`. -/
def splat (x1 : S4x36x144x128.Idx → BitVec 32) (b : Fin 4) (g : Fin 36) (l : Fin 128) (n : ℕ) : Fin 9 → BitVec 32 := fun c =>
  x1 (ValueIdx.ix4 b g ⟨16 * c.val + n % 16, by have := Nat.mod_lt n (show 16 > 0 by decide); omega⟩ l)

/-- The group and the lane of splat `n` of the whole order. -/
def grpOf (n : ℕ) : Fin 36 := ⟨n / 2048 % 36, Nat.mod_lt _ (by decide)⟩
def laneOf (n : ℕ) : Fin 128 := ⟨n / 16 % 128, Nat.mod_lt _ (by decide)⟩

section Model

variable (A0 : S64.Idx → BitVec 32) (A1 : S4x36x144x128.Idx → BitVec 32) (A2 : S4x36x128.Idx → BitVec 32) (A3 : S4x3.Idx → EReal)
  (x0 : Vec Ideal S4x1x1 .i32) (x1 : Vec Ideal S73728x9x4x1 .i32) (x2 : Vec Ideal S73728x4x1 .i32) (x3 : Vec Ideal S3x4x1x1 .f32)
  (b : Fin 4) (t : Fin 64) (p : Fin 256)

/-- Splat `n` counts at tile `t` of image `b`. -/
def live (n : ℕ) : BitVec 1 :=
  IntOp.andi (IntOp.cmpi .eq (A2 (ValueIdx.ix3 b (grpOf n) (laneOf n))) (BitVec.ofNat 32 t.val))
    (IntOp.cmpi .slt (IntOp.divsi .scalar (BitVec.ofNat 32 n) 2048#32) (A0 (ValueIdx.ix1 (⟨16 * b.val, by omega⟩ : Fin 64))))

/-- Its opacity there, zero where it does not count. -/
def opac (n : ℕ) : EReal :=
  if live A0 A2 b t n = 1#1 then Splat.opacity (splat A1 b (grpOf n) (laneOf n) n) (Splat.px (BitVec.ofNat 32 t.val) p.val) (Splat.py (BitVec.ofNat 32 t.val) p.val)
  else Ideal.ofBits .f32 0x00000000#32

/-- Its features. -/
def feat (q : ℕ) (n : ℕ) : EReal := Splat.feature (splat A1 b (grpOf n) (laneOf n) n) q

theorem spread_apply {α : Type} (v : S4x1x1.Idx → α) (h : S4x1x1.Broadcasts S4x64x256) : broadcastTo S4x64x256 v h (ValueIdx.ix3 b t p) = v (ValueIdx.ix3 b (0 : Fin 1) (0 : Fin 1)) :=
  broadcastTo_apply _ _ _ _ (fun a => by match a with | ⟨0, _⟩ => rfl | ⟨1, _⟩ => rfl | ⟨2, _⟩ => rfl)

theorem word_cast {α : Type} (v : S1x1x4x1.Idx → α) (h1 : S1x1x4x1.ShapeCasts S4x1) (h2 : S4x1.ShapeCasts S4x1x1) :
    shapeCast S4x1x1 (shapeCast S4x1 v h1) h2 (ValueIdx.ix3 b (0 : Fin 1) (0 : Fin 1)) = v (ValueIdx.ix4 (0 : Fin 1) (0 : Fin 1) b (0 : Fin 1)) := by
  refine (shapeCast_apply (s := S4x1) _ _ _ (ValueIdx.ix2 b (0 : Fin 1)) ?_).trans (shapeCast_apply _ _ _ _ ?_)
  · rw [Shape.rowMajor_val_two, Shape.rowMajor_val_three]
    show b.val * 1 + 0 = (b.val * 1 + 0) * 1 + 0
    omega
  · rw [Shape.rowMajor_val_four, Shape.rowMajor_val_two]
    show ((0 * 1 + 0) * 4 + b.val) * 1 + 0 = b.val * 1 + 0
    omega

theorem tile_cast {α : Type} (v : S1x4x1.Idx → α) (h1 : S1x4x1.ShapeCasts S4x1) (h2 : S4x1.ShapeCasts S4x1x1) :
    shapeCast S4x1x1 (shapeCast S4x1 v h1) h2 (ValueIdx.ix3 b (0 : Fin 1) (0 : Fin 1)) = v (ValueIdx.ix3 (0 : Fin 1) b (0 : Fin 1)) := by
  refine (shapeCast_apply (s := S4x1) _ _ _ (ValueIdx.ix2 b (0 : Fin 1)) ?_).trans (shapeCast_apply _ _ _ _ ?_)
  · rw [Shape.rowMajor_val_two, Shape.rowMajor_val_three]
    show b.val * 1 + 0 = (b.val * 1 + 0) * 1 + 0
    omega
  · rw [Shape.rowMajor_val_three, Shape.rowMajor_val_two]
    show (0 * 4 + b.val) * 1 + 0 = b.val * 1 + 0
    omega

theorem px_apply : k0_pay17 (F := Ideal) (ValueIdx.ix3 b t p) = Splat.px (BitVec.ofNat 32 t.val) p.val := by
  have h1 : 0 * S4x64x256.size 1 + t.val = t.val := by omega
  have h2 : 0 * S4x64x256.size 2 + p.val = p.val := by omega
  have e : k0_pay17 (F := Ideal) (ValueIdx.ix3 b t p) = Splat.px (BitVec.ofNat 32 (0 * S4x64x256.size 1 + t.val)) (0 * S4x64x256.size 2 + p.val) := rfl
  rw [e, h1, h2]

theorem py_apply : k0_pay18 (F := Ideal) (ValueIdx.ix3 b t p) = Splat.py (BitVec.ofNat 32 t.val) p.val := by
  have h1 : 0 * S4x64x256.size 1 + t.val = t.val := by omega
  have h2 : 0 * S4x64x256.size 2 + p.val = p.val := by omega
  have e : k0_pay18 (F := Ideal) (ValueIdx.ix3 b t p) = Splat.py (BitVec.ofNat 32 (0 * S4x64x256.size 1 + t.val)) (0 * S4x64x256.size 2 + p.val) := rfl
  rw [e, h1, h2]

/-- A word spread over tiles and pixels, as the real it is the bits of. -/
theorem real_spread (v : Vec Ideal S1x1x4x1 .i32) (h1 : S1x1x4x1.ShapeCasts S4x1) (h2 : S4x1.ShapeCasts S4x1x1) (h3 : S4x1x1.Broadcasts S4x64x256) :
    broadcastTo S4x64x256 (bitcastToFloat (F := Ideal) .f32 (shapeCast S4x1x1 (shapeCast S4x1 v h1) h2)) h3 (ValueIdx.ix3 b t p)
      = Ideal.ofBits .f32 (v (ValueIdx.ix4 (0 : Fin 1) (0 : Fin 1) b (0 : Fin 1))) := by
  rw [spread_apply]
  exact congrArg (Ideal.ofBits .f32) (word_cast b v h1 h2)

theorem live_apply (k : Fin k0_t1_loop.trips) (C : Vec Ideal S4x1x1 .i32) (T : Vec Ideal S1x4x1 .i32) :
    k0_pay5 (F := Ideal) tileV 0#32 1#32 k T C (ValueIdx.ix3 b t p)
      = IntOp.andi (IntOp.cmpi .eq (T (ValueIdx.ix3 (0 : Fin 1) b (0 : Fin 1))) (BitVec.ofNat 32 t.val))
          (IntOp.cmpi .slt (IntOp.divsi .scalar (BitVec.ofNat 32 k.val) 2048#32) (C (ValueIdx.ix3 b (0 : Fin 1) (0 : Fin 1)))) := by
  have h1 : 0 * S4x64x256.size 1 + t.val = t.val := by omega
  have hk : Scf.iv (0#32) (1#32) k.val = BitVec.ofNat 32 k.val := by unfold Scf.iv; rw [BitVec.mul_one, BitVec.zero_add]
  unfold k0_pay5
  refine congrArg₂ IntOp.andi ?_ ?_
  · refine (congrArg₂ (IntOp.cmpi .eq) ((spread_apply b t p _ _).trans (tile_cast b T _ _)) (?_ : _ = BitVec.ofNat 32 t.val))
    show BitVec.ofNat 32 (0 * S4x64x256.size 1 + t.val) = _
    rw [h1]
  · refine (spread_apply b t p _ _).trans ?_
    refine congrArg₂ (IntOp.cmpi .slt) ?_ (congrFun (shapeCast_self C _) _)
    show IntOp.divsi .scalar (Scf.iv (0#32) (1#32) k.val) 2048#32 = _
    rw [hk]

/-- The opacity from the loads. -/
theorem alphaV_apply (k : Fin k0_t1_loop.trips) (C : Vec Ideal S4x1x1 .i32) (T : Vec Ideal S1x4x1 .i32) (w : Fin 9 → Vec Ideal S1x1x4x1 .i32) :
    alphaV k C T w (ValueIdx.ix3 b t p)
      = if IntOp.andi (IntOp.cmpi .eq (T (ValueIdx.ix3 (0 : Fin 1) b (0 : Fin 1))) (BitVec.ofNat 32 t.val))
          (IntOp.cmpi .slt (IntOp.divsi .scalar (BitVec.ofNat 32 k.val) 2048#32) (C (ValueIdx.ix3 b (0 : Fin 1) (0 : Fin 1)))) = 1#1
        then Splat.opacity (fun c => w c (ValueIdx.ix4 (0 : Fin 1) (0 : Fin 1) b (0 : Fin 1))) (Splat.px (BitVec.ofNat 32 t.val) p.val) (Splat.py (BitVec.ofNat 32 t.val) p.val)
        else Ideal.ofBits .f32 0x00000000#32 := by
  rw [← live_apply b t p k C T, ← px_apply b t p, ← py_apply b t p]
  have hs := fun v => real_spread b t p v shapeCasts_S1x1x4x1_S4x1 shapeCasts_S4x1_S4x1x1 broadcasts_S4x1x1_S4x64x256
  have h5 : broadcastTo S4x64x256 (bitcastToFloat (F := Ideal) .f32 (shapeCast S4x1x1 (shapeCast S4x1 (w 5) shapeCasts_S1x1x4x1_S4x1) shapeCasts_S4x1_S4x1x1))
    broadcasts_S4x1x1_S4x64x256 (ValueIdx.ix3 b t p) = _ := hs (w 5)
  unfold Splat.opacity Splat.sigma
  simp only [← hs]
  rfl

/-- A colour from the loads. -/
theorem colour_apply (W V : Vec Ideal S1x1x4x1 .i32) (h1 : S1x1x4x1.ShapeCasts S4x1) (h2 : S4x1.ShapeCasts S4x1x1) (s : BitVec 32) :
    mulf (extf (F := Ideal) .f32 (bitcastToFloat (F := Ideal) .fp8e4m3 (trunci 8 (andi (shrui (shapeCast S4x1x1 (shapeCast S4x1 W h1) h2) (broadcast S4x1x1 s))
        (broadcast S4x1x1 255#32)) natLt_8_32)) bitsLt_fp8e4m3_f32) (bitcastToFloat (F := Ideal) .f32 (shapeCast S4x1x1 (shapeCast S4x1 V h1) h2))
        (ValueIdx.ix3 b (0 : Fin 1) (0 : Fin 1))
      = Ideal.ofBits .fp8e4m3 ((IntOp.andi (IntOp.shrui .vector (W (ValueIdx.ix4 (0 : Fin 1) (0 : Fin 1) b (0 : Fin 1))) s) 255#32).setWidth 8)
        * Ideal.ofBits .f32 (V (ValueIdx.ix4 (0 : Fin 1) (0 : Fin 1) b (0 : Fin 1))) := by
  rw [← word_cast b W h1 h2, ← word_cast b V h1 h2]
  rfl

/-- What the host's arrays hold, from the arguments. -/
structure Laid : Prop where
  count : ∀ b : Fin 4, x0 (ValueIdx.ix3 b (0 : Fin 1) (0 : Fin 1)) = A0 (ValueIdx.ix1 (⟨16 * b.val, by omega⟩ : Fin 64))
  words : ∀ (n : ℕ) (hn : n < 73728) (c : Fin 9) (b : Fin 4), x1 (ValueIdx.ix4 (⟨n, hn⟩ : Fin 73728) c b (0 : Fin 1)) = splat A1 b (grpOf n) (laneOf n) n c
  tiles : ∀ (n : ℕ) (hn : n < 73728) (b : Fin 4), x2 (ValueIdx.ix3 (⟨n, hn⟩ : Fin 73728) b (0 : Fin 1)) = A2 (ValueIdx.ix3 b (grpOf n) (laneOf n))
  back : ∀ (c : Fin 3) (b : Fin 4), x3 (ValueIdx.ix4 c b (0 : Fin 1) (0 : Fin 1)) = A3 (ValueIdx.ix2 b c)

variable {A0 A1 A2 A3 x0 x1 x2 x3} (hx : Laid A0 A1 A2 A3 x0 x1 x2 x3)

include hx

theorem alpha_at (n : ℕ) (hn : n < 73728) (k : Fin k0_t1_loop.trips) (hk : k.val = n) :
    alphaV k x0 (tileX x2 n hn) (wordX x1 n hn) (ValueIdx.ix3 b t p) = opac A0 A1 A2 b t p n := by
  rw [alphaV_apply, hk]
  unfold opac live
  rw [← hx.count b, ← hx.tiles n hn b, show splat A1 b (grpOf n) (laneOf n) n = fun c => wordX x1 n hn c (ValueIdx.ix4 (0 : Fin 1) (0 : Fin 1) b (0 : Fin 1)) from
    funext fun c => (hx.words n hn c b).symm]
  rfl

theorem wfeat_at (n : ℕ) (hn : n < 73728) (q : ℕ) : Splat.feature (fun c => wordX x1 n hn c (ValueIdx.ix4 (0 : Fin 1) (0 : Fin 1) b (0 : Fin 1))) q = feat A1 b q n := by
  unfold feat
  rw [show splat A1 b (grpOf n) (laneOf n) n = fun c => wordX x1 n hn c (ValueIdx.ix4 (0 : Fin 1) (0 : Fin 1) b (0 : Fin 1)) from
    funext fun c => (hx.words n hn c b).symm]

/-- THE STATE after `n` splats, at a place. -/
theorem state_apply : ∀ n, n ≤ 73728 →
    (stateV x0 x1 x2 n).1 (ValueIdx.ix3 b t p) = Splat.rest (opac A0 A1 A2 b t p) n
    ∧ (stateV x0 x1 x2 n).2.1 (ValueIdx.ix3 b t p) = Splat.logs (opac A0 A1 A2 b t p) n
    ∧ (stateV x0 x1 x2 n).2.2.1 (ValueIdx.ix3 b t p) = Splat.sums (opac A0 A1 A2 b t p) (feat A1 b 0) n
    ∧ (stateV x0 x1 x2 n).2.2.2.1 (ValueIdx.ix3 b t p) = Splat.sums (opac A0 A1 A2 b t p) (feat A1 b 1) n
    ∧ (stateV x0 x1 x2 n).2.2.2.2.1 (ValueIdx.ix3 b t p) = Splat.sums (opac A0 A1 A2 b t p) (feat A1 b 2) n
    ∧ (stateV x0 x1 x2 n).2.2.2.2.2 (ValueIdx.ix3 b t p) = Splat.sums (opac A0 A1 A2 b t p) (feat A1 b 3) n
  | 0, _ => ⟨rfl, rfl, rfl, rfl, rfl, rfl⟩
  | n + 1, h => by
    obtain ⟨h0, h1, h2, h3, h4, h5⟩ := state_apply n (by omega)
    have ha := alpha_at b t p hx n h ⟨n, trips_eq ▸ h⟩ rfl
    rw [show stateV x0 x1 x2 (n + 1) = stepV ⟨n, trips_eq ▸ h⟩ x0 (tileX x2 n h) (wordX x1 n h) (stateV x0 x1 x2 n) from dif_pos h]
    generalize stateV x0 x1 x2 n = s at h0 h1 h2 h3 h4 h5
    unfold stepV
    generalize alphaV ⟨n, trips_eq ▸ h⟩ x0 (tileX x2 n h) (wordX x1 n h) = al at ha
    have hf := wfeat_at b hx n h
    have c0 := (spread_apply b t p (k0_pay13 (F := Ideal) (k0_pay12 (F := Ideal) (wordX x1 n h 6)) (wordX x1 n h 7)) broadcasts_S4x1x1_S4x64x256).trans
      ((colour_apply b (wordX x1 n h 6) (wordX x1 n h 7) shapeCasts_S1x1x4x1_S4x1 shapeCasts_S4x1_S4x1x1 0#32).trans (hf 0))
    have c1 := (spread_apply b t p (k0_pay14 (F := Ideal) (wordX x1 n h 6) (wordX x1 n h 7)) broadcasts_S4x1x1_S4x64x256).trans
      ((colour_apply b (wordX x1 n h 6) (wordX x1 n h 7) shapeCasts_S1x1x4x1_S4x1 shapeCasts_S4x1_S4x1x1 8#32).trans (hf 1))
    have c2 := (spread_apply b t p (k0_pay15 (F := Ideal) (wordX x1 n h 6) (wordX x1 n h 7)) broadcasts_S4x1x1_S4x64x256).trans
      ((colour_apply b (wordX x1 n h 6) (wordX x1 n h 7) shapeCasts_S1x1x4x1_S4x1 shapeCasts_S4x1_S4x1x1 16#32).trans (hf 2))
    have c3 := (real_spread b t p (wordX x1 n h 8) shapeCasts_S1x1x4x1_S4x1 shapeCasts_S4x1_S4x1x1 broadcasts_S4x1x1_S4x64x256).trans (hf 3)
    unfold Splat.rest Splat.logs Splat.sums
    rw [← Splat.log1p_neg, ← h0, ← h1, ← h2, ← h3, ← h4, ← h5, ← ha, ← c0, ← c1, ← c2, ← c3]
    exact ⟨rfl, rfl, rfl, rfl, rfl, rfl⟩

omit hx

/-- The reference's result. -/
def refE (A0 : S64.Idx → BitVec 32) (A1 : S4x36x144x128.Idx → BitVec 32) (A2 : S4x36x128.Idx → BitVec 32) (A3 : S4x3.Idx → EReal) : S4x5x64x256.Idx → EReal := fun y =>
  if h : (y 1).val < 3 then
    Splat.sums (opac A0 A1 A2 ⟨(y 0).val, (y 0).isLt⟩ ⟨(y 2).val, (y 2).isLt⟩ ⟨(y 3).val, (y 3).isLt⟩) (feat A1 ⟨(y 0).val, (y 0).isLt⟩ (y 1).val) 73728
      + Splat.rest (opac A0 A1 A2 ⟨(y 0).val, (y 0).isLt⟩ ⟨(y 2).val, (y 2).isLt⟩ ⟨(y 3).val, (y 3).isLt⟩) 73728 * A3 (ValueIdx.ix2 ⟨(y 0).val, (y 0).isLt⟩ ⟨(y 1).val, h⟩)
  else if (y 1).val = 3 then Splat.logs (opac A0 A1 A2 ⟨(y 0).val, (y 0).isLt⟩ ⟨(y 2).val, (y 2).isLt⟩ ⟨(y 3).val, (y 3).isLt⟩) 73728
  else Splat.sums (opac A0 A1 A2 ⟨(y 0).val, (y 0).isLt⟩ ⟨(y 2).val, (y 2).isLt⟩ ⟨(y 3).val, (y 3).isLt⟩) (feat A1 ⟨(y 0).val, (y 0).isLt⟩ 3) 73728

theorem plane_cast {α : Type} (v : S4x64x256.Idx → α) (h : S4x64x256.ShapeCasts S4x1x64x256) : shapeCast S4x1x64x256 v h (ValueIdx.ix4 b (0 : Fin 1) t p) = v (ValueIdx.ix3 b t p) := by
  refine shapeCast_apply _ _ _ _ ?_
  rw [Shape.rowMajor_val_three, Shape.rowMajor_val_four]
  show (b.val * 64 + t.val) * 256 + p.val = ((b.val * 1 + 0) * 64 + t.val) * 256 + p.val
  omega

theorem bg_cast {α : Type} (v : S1x4x1x1.Idx → α) (h : S1x4x1x1.ShapeCasts S4x1x1) : shapeCast S4x1x1 v h (ValueIdx.ix3 b (0 : Fin 1) (0 : Fin 1)) = v (ValueIdx.ix4 (0 : Fin 1) b (0 : Fin 1) (0 : Fin 1)) := by
  refine shapeCast_apply _ _ _ _ ?_
  rw [Shape.rowMajor_val_three, Shape.rowMajor_val_four]
  show ((0 * 4 + b.val) * 1 + 0) * 1 + 0 = (b.val * 1 + 0) * 1 + 0
  omega

/-- One plane's piece has the value a function of the place says. -/
theorem plane_at (v : FVec Ideal S4x1x64x256 .f32) (q : ℕ) (E : Fin 4 → Fin 64 → Fin 256 → EReal) (y : S4x5x64x256.Idx)
    (hv : ∀ b t p, v (ValueIdx.ix4 b (0 : Fin 1) t p) = E b t p) (r : EReal)
    (hr : (y 1).val = q → r = E ⟨(y 0).val, (y 0).isLt⟩ ⟨(y 2).val, (y 2).isLt⟩ ⟨(y 3).val, (y 3).isLt⟩) :
    View.TileAt (Val := Elt Ideal) (e := .f32) y ![0, q, 0, 0] S4x1x64x256.size v r := by
  intro x hx
  have h0 : (y 0).val = (x 0).val := (hx 0).trans (Nat.zero_add _)
  have h1 : (y 1).val = q := (hx 1).trans (by
    have : (x 1).val < 1 := (x 1).isLt
    show q + (x 1).val = q; omega)
  have h2 : (y 2).val = (x 2).val := (hx 2).trans (Nat.zero_add _)
  have h3 : (y 3).val = (x 3).val := (hx 3).trans (Nat.zero_add _)
  have ex : x = ValueIdx.ix4 (⟨(x 0).val, (x 0).isLt⟩ : Fin 4) (0 : Fin 1) (⟨(x 2).val, (x 2).isLt⟩ : Fin 64) (⟨(x 3).val, (x 3).isLt⟩ : Fin 256) :=
    funext fun a => Fin.ext (by
    match a with
    | ⟨0, _⟩ => rfl
    | ⟨1, _⟩ => have : (x 1).val < 1 := (x 1).isLt; show (x 1).val = 0; omega
    | ⟨2, _⟩ => rfl
    | ⟨3, _⟩ => rfl)
  rw [hr h1, ex, hv]
  simp only [h0, h2, h3]

include hx in
/-- THE BODY'S RESULT at an index. -/
theorem pieces_apply (hc : ∀ y : S4x5x64x256.Idx, ∃ pc ∈ piecesV x3 (stateV x0 x1 x2 73728), y ∈ pc.1.set) :
    View.canon (piecesV x3 (stateV x0 x1 x2 73728)) = refE A0 A1 A2 A3 := by
  funext y
  have hs := fun b t p => state_apply b t p hx 73728 (le_refl _)
  refine View.canon_eq_of_allAt _ _ _ (hc y) ?_
  generalize stateV x0 x1 x2 73728 = s at hs
  have hb := fun (b : Fin 4) (t : Fin 64) (p : Fin 256) (n : Fin 3) =>
    (spread_apply b t p (shapeCast S4x1x1 (bgX x3 n) shapeCasts_S1x4x1x1_S4x1x1) broadcasts_S4x1x1_S4x64x256).trans
      ((bg_cast b (bgX x3 n) shapeCasts_S1x4x1x1_S4x1x1).trans (hx.back n b))
  unfold piecesV
  refine View.allAt_cons_unit _ _ _ _ _ (plane_at _ 4 (fun b t p => Splat.sums (opac A0 A1 A2 b t p) (feat A1 b 3) 73728) y (fun b t p => ?_) _ (fun hy => ?_)) ?_
  · exact (plane_cast b t p _ _).trans (hs b t p).2.2.2.2.2
  · unfold refE; rw [dif_neg (by omega), if_neg (by omega)]
  refine View.allAt_cons_unit _ _ _ _ _ (plane_at _ 3 (fun b t p => Splat.logs (opac A0 A1 A2 b t p) 73728) y (fun b t p => ?_) _ (fun hy => ?_)) ?_
  · exact (plane_cast b t p _ _).trans (hs b t p).2.1
  · unfold refE; rw [dif_neg (by omega), if_pos hy]
  refine View.allAt_cons_unit _ _ _ _ _ (plane_at _ 2 (fun b t p => Splat.sums (opac A0 A1 A2 b t p) (feat A1 b 2) 73728
      + Splat.rest (opac A0 A1 A2 b t p) 73728 * A3 (ValueIdx.ix2 b (2 : Fin 3))) y (fun b t p => ?_) _ (fun hy => ?_)) ?_
  · rw [← (hs b t p).1, ← (hs b t p).2.2.2.2.1, ← hb b t p 2]
    exact plane_cast b t p (addf (F := Ideal) (φ := .f32) s.2.2.2.2.1 (mulf (F := Ideal) (φ := .f32) s.1
      (broadcastTo S4x64x256 (shapeCast S4x1x1 (bgX x3 2) shapeCasts_S1x4x1x1_S4x1x1) broadcasts_S4x1x1_S4x64x256))) shapeCasts_S4x64x256_S4x1x64x256
  · unfold refE; rw [dif_pos (by omega)]; simp only [hy]; rfl
  refine View.allAt_cons_unit _ _ _ _ _ (plane_at _ 1 (fun b t p => Splat.sums (opac A0 A1 A2 b t p) (feat A1 b 1) 73728
      + Splat.rest (opac A0 A1 A2 b t p) 73728 * A3 (ValueIdx.ix2 b (1 : Fin 3))) y (fun b t p => ?_) _ (fun hy => ?_)) ?_
  · rw [← (hs b t p).1, ← (hs b t p).2.2.2.1, ← hb b t p 1]
    exact plane_cast b t p (addf (F := Ideal) (φ := .f32) s.2.2.2.1 (mulf (F := Ideal) (φ := .f32) s.1
      (broadcastTo S4x64x256 (shapeCast S4x1x1 (bgX x3 1) shapeCasts_S1x4x1x1_S4x1x1) broadcasts_S4x1x1_S4x64x256))) shapeCasts_S4x64x256_S4x1x64x256
  · unfold refE; rw [dif_pos (by omega)]; simp only [hy]; rfl
  refine View.allAt_cons_unit _ _ _ _ _ (plane_at _ 0 (fun b t p => Splat.sums (opac A0 A1 A2 b t p) (feat A1 b 0) 73728
      + Splat.rest (opac A0 A1 A2 b t p) 73728 * A3 (ValueIdx.ix2 b (0 : Fin 3))) y (fun b t p => ?_) _ (fun hy => ?_)) ?_
  · rw [← (hs b t p).1, ← (hs b t p).2.2.1, ← hb b t p 0]
    exact plane_cast b t p (addf (F := Ideal) (φ := .f32) s.2.2.1 (mulf (F := Ideal) (φ := .f32) s.1
      (broadcastTo S4x64x256 (shapeCast S4x1x1 (bgX x3 0) shapeCasts_S1x4x1x1_S4x1x1) broadcasts_S4x1x1_S4x64x256))) shapeCasts_S4x64x256_S4x1x64x256
  · unfold refE; rw [dif_pos (by omega)]; simp only [hy]; rfl
  exact View.allAt_nil _ _

end Model

/-! ## The run's result -/

section Run

variable (m : (ℓ : Loc nD τ sig) → Buf (Elt Ideal) ℓ) (ρ : Dev nD → PrngReg)

/-- The host's arrays. -/
theorem V_count (c : Dev nD) : (V m c main_v7 : S4x1x1.Idx → BitVec 32)
    = extractStridedSlice S4x1x1 ![0, 0, 0] (shapeCast S4x16x1 (m ((c : Thread nD τ).loc main_arg0)) shapeCasts_S64_S4x16x1) slices_S4x16x1_S4x1x1_0_0_0 := by
  sl_kernel_rfl

theorem V_words (c : Dev nD) : (V m c main_v2 : S73728x9x4x1.Idx → BitVec 32)
    = shapeCast S73728x9x4x1 (transpose S36x128x16x9x4 [1, 4, 3, 2, 0] (shapeCast S4x36x9x16x128 (m ((c : Thread nD τ).loc main_arg1)) shapeCasts_S4x36x144x128_S4x36x9x16x128)
        transposes_S4x36x9x16x128_S36x128x16x9x4_1_4_3_2_0) shapeCasts_S36x128x16x9x4_S73728x9x4x1 := by
  sl_kernel_rfl

theorem V_tiles (c : Dev nD) : (V m c main_v8 : S73728x4x1.Idx → BitVec 32)
    = shapeCast S73728x4x1 (broadcastInDim S36x128x16x4 ![0, 1, 2, 3] bcast_S36x128x1x4_S36x128x16x4_0_1_2_3
        (broadcastInDim S36x128x1x4 ![0, 1, 3] bcast_S36x128x4_S36x128x1x4_0_1_3
          (transpose S36x128x4 [1, 2, 0] (m ((c : Thread nD τ).loc main_arg2)) transposes_S4x36x128_S36x128x4_1_2_0))) shapeCasts_S36x128x16x4_S73728x4x1 := by
  sl_kernel_rfl

theorem V_back (c : Dev nD) : (V m c main_v10 : S3x4x1x1.Idx → EReal)
    = shapeCast S3x4x1x1 (transpose S3x4 [1, 0] (m ((c : Thread nD τ).loc main_arg3)) transposes_S4x3_S3x4_1_0) shapeCasts_S3x4_S3x4x1x1 := by
  sl_kernel_rfl

theorem laid (c : Dev nD) : Laid (m ((c : Thread nD τ).loc main_arg0)) (m ((c : Thread nD τ).loc main_arg1)) (m ((c : Thread nD τ).loc main_arg2))
    (m ((c : Thread nD τ).loc main_arg3)) (V m c main_v7) (V m c main_v2) (V m c main_v8) (V m c main_v10) where
  count b := by
    rw [V_count]
    refine (extractStridedSlice_apply _ _ _ _ (ValueIdx.ix3 b (0 : Fin 16) (0 : Fin 1)) ?_).trans ?_
    · intro a
      match a with
      | ⟨0, _⟩ => show b.val = 0 + b.val; omega
      | ⟨1, _⟩ => rfl
      | ⟨2, _⟩ => rfl
    refine shapeCast_apply (s := S64) _ _ _ _ ?_
    rw [Shape.rowMajor_val_one, Shape.rowMajor_val_three]
    show 16 * b.val = (b.val * 16 + 0) * 1 + 0
    omega
  words n hn k b := by
    rw [V_words]
    have hd : n / 2048 % 36 = n / 2048 := Nat.mod_eq_of_lt (by omega)
    refine (shapeCast_apply _ _ _ (ValueIdx.ix5 (grpOf n) (laneOf n) (⟨n % 16, Nat.mod_lt _ (by decide)⟩ : Fin 16) k b) ?_).trans ?_
    · rw [Shape.rowMajor_val_five, Shape.rowMajor_val_four]
      show (((n / 2048 % 36 * 128 + n / 16 % 128) * 16 + n % 16) * 9 + k.val) * 4 + b.val = ((n * 9 + k.val) * 4 + b.val) * 1 + 0
      omega
    refine (transpose_apply _ _ _ _ (ValueIdx.ix5 b (grpOf n) k (⟨n % 16, Nat.mod_lt _ (by decide)⟩ : Fin 16) (laneOf n)) ?_).trans ?_
    · intro a
      match a with
      | ⟨0, _⟩ => rfl
      | ⟨1, _⟩ => rfl
      | ⟨2, _⟩ => rfl
      | ⟨3, _⟩ => rfl
      | ⟨4, _⟩ => rfl
    refine (shapeCast_apply _ _ _ (ValueIdx.ix4 b (grpOf n) (⟨16 * k.val + n % 16, by omega⟩ : Fin 144) (laneOf n)) ?_).trans rfl
    rw [Shape.rowMajor_val_five, Shape.rowMajor_val_four]
    show ((b.val * 36 + n / 2048 % 36) * 144 + (16 * k.val + n % 16)) * 128 + n / 16 % 128
      = (((b.val * 36 + n / 2048 % 36) * 9 + k.val) * 16 + n % 16) * 128 + n / 16 % 128
    omega
  tiles n hn b := by
    rw [V_tiles]
    have hd : n / 2048 % 36 = n / 2048 := Nat.mod_eq_of_lt (by omega)
    refine (shapeCast_apply _ _ _ (ValueIdx.ix4 (grpOf n) (laneOf n) (⟨n % 16, Nat.mod_lt _ (by decide)⟩ : Fin 16) b) ?_).trans ?_
    · rw [Shape.rowMajor_val_three, Shape.rowMajor_val_four]
      show ((n / 2048 % 36 * 128 + n / 16 % 128) * 16 + n % 16) * 4 + b.val = (n * 4 + b.val) * 1 + 0
      omega
    show transpose S36x128x4 [1, 2, 0] (m ((c : Thread nD τ).loc main_arg2)) transposes_S4x36x128_S36x128x4_1_2_0 _ = _
    refine transpose_apply _ _ _ _ _ ?_
    intro a
    match a with
    | ⟨0, _⟩ => rfl
    | ⟨1, _⟩ => rfl
    | ⟨2, _⟩ => rfl
  back k b := by
    rw [V_back]
    refine (shapeCast_apply (s := S3x4) _ _ _ (ValueIdx.ix2 k b) ?_).trans (transpose_apply _ _ _ _ _ ?_)
    rotate_left
    · intro a
      match a with
      | ⟨0, _⟩ => rfl
      | ⟨1, _⟩ => rfl
    rw [Shape.rowMajor_val_two, Shape.rowMajor_val_four]
    show k.val * 4 + b.val = ((k.val * 4 + b.val) * 1 + 0) * 1 + 0
    omega

/-- Every window is its whole array. -/
theorem iblk_0 (c : Dev nD) (t : Fin cfg0.N) : (iblk m c 0 t : S4x1x1.Idx → BitVec 32) = V m c main_v7 := by
  funext j
  show V m c main_v7 (((cfg0.win 0).blk t).view.emb j) = V m c main_v7 j
  congr 1
  funext a; apply Fin.ext
  match a with
  | ⟨0, _⟩ => show 0 * 4 + 1 * (j 0).val = (j 0).val; omega
  | ⟨1, _⟩ => show 0 * 1 + 1 * (j 1).val = (j 1).val; omega
  | ⟨2, _⟩ => show 0 * 1 + 1 * (j 2).val = (j 2).val; omega

theorem iblk_1 (c : Dev nD) (t : Fin cfg0.N) : (iblk m c 1 t : S73728x9x4x1.Idx → BitVec 32) = V m c main_v2 := by
  funext j
  show V m c main_v2 (((cfg0.win 1).blk t).view.emb j) = V m c main_v2 j
  congr 1
  funext a; apply Fin.ext
  match a with
  | ⟨0, _⟩ => show 0 * 73728 + 1 * (j 0).val = (j 0).val; omega
  | ⟨1, _⟩ => show 0 * 9 + 1 * (j 1).val = (j 1).val; omega
  | ⟨2, _⟩ => show 0 * 4 + 1 * (j 2).val = (j 2).val; omega
  | ⟨3, _⟩ => show 0 * 1 + 1 * (j 3).val = (j 3).val; omega

theorem iblk_2 (c : Dev nD) (t : Fin cfg0.N) : (iblk m c 2 t : S73728x4x1.Idx → BitVec 32) = V m c main_v8 := by
  funext j
  show V m c main_v8 (((cfg0.win 2).blk t).view.emb j) = V m c main_v8 j
  congr 1
  funext a; apply Fin.ext
  match a with
  | ⟨0, _⟩ => show 0 * 73728 + 1 * (j 0).val = (j 0).val; omega
  | ⟨1, _⟩ => show 0 * 4 + 1 * (j 1).val = (j 1).val; omega
  | ⟨2, _⟩ => show 0 * 1 + 1 * (j 2).val = (j 2).val; omega

theorem iblk_3 (c : Dev nD) (t : Fin cfg0.N) : (iblk m c 3 t : S3x4x1x1.Idx → EReal) = V m c main_v10 := by
  funext j
  show V m c main_v10 (((cfg0.win 3).blk t).view.emb j) = V m c main_v10 j
  congr 1
  funext a; apply Fin.ext
  match a with
  | ⟨0, _⟩ => show 0 * 3 + 1 * (j 0).val = (j 0).val; omega
  | ⟨1, _⟩ => show 0 * 4 + 1 * (j 1).val = (j 1).val; omega
  | ⟨2, _⟩ => show 0 * 1 + 1 * (j 2).val = (j 2).val; omega
  | ⟨3, _⟩ => show 0 * 1 + 1 * (j 3).val = (j 3).val; omega

theorem outs_apply (c : Dev nD) (t : Fin cfg0.N) : outsAt0 m c t = refE (m ((c : Thread nD τ).loc main_arg0)) (m ((c : Thread nD τ).loc main_arg1))
    (m ((c : Thread nD τ).loc main_arg2)) (m ((c : Thread nD τ).loc main_arg3)) := by
  unfold outsAt0
  rw [iblk_0, iblk_1, iblk_2, iblk_3]
  have hc := cover0_A_4 (F := Ideal) c (ms0_0 t) (hs0_0 t) (ms0_1 t) (hs0_1 t) (ms0_2 t) (hs0_2 t) (ms0_3 t) (hs0_3 t) (ms0_4 t) (hs0_4 t)
    (V m c main_v7) (V m c main_v2) (V m c main_v8) (V m c main_v10)
  unfold out0_A_4
  rw [out_pieces] at hc ⊢
  exact (View.read_writes_eq_canon _ _ _ hc).trans (pieces_apply (laid m c) hc)

theorem final (c : Dev nD) : (dats m 0 c).arrAt 4 cfg0.N
    = refE (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outs_apply]
  refine congrArg (refE _ _ _ _) (funext fun a => Fin.ext ?_)
  match a with
  | ⟨0, _⟩ => show (y 0).val = 0 * 4 + 1 * (y 0).val; omega
  | ⟨1, _⟩ => show (y 1).val = 0 * 5 + 1 * (y 1).val; omega
  | ⟨2, _⟩ => show (y 2).val = 0 * 64 + 1 * (y 2).val; omega
  | ⟨3, _⟩ => show (y 3).val = 0 * 256 + 1 * (y 3).val; omega

/-- THE VALUE: the run ends with the result holding `refE` over the launch memory, and the arguments unchanged. -/
theorem value : θ_run defs (onTc (τ := τ) (main (F := Ideal))) ⟨m, fun _ => 0, ρ⟩ (fun r => ∀ c : Dev nD,
      r.2.mem ((c.tc : Thread nD τ).loc main_v11)
        = refE (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c |>.1 4).trans (final m c), h.2 c⟩) (θ_run_and (run_main m ρ) (unchanged m ρ))

end Run

end Cert.Proof.ReferenceIdeal

end
-- ==== Proof.Basis.lean ====
/-
  The table of monomials the kernel's products take from the left: entry (row, column) is a monomial of the pixel's place in
  its tile, where the column's step is the row's, and zero elsewhere.
-/
module

public import proofs.«01_k».proof.Proof.RefValue
public import Idealize.ShloMosaic.Lib.Routing.Words
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL

/-! ## The host's chain, said once -/

def litI (w : BitVec 32) : IVec S2048x256 32 := broadcastInDim S2048x256 ![] bcast_S_S2048x256 (constantI S_ 32 w)
def litF (w : BitVec 32) : FVec Ideal S2048x256 .f32 := broadcastInDim S2048x256 ![] bcast_S_S2048x256 (constant (F := Ideal) S_ .f32 w)
def rowI : IVec S2048x256 32 := iotaInDim S2048x256 32 0
def colI : IVec S2048x256 32 := iotaInDim S2048x256 32 1

/-- The pixel's place in its tile, from the middle. -/
def xV : FVec Ideal S2048x256 .f32 := subf (sitofp .f32 (Host.remsi rowI (litI 16#32))) (litF 0x40F00000#32)
def yV : FVec Ideal S2048x256 .f32 :=
  subf (sitofp .f32 (addi (muli (Host.divsi rowI (litI 256#32)) (litI 2#32)) (Host.remsi (Host.divsi rowI (litI 16#32)) (litI 2#32)))) (litF 0x40F00000#32)

/-- One monomial laid over those before where the column is of its block. -/
def layV (n : BitVec 32) (v old : FVec Ideal S2048x256 .f32) : FVec Ideal S2048x256 .f32 :=
  select (cmpi .eq (Host.divsi colI (litI 24#32)) (litI n)) v old

def basisV : FVec Ideal S2048x256 .f32 :=
  select (cmpi .eq (Host.remsi colI (litI 8#32)) (Host.remsi (Host.divsi rowI (litI 32#32)) (litI 8#32)))
    (layV 5#32 (mulf yV yV) (layV 4#32 (mulf xV yV) (layV 3#32 (mulf xV xV) (layV 2#32 yV (layV 1#32 xV (layV 0#32 (litF 0x3F800000#32) (litF 0x00000000#32)))))))
    (litF 0x00000000#32)

variable (m : (ℓ : Loc nD τ sig) → Buf (Elt Ideal) ℓ)

set_option maxHeartbeats 4000000 in
theorem basis_eq (c : Dev nD) : (V m c main_v53 : S2048x256.Idx → EReal) = basisV := by
  sl_kernel_rfl

/-! ## Read at an entry -/

theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

theorem toInt_ofNat {a : ℕ} (ha : a < 2 ^ 31) : (BitVec.ofNat 32 a).toInt = a := by
  rw [BitVec.toInt_eq_toNat_cond, BitVec.toNat_ofNat]
  have : a % 2 ^ 32 = a := Nat.mod_eq_of_lt (by omega)
  rw [this, if_pos (by omega)]

theorem select_eq {a b : ℕ} (ha : a < 2 ^ 31) (hb : b < 2 ^ 31) (v w : EReal) :
    (if IntOp.cmpi .eq (BitVec.ofNat 32 a) (BitVec.ofNat 32 b) = 1#1 then v else w) = if a = b then v else w := by
  refine if_congr ?_ rfl rfl
  show BitVec.ofBool (BitVec.ofNat 32 a == BitVec.ofNat 32 b) = 1#1 ↔ _
  rw [← ofNat_inj ha hb]
  by_cases h : BitVec.ofNat 32 a = BitVec.ofNat 32 b
  · simp [h]
  · rw [beq_eq_false_iff_ne.mpr h]
    exact iff_of_false (by decide) h

/-- The pixel's place in its tile of sixteen by sixteen, from the middle. -/
def offX (p : ℕ) : ℝ := (p % 16 : ℕ) - 15 / 2
def offY (p : ℕ) : ℝ := (p / 16 : ℕ) - 15 / 2

/-- The six monomials. -/
def monoR (p : ℕ) : ℕ → ℝ
  | 0 => 1
  | 1 => offX p
  | 2 => offY p
  | 3 => offX p * offX p
  | 4 => offX p * offY p
  | 5 => offY p * offY p
  | _ => 0

theorem bits_half15 : Ideal.ofBits .f32 0x40F00000#32 = ((15 / 2 : ℝ) : EReal) := by
  simp [Ideal.ofBits, Ideal.ieee]
  rw [← EReal.coe_mul]
  norm_num

section At

variable (p : Fin 256) (n : ℕ) (j : Fin 256)

/-- The row of pixel `p` and step `n`. -/
def rowOf : Fin 2048 := ⟨256 * (p.val / 32) + (n % 8 * 32 + p.val % 32), by omega⟩

theorem xV_apply : xV (ValueIdx.ix2 (rowOf p n) j) = (offX p.val : EReal) := by
  show (((IntOp.remsi .host (BitVec.ofNat 32 (rowOf p n).val) (BitVec.ofNat 32 16)).toInt : ℝ) : EReal) - Ideal.ofBits .f32 0x40F00000#32 = _
  have h1 := (rowOf p n).isLt
  rw [Routing.remsi_word .host (by omega) (by omega) (by omega), toInt_ofNat (by omega), bits_half15, ← EReal.coe_sub]
  have h : (rowOf p n).val % 16 = p.val % 16 := by unfold rowOf; simp only; omega
  rw [h, offX, Int.cast_natCast]

theorem yV_apply : yV (ValueIdx.ix2 (rowOf p n) j) = (offY p.val : EReal) := by
  show (((IntOp.divsi .host (BitVec.ofNat 32 (rowOf p n).val) (BitVec.ofNat 32 256) * BitVec.ofNat 32 2
      + IntOp.remsi .host (IntOp.divsi .host (BitVec.ofNat 32 (rowOf p n).val) (BitVec.ofNat 32 16)) (BitVec.ofNat 32 2)).toInt : ℝ) : EReal)
    - Ideal.ofBits .f32 0x40F00000#32 = _
  have h1 := (rowOf p n).isLt
  rw [Routing.divsi_word .host (by omega) (by omega) (by omega), Routing.divsi_word .host (by omega) (by omega) (by omega),
    Routing.remsi_word .host (by omega) (by omega) (by omega), ← BitVec.ofNat_mul, ← BitVec.ofNat_add, toInt_ofNat (by omega), bits_half15,
    ← EReal.coe_sub]
  have h : (rowOf p n).val / 256 * 2 + (rowOf p n).val / 16 % 2 = p.val / 16 := by unfold rowOf; simp only; omega
  rw [h, offY, Int.cast_natCast]

theorem layV_apply (k : ℕ) (hk : k < 2 ^ 31) (v old : FVec Ideal S2048x256 .f32) (i : Fin 2048) :
    layV (BitVec.ofNat 32 k) v old (ValueIdx.ix2 i j) = if j.val / 24 = k then v (ValueIdx.ix2 i j) else old (ValueIdx.ix2 i j) := by
  show (if IntOp.cmpi .eq (IntOp.divsi .host (BitVec.ofNat 32 j.val) (BitVec.ofNat 32 24)) (BitVec.ofNat 32 k) = 1#1 then _ else _) = _
  rw [Routing.divsi_word .host (by omega) (by omega) (by omega), select_eq (by omega) hk]

theorem basis_apply : basisV (ValueIdx.ix2 (rowOf p n) j) = if j.val % 8 = n % 8 then ((monoR p.val (j.val / 24) : ℝ) : EReal) else 0 := by
  unfold basisV
  have h1 := (rowOf p n).isLt
  show (if IntOp.cmpi .eq (IntOp.remsi .host (BitVec.ofNat 32 j.val) (BitVec.ofNat 32 8))
      (IntOp.remsi .host (IntOp.divsi .host (BitVec.ofNat 32 (rowOf p n).val) (BitVec.ofNat 32 32)) (BitVec.ofNat 32 8)) = 1#1 then _
    else Ideal.ofBits .f32 0x00000000#32) = _
  rw [Routing.remsi_word .host (by omega) (by omega) (by omega), Routing.divsi_word .host (by omega) (by omega) (by omega),
    Routing.remsi_word .host (by omega) (by omega) (by omega), select_eq (by omega) (by omega), Ideal.ofBits_zero_f32]
  have h : (rowOf p n).val / 32 % 8 = n % 8 := by unfold rowOf; simp only; omega
  rw [h]
  refine if_congr Iff.rfl ?_ rfl
  rw [layV_apply j 5 (by omega), layV_apply j 4 (by omega), layV_apply j 3 (by omega), layV_apply j 2 (by omega), layV_apply j 1 (by omega),
    layV_apply j 0 (by omega)]
  show (if j.val / 24 = 5 then yV (ValueIdx.ix2 (rowOf p n) j) * yV (ValueIdx.ix2 (rowOf p n) j) else
    if j.val / 24 = 4 then xV (ValueIdx.ix2 (rowOf p n) j) * yV (ValueIdx.ix2 (rowOf p n) j) else
    if j.val / 24 = 3 then xV (ValueIdx.ix2 (rowOf p n) j) * xV (ValueIdx.ix2 (rowOf p n) j) else
    if j.val / 24 = 2 then yV (ValueIdx.ix2 (rowOf p n) j) else if j.val / 24 = 1 then xV (ValueIdx.ix2 (rowOf p n) j) else
    if j.val / 24 = 0 then Ideal.ofBits .f32 0x3F800000#32 else Ideal.ofBits .f32 0x00000000#32) = _
  rw [xV_apply, yV_apply, Ideal.ofBits_one_f32, Ideal.ofBits_zero_f32, ← EReal.coe_mul, ← EReal.coe_mul, ← EReal.coe_mul]
  have hj : j.val / 24 < 11 := by omega
  generalize j.val / 24 = q at hj
  interval_cases q <;> simp [monoR]

end At

end Cert.Proof.KernelIdeal

end
-- ==== Proof.Coeffs.lean ====
/-
  The kernel's coefficients and its product as numbers: the sum over the columns is the quadratic of the splat's exponent,
  and two to its power the reference's opacity.
-/
module

public import proofs.«01_k».proof.Proof.Basis

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL

/-! ## Words that are finite numbers -/

theorem expo_ne (w : BitVec 32) (h : w &&& 0x7F800000#32 ≠ 0x7F800000#32) : ¬ (w.extractLsb' 23 8).toNat = 2 ^ 8 - 1 := by
  intro hx
  apply h
  have h2 : w.extractLsb' 23 8 = 255#8 := BitVec.eq_of_toNat_eq hx
  revert h2
  clear hx h
  intro h2
  apply BitVec.eq_of_getLsbD_eq
  intro i hi
  have h3 : ∀ k : ℕ, k < 8 → w.getLsbD (23 + k) = true := by
    intro k hk
    have := congrArg (fun b => b.getLsbD k) h2
    simp only [BitVec.getLsbD_extractLsb', hk, decide_true, Bool.true_and] at this
    rw [this]
    interval_cases k <;> rfl
  rw [BitVec.getLsbD_and]
  by_cases hb : 23 ≤ i ∧ i < 31
  · obtain ⟨k, rfl⟩ := Nat.exists_eq_add_of_le hb.1
    rw [h3 k (by omega), Bool.true_and]
  · have : (0x7F800000#32).getLsbD i = false := by
      have : i < 23 ∨ i = 31 := by omega
      rcases this with h | rfl
      · interval_cases i <;> rfl
      · rfl
    rw [this, Bool.and_false]

theorem finite_f32 (w : BitVec 32) (h : w &&& 0x7F800000#32 ≠ 0x7F800000#32) : ∃ r : ℝ, Ideal.ofBits .f32 w = (r : EReal) := by
  show ∃ r : ℝ, Ideal.ieee 8 23 w = (r : EReal)
  unfold Ideal.ieee
  simp only
  rw [if_neg (expo_ne w h)]
  split_ifs <;> exact ⟨_, rfl⟩

theorem nonneg_f32 (w : BitVec 32) (h : w &&& 0x7F800000#32 ≠ 0x7F800000#32) (hs : 0 ≤ w.toInt ∨ w = 0x80000000#32) :
    ∃ r : ℝ, 0 ≤ r ∧ Ideal.ofBits .f32 w = (r : EReal) := by
  rcases hs with hs | rfl
  · have hn : (w.extractLsb' 31 1 == 1#1) = false := by
      rw [beq_eq_false_iff_ne]
      intro h1
      have h2 := congrArg BitVec.toNat h1
      simp only [BitVec.extractLsb'_toNat, Nat.shiftRight_eq_div_pow] at h2
      rw [BitVec.toInt_eq_toNat_cond] at hs
      have := w.isLt
      split_ifs at hs <;> simp at h2 <;> omega
    show ∃ r : ℝ, 0 ≤ r ∧ Ideal.ieee 8 23 w = (r : EReal)
    unfold Ideal.ieee
    simp only [show 8 + 23 = 31 from rfl, hn]
    rw [if_neg (expo_ne w h)]
    split_ifs
    · exact absurd ‹_› (by simp)
    · exact ⟨_, by positivity, rfl⟩
    · exact absurd ‹_› (by simp)
    · exact ⟨_, by positivity, rfl⟩
  · exact ⟨0, le_refl _, by simp [Ideal.ofBits, Ideal.ieee]⟩

/-! ## The tile's middle -/

theorem tile_div : ∀ k : Fin 90, IntOp.shrui .vector (BitVec.ofNat 32 k.val * 37#32) 8#32 = BitVec.ofNat 32 (k.val / 7) := by decide

theorem tile_word (t : BitVec 32) (h0 : 0 ≤ t.toInt) (h1 : t.toInt < 90) : ∃ k : Fin 90, t = BitVec.ofNat 32 k.val := by
  rw [BitVec.toInt_eq_toNat_cond] at h0 h1
  have := t.isLt
  have h2 : t.toNat < 90 := by split_ifs at h0 h1 <;> omega
  exact ⟨⟨t.toNat, h2⟩, BitVec.eq_of_toNat_eq (by simp)⟩

/-- The kernel's words of a tile's middle. -/
def midX (t : BitVec 32) : BitVec 32 := (t - IntOp.shrui .vector (t * 37#32) 8#32 * 7#32) * 16#32 + 8#32
def midY (t : BitVec 32) : BitVec 32 := IntOp.shrui .vector (t * 37#32) 8#32 * 16#32 + 8#32

theorem midX_int : ∀ k : Fin 90, (midX (BitVec.ofNat 32 k.val)).toInt = (k.val % 7 * 16 + 8 : ℕ) := by decide
theorem midY_int : ∀ k : Fin 90, (midY (BitVec.ofNat 32 k.val)).toInt = (k.val / 7 * 16 + 8 : ℕ) := by decide

theorem bits_16 : Ideal.ofBits .f32 0x41800000#32 = ((16 : ℝ) : EReal) := by
  simp [Ideal.ofBits, Ideal.ieee]
  rw [← EReal.coe_mul]
  norm_num
theorem bits_half : Ideal.ofBits .f32 0x3F000000#32 = ((1 / 2 : ℝ) : EReal) := by
  simp [Ideal.ofBits, Ideal.ieee]
  rw [← EReal.coe_mul]
  norm_num

/-- The reference's pixel is the tile's middle and the kernel's place in the tile. -/
theorem px_eq (k : Fin 90) (p : Fin 256) :
    Splat.px (BitVec.ofNat 32 k.val) p.val = ((((midX (BitVec.ofNat 32 k.val)).toInt : ℝ) + offX p.val : ℝ) : EReal) := by
  unfold Splat.px
  rw [show (7#32) = BitVec.ofNat 32 7 from rfl, show (16#32) = BitVec.ofNat 32 16 from rfl,
    Routing.remsi_word .vector (by omega) (by omega) (by omega), Routing.remsi_word .vector (by omega) (by omega) (by omega),
    toInt_ofNat (by omega), toInt_ofNat (by omega), bits_16, bits_half, midX_int, ← EReal.coe_mul, ← EReal.coe_add, ← EReal.coe_add]
  unfold offX
  refine congrArg (fun r : ℝ => (r : EReal)) ?_
  generalize k.val % 7 = i
  generalize p.val % 16 = j
  push_cast
  ring

theorem py_eq (k : Fin 90) (p : Fin 256) :
    Splat.py (BitVec.ofNat 32 k.val) p.val = ((((midY (BitVec.ofNat 32 k.val)).toInt : ℝ) + offY p.val : ℝ) : EReal) := by
  unfold Splat.py
  rw [show (7#32) = BitVec.ofNat 32 7 from rfl, show (16#32) = BitVec.ofNat 32 16 from rfl,
    Routing.divsi_word .vector (by omega) (by omega) (by omega), Routing.divsi_word .vector (by omega) (by omega) (by omega),
    toInt_ofNat (by omega), toInt_ofNat (by omega), bits_16, bits_half, midY_int, ← EReal.coe_mul, ← EReal.coe_add, ← EReal.coe_add]
  unfold offY
  refine congrArg (fun r : ℝ => (r : EReal)) ?_
  generalize k.val / 7 = i
  generalize p.val / 16 = j
  push_cast
  ring

/-! ## The six coefficients -/

theorem named_log2e : Named.named (F := Ideal) κ "log2e" (φ := .f32) 0x3FB8AA3B#32 = (((Real.log 2)⁻¹ : ℝ) : EReal) :=
  IdealRules.named_const.ideal_named_scalar _ _ _ _ rfl
theorem named_neg_log2e : Named.named (F := Ideal) κ "neg_log2e" (φ := .f32) 0xBFB8AA3B#32 = ((-((Real.log 2)⁻¹) : ℝ) : EReal) :=
  IdealRules.named_const.ideal_named_scalar _ _ _ _ rfl
theorem named_neg_half_log2e : Named.named (F := Ideal) κ "neg_half_log2e" (φ := .f32) 0xBF38AA3B#32
    = ((-((1 / 2) * (Real.log 2)⁻¹) : ℝ) : EReal) :=
  IdealRules.named_const.ideal_named_scalar _ _ _ _ rfl
theorem named_log_zero : Named.named (F := Ideal) κ "log_zero" (φ := .f32) 0xF149F2CA#32 = (⊥ : EReal) :=
  IdealRules.named_const.ideal_named_scalar _ _ _ _ rfl

/-- The coefficients from six numbers and the logarithm's term: constant, x, y, xx, xy, yy. -/
def coefN (S u v a b c : EReal) : Fin 6 → EReal
  | 0 => S - (Ideal.ofBits .f32 0x3F000000#32 * (a * u * u + c * v * v) + b * u * v) * (((Real.log 2)⁻¹ : ℝ) : EReal)
  | 1 => (a * u + b * v) * (((Real.log 2)⁻¹ : ℝ) : EReal)
  | 2 => (c * v + b * u) * (((Real.log 2)⁻¹ : ℝ) : EReal)
  | 3 => a * ((-((1 / 2) * (Real.log 2)⁻¹) : ℝ) : EReal)
  | 4 => b * ((-((Real.log 2)⁻¹) : ℝ) : EReal)
  | 5 => c * ((-((1 / 2) * (Real.log 2)⁻¹) : ℝ) : EReal)

/-- The same of real numbers. -/
def coefR (S u v a b c : ℝ) : Fin 6 → ℝ
  | 0 => S - (1 / 2 * (a * u * u + c * v * v) + b * u * v) * (Real.log 2)⁻¹
  | 1 => (a * u + b * v) * (Real.log 2)⁻¹
  | 2 => (c * v + b * u) * (Real.log 2)⁻¹
  | 3 => a * (-((1 / 2) * (Real.log 2)⁻¹))
  | 4 => b * (-((Real.log 2)⁻¹))
  | 5 => c * (-((1 / 2) * (Real.log 2)⁻¹))

/-- The logarithm's term: of an opacity that is not positive, minus infinity. -/
def logN (o : EReal) : EReal :=
  if Ideal.cmp .ogt o (Ideal.ofBits .f32 0x00000000#32) = 1#1 then Ideal.log o * (((Real.log 2)⁻¹ : ℝ) : EReal) else ⊥

/-- The coefficients of a splat from its words. -/
def coefE (w : Fin 9 → BitVec 32) (t : BitVec 32) : Fin 6 → EReal :=
  coefN (logN (Ideal.ofBits .f32 (w 5))) (Ideal.ofBits .f32 (w 0) - (((midX t).toInt : ℝ) : EReal))
    (Ideal.ofBits .f32 (w 1) - (((midY t).toInt : ℝ) : EReal)) (Ideal.ofBits .f32 (w 2)) (Ideal.ofBits .f32 (w 3)) (Ideal.ofBits .f32 (w 4))

section Words

variable (T : Vec Ideal S1x1x128 .i32) (L : Fin 9 → Vec Ideal S1x1x16x128 .i32) (i : Fin 16) (l : Fin 128)

theorem rows_apply (W : Vec Ideal S1x1x16x128 .i32) : shapeCast S16x128 W shapeCasts_S1x1x16x128_S16x128 (ValueIdx.ix2 i l) = W (ValueIdx.ix4 0 0 i l) := by
  refine shapeCast_apply _ _ _ (ValueIdx.ix4 0 0 i l) ?_
  rw [Shape.rowMajor_val_two, Shape.rowMajor_val_four]
  show ((0 * 1 + 0) * 16 + i.val) * 128 + l.val = i.val * 128 + l.val
  omega

theorem tileRow_apply : k0_pay543 (F := Ideal) T (ValueIdx.ix2 (0 : Fin 1) l) = T (ValueIdx.ix3 0 0 l) := by
  refine shapeCast_apply _ _ _ (ValueIdx.ix3 0 0 l) ?_
  rw [Shape.rowMajor_val_two, Shape.rowMajor_val_three]
  show (0 * 1 + 0) * 128 + l.val = 0 * 128 + l.val
  omega

theorem over_apply (v : FVec Ideal S1x128 .f32) : broadcastTo S16x128 v broadcasts_S1x128_S16x128 (ValueIdx.ix2 i l) = v (ValueIdx.ix2 (0 : Fin 1) l) :=
  broadcastTo_apply _ _ _ _ (fun a => by match a with | ⟨0, _⟩ => rfl | ⟨1, _⟩ => rfl)

theorem pay484_apply (W : Vec Ideal S1x1x16x128 .i32) : k0_pay545 T W (ValueIdx.ix2 i l)
    = Ideal.ofBits .f32 (W (ValueIdx.ix4 0 0 i l)) - (((midX (T (ValueIdx.ix3 0 0 l))).toInt : ℝ) : EReal) := by
  unfold k0_pay545
  refine congrArg₂ (fun x y : EReal => x - y) (congrArg (Ideal.ofBits .f32) (rows_apply i l W)) ?_
  refine (over_apply i l _).trans ?_
  rw [← tileRow_apply T l]
  rfl

theorem pay485_apply (W : Vec Ideal S1x1x16x128 .i32) : k0_pay546 T W (ValueIdx.ix2 i l)
    = Ideal.ofBits .f32 (W (ValueIdx.ix4 0 0 i l)) - (((midY (T (ValueIdx.ix3 0 0 l))).toInt : ℝ) : EReal) := by
  unfold k0_pay546
  refine congrArg₂ (fun x y : EReal => x - y) (congrArg (Ideal.ofBits .f32) (rows_apply i l W)) ?_
  refine (over_apply i l _).trans ?_
  rw [← tileRow_apply T l]
  rfl

theorem pay486_apply (W : Vec Ideal S1x1x16x128 .i32) : k0_pay547 W (ValueIdx.ix2 i l) = Ideal.ofBits .f32 (W (ValueIdx.ix4 0 0 i l)) :=
  congrArg (Ideal.ofBits .f32) (rows_apply i l W)
theorem pay487_apply (W : Vec Ideal S1x1x16x128 .i32) : k0_pay548 W (ValueIdx.ix2 i l) = Ideal.ofBits .f32 (W (ValueIdx.ix4 0 0 i l)) :=
  congrArg (Ideal.ofBits .f32) (rows_apply i l W)
theorem pay488_apply (W : Vec Ideal S1x1x16x128 .i32) : k0_pay549 W (ValueIdx.ix2 i l) = Ideal.ofBits .f32 (W (ValueIdx.ix4 0 0 i l)) :=
  congrArg (Ideal.ofBits .f32) (rows_apply i l W)

theorem monoV_apply (k : Fin 6) : monoV T L k (ValueIdx.ix2 i l) = coefE (fun c => L c (ValueIdx.ix4 0 0 i l)) (T (ValueIdx.ix3 0 0 l)) k := by
  unfold coefE
  rw [← pay484_apply T i l, ← pay485_apply T i l, ← pay486_apply i l (L 2), ← pay487_apply i l (L 3), ← pay488_apply i l (L 4), ← pay488_apply i l (L 5)]
  match k with
  | 0 =>
    show _ = logN _ - _
    unfold logN
    rw [← named_log2e, ← named_log_zero]
    rfl
  | 1 => show _ = _ * _; rw [← named_log2e]; rfl
  | 2 => show _ = _ * _; rw [← named_log2e]; rfl
  | 3 => show _ = _ * _; rw [← named_neg_half_log2e]; rfl
  | 4 => show _ = _ * _; rw [← named_neg_log2e]; rfl
  | 5 => show _ = _ * _; rw [← named_neg_half_log2e]; rfl

end Words

/-! ## The sum over the columns -/

/-- What is left of a coefficient after the pieces before. -/
def cutE (v : EReal) : Fin 3 → EReal
  | 0 => v
  | 1 => v - v
  | 2 => (v - v) - (v - v)

theorem cutV_apply (v : FVec Ideal S16x128 .f32) (k : Fin 3) (x : S16x128.Idx) : cutV v k x = cutE (v x) k := by
  match k with
  | 0 => rfl
  | 1 => rfl
  | 2 => rfl

theorem cutE_real (r : ℝ) (k : Fin 3) : cutE (r : EReal) k = ((if k = 0 then r else 0 : ℝ) : EReal) := by
  match k with
  | 0 => rfl
  | 1 => show (r : EReal) - r = _; rw [← EReal.coe_sub]; simp
  | 2 => show ((r : EReal) - r) - (r - r) = _; rw [← EReal.coe_sub, ← EReal.coe_sub]; simp

/-- The product's sum without its zeros: six monomials, three pieces each. -/
def sum18 (p : ℕ) (C : Fin 6 → EReal) : EReal :=
  ∑ k : Fin 18, ((monoR p (k.val / 3) : ℝ) : EReal) * cutE (C ⟨k.val / 3, by omega⟩) ⟨k.val % 3, by omega⟩

section Sum

variable (W : S1x36x144x128.Idx → BitVec 32) (T : S1x36x128.Idx → BitVec 32) (g : Fin 36) (p : Fin 256) (l : Fin 128) (n : ℕ) (hn : n < 16)

/-- The words of splat `n` of lane `l`. -/
def wordsOf (c : Fin 9) : BitVec 32 := W (ValueIdx.ix4 0 g ⟨16 * c.val + n % 16, by omega⟩ l)

include hn in
theorem rhs_apply (k : Fin 18) :
    rhsE W T g (ValueIdx.ix2 ⟨8 * k.val + n % 8, by omega⟩ ⟨n / 8 % 2 * 128 + l.val, by omega⟩)
      = cutE (coefE (wordsOf W g l n) (T (ValueIdx.ix3 0 g l)) ⟨k.val / 3, by omega⟩) ⟨k.val % 3, by omega⟩ := by
  unfold rhsE
  rw [dif_pos (show 8 * k.val + n % 8 < 144 by omega)]
  refine (rowsV_apply _ _ ⟨8 * k.val + n % 8, by omega⟩ ⟨n / 8 % 2 * 128 + l.val, by omega⟩).trans ?_
  have e1 : (⟨(8 * k.val + n % 8) / 24, by omega⟩ : Fin 6) = ⟨k.val / 3, by omega⟩ := Fin.ext (by show (8 * k.val + n % 8) / 24 = k.val / 3; omega)
  have e2 : (⟨(8 * k.val + n % 8) / 8 % 3, by omega⟩ : Fin 3) = ⟨k.val % 3, by omega⟩ := Fin.ext (by show (8 * k.val + n % 8) / 8 % 3 = k.val % 3; omega)
  have e3 : (⟨8 * ((n / 8 % 2 * 128 + l.val) / 128) + (8 * k.val + n % 8) % 8, by omega⟩ : Fin 16) = ⟨n % 16, by omega⟩ :=
    Fin.ext (by show 8 * ((n / 8 % 2 * 128 + l.val) / 128) + (8 * k.val + n % 8) % 8 = n % 16; omega)
  have e4 : (⟨(n / 8 % 2 * 128 + l.val) % 128, by omega⟩ : Fin 128) = l := Fin.ext (by show (n / 8 % 2 * 128 + l.val) % 128 = l.val; omega)
  show cutV (monoV (ldT T g) (ldW W g) ⟨(8 * k.val + n % 8) / 24, by omega⟩) ⟨(8 * k.val + n % 8) / 8 % 3, by omega⟩
    (ValueIdx.ix2 ⟨8 * ((n / 8 % 2 * 128 + l.val) / 128) + (8 * k.val + n % 8) % 8, by omega⟩ ⟨(n / 8 % 2 * 128 + l.val) % 128, by omega⟩) = _
  rw [e1, e2, e3, e4, cutV_apply, monoV_apply]
  rfl

include hn in
theorem logAlpha_eq : logAlpha basisV (rhsE W T g) p l n = sum18 p.val (coefE (wordsOf W g l n) (T (ValueIdx.ix3 0 g l))) := by
  unfold logAlpha sum18
  symm
  refine Fintype.sum_of_injective (fun k : Fin 18 => (⟨8 * k.val + n % 8, by omega⟩ : Fin 256)) ?_ _ _ ?_ ?_
  · intro a b h
    have := congrArg Fin.val h
    simp only at this
    exact Fin.ext (by omega)
  · intro j hj
    refine (congrArg (fun z : EReal => z * _) (basis_apply p n j)).trans ?_
    by_cases h : j.val % 8 = n % 8
    · have h2 : 144 ≤ j.val := by
        by_contra h3
        exact hj ⟨⟨j.val / 8, by omega⟩, Fin.ext (by show 8 * (j.val / 8) + n % 8 = j.val; omega)⟩
      unfold rhsE
      rw [dif_neg (show ¬ j.val < 144 by omega)]
      exact mul_zero _
    · simp only [h, if_false]
      exact zero_mul _
  · intro k
    have e : (8 * k.val + n % 8) / 24 = k.val / 3 := by omega
    have e2 : (8 * k.val + n % 8) % 8 = n % 8 := by omega
    refine congrArg₂ (fun x y : EReal => x * y) ?_ (rhs_apply W T g l n hn k).symm
    refine Eq.trans ?_ (basis_apply p n ⟨8 * k.val + n % 8, by omega⟩).symm
    simp only [e, e2, if_true]

end Sum

/-! ## The opacity -/

theorem sum18_real (p : ℕ) (C : Fin 6 → ℝ) : sum18 p (fun k => (C k : EReal))
    = ((monoR p 0 * C 0 + monoR p 1 * C 1 + monoR p 2 * C 2 + monoR p 3 * C 3 + monoR p 4 * C 4 + monoR p 5 * C 5 : ℝ) : EReal) := by
  unfold sum18
  have h : ∀ k : Fin 18, ((monoR p (k.val / 3) : ℝ) : EReal) * cutE ((C ⟨k.val / 3, by omega⟩ : ℝ) : EReal) ⟨k.val % 3, by omega⟩
      = ((monoR p (k.val / 3) * (if k.val % 3 = 0 then C ⟨k.val / 3, by omega⟩ else 0) : ℝ) : EReal) := by
    intro k
    rw [cutE_real, ← EReal.coe_mul]
    refine congrArg (fun r : ℝ => (r : EReal)) (congrArg _ (if_congr ?_ rfl rfl))
    exact ⟨fun h => congrArg Fin.val h, fun h => Fin.ext h⟩
  simp only [h]
  rw [show (∑ k : Fin 18, ((monoR p (k.val / 3) * (if k.val % 3 = 0 then C ⟨k.val / 3, by omega⟩ else 0) : ℝ) : EReal))
      = ((∑ k : Fin 18, monoR p (k.val / 3) * (if k.val % 3 = 0 then C ⟨k.val / 3, by omega⟩ else 0) : ℝ) : EReal) from
    (map_sum (⟨⟨Real.toEReal, EReal.coe_zero⟩, EReal.coe_add⟩ : ℝ →+ EReal) _ _).symm]
  simp only [Fin.sum_univ_succ, Finset.univ_eq_empty, Finset.sum_empty]
  refine congrArg (fun r : ℝ => (r : EReal)) ?_
  show monoR p 0 * C 0 + (monoR p 0 * 0 + (monoR p 0 * 0 + (monoR p 1 * C 1 + (monoR p 1 * 0 + (monoR p 1 * 0 +
    (monoR p 2 * C 2 + (monoR p 2 * 0 + (monoR p 2 * 0 + (monoR p 3 * C 3 + (monoR p 3 * 0 + (monoR p 3 * 0 +
    (monoR p 4 * C 4 + (monoR p 4 * 0 + (monoR p 4 * 0 + (monoR p 5 * C 5 + (monoR p 5 * 0 + (monoR p 5 * 0 + 0))))))))))))))))) = _
  ring

theorem sum18_bot (p : ℕ) (C : Fin 6 → EReal) (h : C 0 = ⊥) : sum18 p C = ⊥ := by
  unfold sum18
  rw [Fin.sum_univ_succ]
  have : ((monoR p ((0 : Fin 18).val / 3) : ℝ) : EReal) * cutE (C ⟨(0 : Fin 18).val / 3, by decide⟩) ⟨(0 : Fin 18).val % 3, by decide⟩ = ⊥ := by
    show ((monoR p 0 : ℝ) : EReal) * C 0 = ⊥
    rw [h]
    show ((1 : ℝ) : EReal) * ⊥ = ⊥
    rw [EReal.coe_one, one_mul]
  rw [this, EReal.bot_add]

theorem logN_pos (o : ℝ) (hpos : 0 < o) : logN (o : EReal) = ((Real.log o * (Real.log 2)⁻¹ : ℝ) : EReal) := by
  unfold logN
  rw [Ideal.ofBits_zero_f32, if_pos (by simp [Ideal.cmp, hpos])]
  show (if o ≤ 0 then ⊥ else ((Real.log o : ℝ) : EReal)) * _ = _
  rw [if_neg (not_le.mpr hpos), ← EReal.coe_mul]

theorem coef_real (S u v a b c : ℝ) : coefN (S : EReal) (u : EReal) (v : EReal) a b c = fun i => ((coefR S u v a b c i : ℝ) : EReal) := by
  funext i
  match i with
  | 0 => show _ - (_ * _ + _) * _ = _; rw [bits_half]; simp only [← EReal.coe_sub, ← EReal.coe_mul, ← EReal.coe_add]; rfl
  | 1 => show (_ * _ + _ * _) * _ = _; simp only [← EReal.coe_sub, ← EReal.coe_mul, ← EReal.coe_add]; rfl
  | 2 => show (_ * _ + _ * _) * _ = _; simp only [← EReal.coe_sub, ← EReal.coe_mul, ← EReal.coe_add]; rfl
  | 3 => show _ * _ = _; rw [← EReal.coe_mul]; rfl
  | 4 => show _ * _ = _; rw [← EReal.coe_mul]; rfl
  | 5 => show _ * _ = _; rw [← EReal.coe_mul]; rfl

/-- Two to the kernel's sum is the reference's product of opacity and exponential. -/
theorem opacity_eq (w : Fin 9 → BitVec 32) (k : Fin 90) (p : Fin 256) (hf : ∀ c : Fin 9, c.val < 6 → w c &&& 0x7F800000#32 ≠ 0x7F800000#32)
    (hs : 0 ≤ (w 5).toInt ∨ w 5 = 0x80000000#32) :
    Ideal.exp2 (sum18 p.val (coefE w (BitVec.ofNat 32 k.val)))
      = Ideal.ofBits .f32 (w 5) * Ideal.exp (Ideal.ofBits .f32 0x00000000#32
        - Splat.sigma w (Splat.px (BitVec.ofNat 32 k.val) p.val) (Splat.py (BitVec.ofNat 32 k.val) p.val)) := by
  obtain ⟨r0, h0⟩ := finite_f32 (w 0) (hf 0 (by decide))
  obtain ⟨r1, h1⟩ := finite_f32 (w 1) (hf 1 (by decide))
  obtain ⟨a, h2⟩ := finite_f32 (w 2) (hf 2 (by decide))
  obtain ⟨b, h3⟩ := finite_f32 (w 3) (hf 3 (by decide))
  obtain ⟨c, h4⟩ := finite_f32 (w 4) (hf 4 (by decide))
  obtain ⟨o, ho, h5⟩ := nonneg_f32 (w 5) (hf 5 (by decide)) hs
  rw [px_eq, py_eq]
  unfold Splat.sigma coefE
  rw [h0, h1, h2, h3, h4, h5, Ideal.ofBits_zero_f32, bits_half, ← EReal.coe_sub, ← EReal.coe_sub]
  generalize ((midX (BitVec.ofNat 32 k.val)).toInt : ℝ) = X
  generalize ((midY (BitVec.ofNat 32 k.val)).toInt : ℝ) = Y
  simp only [← EReal.coe_sub, ← EReal.coe_mul, ← EReal.coe_add, ← EReal.coe_zero]
  show _ = _ * ((Real.exp _ : ℝ) : EReal)
  rw [← EReal.coe_mul]
  rcases ho.eq_or_lt with rfl | hpos
  · rw [sum18_bot]
    · show (0 : EReal) = _
      rw [zero_mul, EReal.coe_zero]
    · show logN _ - _ = ⊥
      unfold logN
      rw [Ideal.ofBits_zero_f32, if_neg (by simp [Ideal.cmp]), EReal.bot_sub]
  · rw [logN_pos o hpos]
    rw [coef_real, sum18_real]
    show ((Real.rpow 2 _ : ℝ) : EReal) = _
    refine congrArg (fun r : ℝ => (r : EReal)) ?_
    show (2 : ℝ) ^ (_ : ℝ) = _
    have hlog : Real.log 2 ≠ 0 := (Real.log_pos (by norm_num)).ne'
    rw [Real.rpow_def_of_pos (by norm_num)]
    rw [← Real.exp_log hpos, ← Real.exp_add, Real.log_exp]
    refine congrArg Real.exp ?_
    simp only [monoR, coefR]
    field_simp
    ring

/-- Whatever the tile word, two to the kernel's sum is a real number that is not negative. -/
theorem power_real (w : Fin 9 → BitVec 32) (t : BitVec 32) (p : Fin 256) (hf : ∀ c : Fin 9, c.val < 6 → w c &&& 0x7F800000#32 ≠ 0x7F800000#32)
    (hs : 0 ≤ (w 5).toInt ∨ w 5 = 0x80000000#32) : ∃ r : ℝ, 0 ≤ r ∧ Ideal.exp2 (sum18 p.val (coefE w t)) = (r : EReal) := by
  obtain ⟨r0, h0⟩ := finite_f32 (w 0) (hf 0 (by decide))
  obtain ⟨r1, h1⟩ := finite_f32 (w 1) (hf 1 (by decide))
  obtain ⟨a, h2⟩ := finite_f32 (w 2) (hf 2 (by decide))
  obtain ⟨b, h3⟩ := finite_f32 (w 3) (hf 3 (by decide))
  obtain ⟨c, h4⟩ := finite_f32 (w 4) (hf 4 (by decide))
  obtain ⟨o, ho, h5⟩ := nonneg_f32 (w 5) (hf 5 (by decide)) hs
  unfold coefE
  rw [h0, h1, h2, h3, h4, h5, ← EReal.coe_sub, ← EReal.coe_sub]
  generalize ((midX t).toInt : ℝ) = X
  generalize ((midY t).toInt : ℝ) = Y
  rcases ho.eq_or_lt with rfl | hpos
  · refine ⟨0, le_refl _, ?_⟩
    rw [sum18_bot]
    · rfl
    · show logN _ - _ = ⊥
      unfold logN
      rw [Ideal.ofBits_zero_f32, if_neg (by simp [Ideal.cmp]), EReal.bot_sub]
  · rw [logN_pos o hpos, coef_real, sum18_real]
    exact ⟨_, (Real.rpow_pos_of_pos (by norm_num) _).le, rfl⟩

end Cert.Proof.KernelIdeal

end
-- ==== Proof.IdealStep.lean ====
/-
  The blend step of a group as numbers. The two products with matrices of zeros and ones are sums over the lanes of one
  tile: the new logarithm of a tile's light, and the light in front of each lane, which weighs what the lane adds to the sums.
-/
module

public import proofs.«01_k».proof.Proof.Coeffs

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL
open scoped BigOperators

/-! ## Zeros and ones -/

/-- A bit as a number. -/
def ind (b : BitVec 1) : EReal := (((b.setWidth 32).toInt : ℝ) : EReal)

theorem ind_eq (b : BitVec 1) : ind b = ((if b = 1#1 then 1 else 0 : ℝ) : EReal) := by
  unfold ind
  have : b = 0#1 ∨ b = 1#1 := by revert b; decide
  rcases this with rfl | rfl
  · simp
  · simp

theorem eq_bit (x y : BitVec 32) : IntOp.cmpi .eq x y = 1#1 ↔ x = y := by
  show BitVec.ofBool (x == y) = 1#1 ↔ x = y
  by_cases h : x = y
  · simp [h]
  · simp [beq_eq_false_iff_ne.mpr h, h]

theorem slt_bit {a b : ℕ} (ha : a < 2 ^ 31) (hb : b < 2 ^ 31) : IntOp.cmpi .slt (BitVec.ofNat 32 a) (BitVec.ofNat 32 b) = 1#1 ↔ a < b := by
  simp only [IntOp.cmpi]
  rw [show (BitVec.ofBool ((BitVec.ofNat 32 a).slt (BitVec.ofNat 32 b)) = 1#1) = ((BitVec.ofNat 32 a).slt (BitVec.ofNat 32 b) = true) from by
    cases (BitVec.ofNat 32 a).slt (BitVec.ofNat 32 b) <;> simp]
  rw [BitVec.slt_eq_decide, decide_eq_true_eq, toInt_ofNat ha, toInt_ofNat hb]
  omega

theorem and_bit (x y : BitVec 1) : IntOp.andi x y = 1#1 ↔ x = 1#1 ∧ y = 1#1 := by revert x y; decide

theorem row_at (r c : Fin 128) : iota .tc S128x128 32 [0] iota_S128x128_d0_w32 (ValueIdx.ix2 r c) = BitVec.ofNat 32 r.val := by
  show BitVec.ofNat 32 (0 * 128 + r.val) = _
  rw [zero_mul, zero_add]

theorem col_at (r c : Fin 128) : iota .tc S128x128 32 [1] iota_S128x128_d1_w32 (ValueIdx.ix2 r c) = BitVec.ofNat 32 c.val := by
  show BitVec.ofNat 32 (0 * 128 + c.val) = _
  rw [zero_mul, zero_add]

/-! ## The operands -/

section Operands

variable (V : IVec S1x128 32) (A L : Vec Ideal S256x128 .f32)

/-- The tile of lane `j`. -/
abbrev tl (j : Fin 128) : BitVec 32 := V (ValueIdx.ix2 (0 : Fin 1) j)

/-- The left operand's six parts: three pieces of the group's logarithms, three of the running ones. -/
def partL : Fin 6 → FVec Ideal S256x128 .f32
  | 0 => A
  | 1 => subf A A
  | 2 => subf (subf A A) (subf A A)
  | 3 => L
  | 4 => subf L L
  | 5 => subf (subf L L) (subf L L)

/-- Earlier lanes of the same tile, and lanes of a tile. -/
def sameV : FVec Ideal S128x128 .f32 := fun x => ind (IntOp.andi (IntOp.cmpi .eq (k0_pay586 V x) (k0_pay587 V x)) (IntOp.cmpi .slt (iota .tc S128x128 32 [0] iota_S128x128_d0_w32 x) (iota .tc S128x128 32 [1] iota_S128x128_d1_w32 x)))
def ofTileV : FVec Ideal S128x128 .f32 := fun x => ind (IntOp.cmpi .eq (k0_pay587 V x) (iota .tc S128x128 32 [1] iota_S128x128_d1_w32 x))
/-- Tiles of a lane, and the identity. -/
def toLaneV : FVec Ideal S128x128 .f32 := fun x => ind (IntOp.cmpi .eq (k0_pay586 V x) (iota .tc S128x128 32 [0] iota_S128x128_d0_w32 x))
def idV : FVec Ideal S128x128 .f32 := fun x => ind (IntOp.cmpi .eq (iota .tc S128x128 32 [0] iota_S128x128_d0_w32 x) (iota .tc S128x128 32 [1] iota_S128x128_d1_w32 x))

def laneSel : FVec Ideal S128x256 .f32 := concatenate S128x256 1 [⟨S128x128, sameV V⟩, ⟨S128x128, ofTileV V⟩] concatenates_S128x128_S128x128_S128x256_d1
def tileSel : FVec Ideal S128x256 .f32 := concatenate S128x256 1 [⟨S128x128, toLaneV V⟩, ⟨S128x128, idV⟩] concatenates_S128x128_S128x128_S128x256_d1

def partR : Fin 6 → FVec Ideal S128x256 .f32
  | 0 => laneSel V
  | 1 => laneSel V
  | 2 => laneSel V
  | 3 => tileSel V
  | 4 => tileSel V
  | 5 => tileSel V

def opL : FVec Ideal S256x768 .bf16 :=
  concatenate S256x768 1 (List.ofFn fun n : Fin 6 => (⟨S256x128, partL A L n⟩ : (s : Shape) × (s.Idx → EReal))) (by
    exact concatenates_S256x128_S256x128_S256x128_S256x128_S256x128_S256x128_S256x768_d1)
def opR : FVec Ideal S768x256 .bf16 :=
  concatenate S768x256 0 (List.ofFn fun n : Fin 6 => (⟨S128x256, partR V n⟩ : (s : Shape) × (s.Idx → EReal))) (by
    exact concatenates_S128x256_S128x256_S128x256_S128x256_S128x256_S128x256_S768x256_d0)

theorem pay590_eq : k0_pay590 (F := Ideal) V A L = matmul (F := Ideal) dot_S256x768_S768x256_S256x256_1_0_0_1_n_n none (opL A L) (opR V) (constant (F := Ideal) S256x256 .f32 0x00000000#32) := by
  sl_kernel_rfl

theorem pay586_apply (r c : Fin 128) : k0_pay586 V (ValueIdx.ix2 r c) = tl V c := by
  unfold k0_pay586
  refine (broadcastTo_apply _ _ _ (ValueIdx.ix2 (0 : Fin 1) c) (fun a => by match a with | ⟨0, _⟩ => rfl | ⟨1, _⟩ => rfl)).trans ?_
  exact congrFun (shapeCast_self _ _) _

theorem pay587_apply (r c : Fin 128) : k0_pay587 V (ValueIdx.ix2 r c) = tl V r := by
  unfold k0_pay587
  exact (transpose_apply _ _ _ _ (ValueIdx.ix2 c r) (fun a => by match a with | ⟨0, _⟩ => rfl | ⟨1, _⟩ => rfl)).trans (pay586_apply V c r)

/-- What a lane's logarithm counts for in column `q`: earlier lanes of the same tile, or the lanes of tile `q - 128`. -/
def selA (j : Fin 128) (q : Fin 256) : ℝ :=
  if h : q.val < 128 then (if tl V j = tl V ⟨q.val, h⟩ ∧ j.val < q.val then 1 else 0) else (if tl V j = BitVec.ofNat 32 (q.val - 128) then 1 else 0)
/-- What a tile's logarithm counts for. -/
def selB (j : Fin 128) (q : Fin 256) : ℝ :=
  if h : q.val < 128 then (if tl V ⟨q.val, h⟩ = BitVec.ofNat 32 j.val then 1 else 0) else (if j.val = q.val - 128 then 1 else 0)

theorem pair_apply (X Y : FVec Ideal S128x128 .f32) (j : Fin 128) (q : Fin 256) :
    concatenate S128x256 1 [⟨S128x128, X⟩, ⟨S128x128, Y⟩] concatenates_S128x128_S128x128_S128x256_d1 (ValueIdx.ix2 j q)
      = if h : q.val < 128 then X (ValueIdx.ix2 j ⟨q.val, h⟩) else Y (ValueIdx.ix2 j ⟨q.val - 128, by omega⟩) := by
  by_cases hq : q.val < 128
  · rw [dif_pos hq]
    exact concatenate_pair_apply_left (t := S128x256) (s₁ := S128x128) (s₂ := S128x128) (1 : Fin 2) _ _ concatenates_S128x128_S128x128_S128x256_d1 (ValueIdx.ix2 j q) rfl
      (ValueIdx.ix2 j ⟨q.val, hq⟩) (fun a => by match a with | ⟨0, _⟩ => rfl | ⟨1, _⟩ => rfl)
  · rw [dif_neg hq]
    exact concatenate_pair_apply_right (t := S128x256) (s₁ := S128x128) (s₂ := S128x128) (1 : Fin 2) _ _ concatenates_S128x128_S128x128_S128x256_d1 (ValueIdx.ix2 j q) rfl rfl
      (ValueIdx.ix2 j ⟨q.val - 128, by omega⟩) (fun a => by match a with | ⟨0, _⟩ => exact fun _ => rfl | ⟨1, _⟩ => exact fun h => absurd rfl h)
        (by show q.val - 128 + 128 = q.val; omega)

theorem same_apply (r c : Fin 128) : sameV V (ValueIdx.ix2 r c) = ((if tl V r = tl V c ∧ r.val < c.val then 1 else 0 : ℝ) : EReal) := by
  unfold sameV
  rw [ind_eq, pay586_apply, pay587_apply, row_at, col_at]
  refine congrArg (fun r : ℝ => (r : EReal)) (if_congr ?_ rfl rfl)
  rw [and_bit, eq_bit]
  refine and_congr eq_comm ?_
  exact slt_bit (a := r.val) (b := c.val) (by omega) (by omega)

theorem ofTile_apply (r c : Fin 128) : ofTileV V (ValueIdx.ix2 r c) = ((if tl V r = BitVec.ofNat 32 c.val then 1 else 0 : ℝ) : EReal) := by
  unfold ofTileV
  rw [ind_eq, pay587_apply, col_at]
  refine congrArg (fun r : ℝ => (r : EReal)) (if_congr ?_ rfl rfl)
  exact eq_bit _ _

theorem toLane_apply (r c : Fin 128) : toLaneV V (ValueIdx.ix2 r c) = ((if tl V c = BitVec.ofNat 32 r.val then 1 else 0 : ℝ) : EReal) := by
  unfold toLaneV
  rw [ind_eq, pay586_apply, row_at]
  refine congrArg (fun r : ℝ => (r : EReal)) (if_congr ?_ rfl rfl)
  exact eq_bit _ _

theorem id_apply (r c : Fin 128) : idV (ValueIdx.ix2 r c) = ((if r.val = c.val then 1 else 0 : ℝ) : EReal) := by
  unfold idV
  rw [ind_eq, row_at, col_at]
  refine congrArg (fun r : ℝ => (r : EReal)) (if_congr ?_ rfl rfl)
  exact (eq_bit _ _).trans (ofNat_inj (a := r.val) (b := c.val) (by omega) (by omega))

theorem laneSel_apply (j : Fin 128) (q : Fin 256) : laneSel V (ValueIdx.ix2 j q) = ((selA V j q : ℝ) : EReal) := by
  unfold laneSel selA
  rw [pair_apply]
  by_cases hq : q.val < 128
  · rw [dif_pos hq, dif_pos hq, same_apply]
  · rw [dif_neg hq, dif_neg hq, ofTile_apply]

theorem tileSel_apply (j : Fin 128) (q : Fin 256) : tileSel V (ValueIdx.ix2 j q) = ((selB V j q : ℝ) : EReal) := by
  unfold tileSel selB
  rw [pair_apply]
  by_cases hq : q.val < 128
  · rw [dif_pos hq, dif_pos hq, toLane_apply]
  · rw [dif_neg hq, dif_neg hq, id_apply]

theorem opL_apply (p : Fin 256) (k : Fin 768) : opL A L (ValueIdx.ix2 p k) = partL A L ⟨k.val / 128, by omega⟩ (ValueIdx.ix2 p ⟨k.val % 128, Nat.mod_lt _ (by decide)⟩) := by
  unfold opL
  exact concatenate_ofFn_apply (t := S256x768) (s₁ := S256x128) (1 : Fin 2) (partL A L) _ rfl 128 rfl (ValueIdx.ix2 p k) ⟨k.val / 128, by omega⟩ rfl
    (ValueIdx.ix2 p ⟨k.val % 128, Nat.mod_lt _ (by decide)⟩) rfl (fun b => by match b with | ⟨0, _⟩ => exact fun _ => rfl | ⟨1, _⟩ => exact fun h => absurd rfl h)

theorem opR_apply (k : Fin 768) (q : Fin 256) : opR V (ValueIdx.ix2 k q) = partR V ⟨k.val / 128, by omega⟩ (ValueIdx.ix2 ⟨k.val % 128, Nat.mod_lt _ (by decide)⟩ q) := by
  unfold opR
  exact concatenate_ofFn_apply (t := S768x256) (s₁ := S128x256) (0 : Fin 2) (partR V) _ rfl 128 rfl (ValueIdx.ix2 k q) ⟨k.val / 128, by omega⟩ rfl
    (ValueIdx.ix2 ⟨k.val % 128, Nat.mod_lt _ (by decide)⟩ q) rfl (fun b => by match b with | ⟨0, _⟩ => exact fun h => absurd rfl h | ⟨1, _⟩ => exact fun _ => rfl)

/-- A sum of real numbers among the extended ones. -/
theorem coe_sum {ι : Type} [Fintype ι] (f : ι → ℝ) : (∑ j, ((f j : ℝ) : EReal)) = ((∑ j, f j : ℝ) : EReal) :=
  (map_sum (⟨⟨Real.toEReal, EReal.coe_zero⟩, EReal.coe_add⟩ : ℝ →+ EReal) _ _).symm

theorem sub_zero_real (r : ℝ) : (r : EReal) - r = 0 := by rw [← EReal.coe_sub, sub_self, EReal.coe_zero]

variable {A L}

/-- THE PRODUCT: the logarithms of the lanes and of the tiles, summed where the selectors say. -/
theorem prod_real (p q : Fin 256) (a l : Fin 128 → ℝ) (hA : ∀ j, A (ValueIdx.ix2 p j) = ((a j : ℝ) : EReal)) (hL : ∀ j, L (ValueIdx.ix2 p j) = ((l j : ℝ) : EReal)) :
    k0_pay590 (F := Ideal) V A L (ValueIdx.ix2 p q) = ((∑ j, a j * selA V j q + ∑ j, l j * selB V j q : ℝ) : EReal) := by
  rw [pay590_eq]
  refine (Ideal.matmul_plain_apply (φ₁ := .bf16) (φ₂ := .bf16) none _ _ _ p q).trans ?_
  refine (congrArg (· + _) Ideal.ofBits_zero_f32).trans ?_
  rw [zero_add]
  refine (Fintype.sum_of_injective (fun j : Fin 128 ⊕ Fin 128 => (match j with
      | .inl j => ⟨j.val, by omega⟩
      | .inr j => ⟨384 + j.val, by omega⟩ : Fin 768)) ?_
    (fun j => match j with
      | .inl j => ((a j * selA V j q : ℝ) : EReal)
      | .inr j => ((l j * selB V j q : ℝ) : EReal)) _ ?_ ?_).symm.trans ?_
  · intro x y h
    have h := congrArg Fin.val h
    match x, y with
    | .inl x, .inl y => exact congrArg Sum.inl (Fin.ext h)
    | .inr x, .inr y => exact congrArg Sum.inr (Fin.ext (by simp only at h; omega))
    | .inl x, .inr y => simp only at h; omega
    | .inr x, .inl y => simp only at h; omega
  · intro k hk
    refine (congrArg (· * _) (opL_apply A L p k)).trans ?_
    have h0 : k.val / 128 ≠ 0 := fun h => hk ⟨.inl ⟨k.val, by omega⟩, rfl⟩
    have h3 : k.val / 128 ≠ 3 := fun h => hk ⟨.inr ⟨k.val - 384, by omega⟩, Fin.ext (by show 384 + (k.val - 384) = k.val; omega)⟩
    have hk' : k.val / 128 < 6 := by omega
    have hz : ∀ n : Fin 6, n.val ≠ 0 → n.val ≠ 3 → partL A L n (ValueIdx.ix2 p ⟨k.val % 128, Nat.mod_lt _ (by decide)⟩) = 0 := by
      have hAz := hA ⟨k.val % 128, Nat.mod_lt _ (by decide)⟩
      have hLz := hL ⟨k.val % 128, Nat.mod_lt _ (by decide)⟩
      intro n hn0 hn3
      match n with
      | 0 => exact absurd rfl hn0
      | 1 => show A _ - A _ = 0; rw [hAz, sub_zero_real]
      | 2 => show (A _ - A _) - (A _ - A _) = 0; rw [hAz, sub_zero_real, ← EReal.coe_zero, sub_zero_real, EReal.coe_zero]
      | 3 => exact absurd rfl hn3
      | 4 => show L _ - L _ = 0; rw [hLz, sub_zero_real]
      | 5 => show (L _ - L _) - (L _ - L _) = 0; rw [hLz, sub_zero_real, ← EReal.coe_zero, sub_zero_real, EReal.coe_zero]
    refine (congrArg (· * _) (hz ⟨k.val / 128, hk'⟩ h0 h3)).trans (zero_mul _)
  · intro x
    match x with
    | .inl j =>
      have e1 : (⟨j.val / 128, by omega⟩ : Fin 6) = 0 := Fin.ext (by show j.val / 128 = 0; omega)
      have e2 : (⟨j.val % 128, Nat.mod_lt _ (by decide)⟩ : Fin 128) = j := Fin.ext (Nat.mod_eq_of_lt j.isLt)
      show _ = opL A L (ValueIdx.ix2 p ⟨j.val, by omega⟩) * opR V (ValueIdx.ix2 ⟨j.val, by omega⟩ q)
      rw [opL_apply, opR_apply]
      show _ = partL A L ⟨j.val / 128, by omega⟩ (ValueIdx.ix2 p ⟨j.val % 128, Nat.mod_lt _ (by decide)⟩) * partR V ⟨j.val / 128, by omega⟩ (ValueIdx.ix2 ⟨j.val % 128, Nat.mod_lt _ (by decide)⟩ q)
      rw [e1, e2]
      show _ = A _ * laneSel V _
      rw [hA, laneSel_apply, ← EReal.coe_mul]
    | .inr j =>
      have e1 : (⟨(384 + j.val) / 128, by omega⟩ : Fin 6) = 3 := Fin.ext (by show (384 + j.val) / 128 = 3; omega)
      have e2 : (⟨(384 + j.val) % 128, Nat.mod_lt _ (by decide)⟩ : Fin 128) = j := Fin.ext (by show (384 + j.val) % 128 = j.val; omega)
      show _ = opL A L (ValueIdx.ix2 p ⟨384 + j.val, by omega⟩) * opR V (ValueIdx.ix2 ⟨384 + j.val, by omega⟩ q)
      rw [opL_apply, opR_apply]
      show _ = partL A L ⟨(384 + j.val) / 128, by omega⟩ (ValueIdx.ix2 p ⟨(384 + j.val) % 128, Nat.mod_lt _ (by decide)⟩) * partR V ⟨(384 + j.val) / 128, by omega⟩ (ValueIdx.ix2 ⟨(384 + j.val) % 128, Nat.mod_lt _ (by decide)⟩ q)
      rw [e1, e2]
      show _ = L _ * tileSel V _
      rw [hL, tileSel_apply, ← EReal.coe_mul]
  · rw [Fintype.sum_sum_type]
    show (∑ j, ((a j * selA V j q : ℝ) : EReal)) + ∑ j, ((l j * selB V j q : ℝ) : EReal) = _
    rw [coe_sum, coe_sum, ← EReal.coe_add]

/-- The new logarithm of tile `t`. -/
theorem pay591_real (p : Fin 256) (t : Fin 128) (a l : Fin 128 → ℝ) (hA : ∀ j, A (ValueIdx.ix2 p j) = ((a j : ℝ) : EReal)) (hL : ∀ j, L (ValueIdx.ix2 p j) = ((l j : ℝ) : EReal)) :
    k0_pay591 (F := Ideal) V A L (ValueIdx.ix2 p t) = ((∑ j, (if tl V j = BitVec.ofNat 32 t.val then a j else 0) + l t : ℝ) : EReal) := by
  unfold k0_pay591
  refine (congrFun (shapeCast_self _ _) _).trans ?_
  refine (extractStridedSlice_apply _ _ _ _ (ValueIdx.ix2 p (⟨128 + t.val, by omega⟩ : Fin 256)) (fun a => by match a with | ⟨0, _⟩ => show p.val = 0 + p.val; omega | ⟨1, _⟩ => rfl)).trans ?_
  rw [prod_real V p _ a l hA hL]
  refine congrArg (fun r : ℝ => (r : EReal)) (congrArg₂ (· + ·) (Finset.sum_congr rfl fun j _ => ?_) ?_)
  · unfold selA
    rw [dif_neg (show ¬ 128 + t.val < 128 by omega), show 128 + t.val - 128 = t.val by omega, mul_ite, mul_one, mul_zero]
  · refine (Finset.sum_eq_single t (fun j _ hj => ?_) (fun h => absurd (Finset.mem_univ _) h)).trans ?_
    · unfold selB
      rw [dif_neg (show ¬ 128 + t.val < 128 by omega), if_neg (fun h => hj (Fin.ext (by have h : j.val = 128 + t.val - 128 := h; omega))), mul_zero]
    · unfold selB
      rw [dif_neg (show ¬ 128 + t.val < 128 by omega), if_pos (by show t.val = 128 + t.val - 128; omega), mul_one]

/-- The logarithm in front of lane `i`: the earlier lanes of its tile, and its tile. -/
def before (a l : Fin 128 → ℝ) (i : Fin 128) : ℝ :=
  ∑ j : Fin 128, (if tl V j = tl V i ∧ j.val < i.val then a j else 0) + ∑ j : Fin 128, (if tl V i = BitVec.ofNat 32 j.val then l j else 0)

theorem pay592_real (p : Fin 256) (i : Fin 128) (a l : Fin 128 → ℝ) (hA : ∀ j, A (ValueIdx.ix2 p j) = ((a j : ℝ) : EReal)) (hL : ∀ j, L (ValueIdx.ix2 p j) = ((l j : ℝ) : EReal)) :
    k0_pay592 (F := Ideal) (k0_pay590 (F := Ideal) V A L) (ValueIdx.ix2 p i) = (((2 : ℝ) ^ before V a l i : ℝ) : EReal) := by
  unfold k0_pay592
  have e : extractStridedSlice S256x128 ![0, 0] (k0_pay590 (F := Ideal) V A L) slices_S256x256_o0_0_S256x128 (ValueIdx.ix2 p i) = ((before V a l i : ℝ) : EReal) := by
    refine (extractStridedSlice_apply _ _ _ _ (ValueIdx.ix2 p (⟨i.val, by omega⟩ : Fin 256)) (fun a => by
      match a with
      | ⟨0, _⟩ => show p.val = 0 + p.val; omega
      | ⟨1, _⟩ => show i.val = 0 + i.val; omega)).trans ?_
    rw [prod_real V p _ a l hA hL]
    unfold before
    refine congrArg (fun r : ℝ => (r : EReal)) (congrArg₂ (· + ·) (Finset.sum_congr rfl fun j _ => ?_) (Finset.sum_congr rfl fun j _ => ?_))
    · unfold selA
      rw [dif_pos (show i.val < 128 by omega), mul_ite, mul_one, mul_zero]
    · unfold selB
      rw [dif_pos (show i.val < 128 by omega), mul_ite, mul_one, mul_zero]
  show Ideal.exp2 _ = _
  rw [e]
  rfl

/-! ## The sums -/

variable (S O : Vec Ideal S1x256x128 .f32) (E : FVec Ideal S256x128 .f32)

/-- The left operand's three parts, and the right operand. -/
def partS : Fin 3 → FVec Ideal S256x128 .f32
  | 0 => E
  | 1 => subf E E
  | 2 => subf (subf E E) (subf E E)
def opS : FVec Ideal S256x384 .bf16 :=
  concatenate S256x384 1 (List.ofFn fun n : Fin 3 => (⟨S256x128, partS E n⟩ : (s : Shape) × (s.Idx → EReal))) (by
    exact concatenates_S256x128_S256x128_S256x128_S256x384_d1)
def opT : FVec Ideal S384x128 .bf16 :=
  concatenate S384x128 0 (List.ofFn fun n : Fin 3 => (⟨S128x128, ofTileV V⟩ : (s : Shape) × (s.Idx → EReal))) (by
    exact concatenates_S128x128_S128x128_S128x128_S384x128_d0)

/-- A lane's sums, weighed by the light in front of it. -/
def weighed (M : FVec Ideal S256x256 .f32) : FVec Ideal S256x128 .f32 := mulf (shapeCast S256x128 S shapeCasts_S1x256x128_S256x128) (k0_pay592 (F := Ideal) M)

theorem pay594_eq (M : FVec Ideal S256x256 .f32) : k0_pay594 (F := Ideal) (k0_pay589 V) M S O
    = shapeCast S1x256x128 (addf (φ := .f32) (F := Ideal) (shapeCast S256x128 O shapeCasts_S1x256x128_S256x128)
        (matmul (F := Ideal) dot_S256x384_S384x128_S256x128_1_0_0_1_n_n none (opS (weighed S M)) (opT V) (constant (F := Ideal) S256x128 .f32 0x00000000#32)))
      shapeCasts_S256x128_S1x256x128 := by
  sl_kernel_rfl

theorem plane_in (X : Vec Ideal S1x256x128 .f32) (p : Fin 256) (t : Fin 128) : shapeCast S256x128 X shapeCasts_S1x256x128_S256x128 (ValueIdx.ix2 p t) = X (ValueIdx.ix3 (0 : Fin 1) p t) := by
  refine shapeCast_apply _ _ _ _ ?_
  rw [Shape.rowMajor_val_three, Shape.rowMajor_val_two]
  show (0 * 256 + p.val) * 128 + t.val = p.val * 128 + t.val
  omega

theorem sums_real (p : Fin 256) (t : Fin 128) (e : Fin 128 → ℝ) (hE : ∀ j, E (ValueIdx.ix2 p j) = ((e j : ℝ) : EReal)) :
    matmul (F := Ideal) dot_S256x384_S384x128_S256x128_1_0_0_1_n_n none (opS E) (opT V) (constant (F := Ideal) S256x128 .f32 0x00000000#32) (ValueIdx.ix2 p t)
      = ((∑ j, (if tl V j = BitVec.ofNat 32 t.val then e j else 0) : ℝ) : EReal) := by
  refine (Ideal.matmul_plain_apply (φ₁ := .bf16) (φ₂ := .bf16) none _ _ _ p t).trans ?_
  refine (congrArg (· + _) Ideal.ofBits_zero_f32).trans ?_
  rw [zero_add]
  have hl : ∀ k : Fin 384, opS E (ValueIdx.ix2 p k) = partS E ⟨k.val / 128, by omega⟩ (ValueIdx.ix2 p ⟨k.val % 128, Nat.mod_lt _ (by decide)⟩) := fun k => by
    unfold opS
    exact concatenate_ofFn_apply (t := S256x384) (s₁ := S256x128) (1 : Fin 2) (partS E) _ rfl 128 rfl (ValueIdx.ix2 p k) ⟨k.val / 128, by omega⟩ rfl
      (ValueIdx.ix2 p ⟨k.val % 128, Nat.mod_lt _ (by decide)⟩) rfl (fun b => by match b with | ⟨0, _⟩ => exact fun _ => rfl | ⟨1, _⟩ => exact fun h => absurd rfl h)
  have hr : ∀ k : Fin 384, opT V (ValueIdx.ix2 k t) = ofTileV V (ValueIdx.ix2 ⟨k.val % 128, Nat.mod_lt _ (by decide)⟩ t) := fun k => by
    unfold opT
    exact concatenate_ofFn_apply (t := S384x128) (s₁ := S128x128) (0 : Fin 2) (fun _ : Fin 3 => ofTileV V) _ rfl 128 rfl (ValueIdx.ix2 k t) ⟨k.val / 128, by omega⟩ rfl
      (ValueIdx.ix2 ⟨k.val % 128, Nat.mod_lt _ (by decide)⟩ t) rfl (fun b => by match b with | ⟨0, _⟩ => exact fun h => absurd rfl h | ⟨1, _⟩ => exact fun _ => rfl)
  refine (Fintype.sum_of_injective (fun j : Fin 128 => (⟨j.val, by omega⟩ : Fin 384)) ?_
    (fun j => (((if tl V j = BitVec.ofNat 32 t.val then e j else 0) : ℝ) : EReal)) _ ?_ ?_).symm.trans (coe_sum _)
  · intro x y h
    have h := congrArg Fin.val h
    exact Fin.ext h
  · intro k hk
    refine (congrArg (· * _) (hl k)).trans ?_
    have h0 : k.val / 128 ≠ 0 := fun h => hk ⟨⟨k.val, by omega⟩, rfl⟩
    have hk' : k.val / 128 < 3 := by omega
    have hz : ∀ n : Fin 3, n.val ≠ 0 → partS E n (ValueIdx.ix2 p ⟨k.val % 128, Nat.mod_lt _ (by decide)⟩) = 0 := by
      have hEz := hE ⟨k.val % 128, Nat.mod_lt _ (by decide)⟩
      intro n hn0
      match n with
      | 0 => exact absurd rfl hn0
      | 1 => show E _ - E _ = 0; rw [hEz, sub_zero_real]
      | 2 => show (E _ - E _) - (E _ - E _) = 0; rw [hEz, sub_zero_real, ← EReal.coe_zero, sub_zero_real, EReal.coe_zero]
    refine (congrArg (· * _) (hz ⟨k.val / 128, hk'⟩ h0)).trans (zero_mul _)
  · intro j
    have e1 : (⟨j.val / 128, by omega⟩ : Fin 3) = 0 := Fin.ext (by show j.val / 128 = 0; omega)
    have e2 : (⟨j.val % 128, Nat.mod_lt _ (by decide)⟩ : Fin 128) = j := Fin.ext (Nat.mod_eq_of_lt j.isLt)
    show _ = opS E (ValueIdx.ix2 p ⟨j.val, by omega⟩) * opT V (ValueIdx.ix2 ⟨j.val, by omega⟩ t)
    rw [hl, hr]
    show _ = partS E ⟨j.val / 128, by omega⟩ (ValueIdx.ix2 p ⟨j.val % 128, Nat.mod_lt _ (by decide)⟩) * ofTileV V (ValueIdx.ix2 ⟨j.val % 128, Nat.mod_lt _ (by decide)⟩ t)
    rw [e1, e2]
    show _ = E _ * _
    rw [hE, ofTile_apply, ← EReal.coe_mul]
    refine congrArg (fun r : ℝ => (r : EReal)) ?_
    rw [mul_ite, mul_one, mul_zero]

/-- The new sums of tile `t`. -/
theorem pay594_real (p : Fin 256) (t : Fin 128) (a l s : Fin 128 → ℝ) (hA : ∀ j, A (ValueIdx.ix2 p j) = ((a j : ℝ) : EReal)) (hL : ∀ j, L (ValueIdx.ix2 p j) = ((l j : ℝ) : EReal))
    (hS : ∀ j, S (ValueIdx.ix3 (0 : Fin 1) p j) = ((s j : ℝ) : EReal)) :
    k0_pay594 (F := Ideal) (k0_pay589 V) (k0_pay590 (F := Ideal) V A L) S O (ValueIdx.ix3 (0 : Fin 1) p t)
      = O (ValueIdx.ix3 (0 : Fin 1) p t) + ((∑ j, (if tl V j = BitVec.ofNat 32 t.val then s j * (2 : ℝ) ^ before V a l j else 0) : ℝ) : EReal) := by
  rw [pay594_eq]
  refine (shapeCast_apply _ _ _ (ValueIdx.ix2 p t) ?_).trans ?_
  · rw [Shape.rowMajor_val_three, Shape.rowMajor_val_two]
    show p.val * 128 + t.val = (0 * 256 + p.val) * 128 + t.val
    omega
  refine congrArg₂ (fun x y : EReal => x + y) (plane_in O p t) (sums_real V (weighed S (k0_pay590 (F := Ideal) V A L)) p t (fun j => s j * (2 : ℝ) ^ before V a l j) fun j => ?_)
  show shapeCast S256x128 S shapeCasts_S1x256x128_S256x128 (ValueIdx.ix2 p j) * k0_pay592 (F := Ideal) (k0_pay590 (F := Ideal) V A L) (ValueIdx.ix2 p j) = _
  rw [plane_in, hS, pay592_real V p j a l hA hL, ← EReal.coe_mul]

end Operands

end Cert.Proof.KernelIdeal

end
-- ==== Proof.Agree.lean ====
/-
  A lane of a group, by the kernel and by the reference: the same opacities and the same features, all of them real
  numbers, and the two ways of laying sixteen splats over each other are one.
-/
module

public import proofs.«01_k».proof.Proof.IdealStep
public import Idealize.ShloMosaic.Lib.BitcastFour

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL

/-! ## A byte of a word -/

/-- Row `4 i + c` of the words read as bytes is byte `c` of word `i`. -/
theorem byte_apply (x : S16x128.Idx → BitVec 32) (h : S16x128.Bitcasts 32 S64x128 8) (i : Fin 16) (c : Fin 3) (l : Fin 128) :
    bitcast S64x128 8 x h (ValueIdx.ix2 ⟨4 * i.val + c.val, by omega⟩ l)
      = (IntOp.andi (IntOp.shrui .vector (x (ValueIdx.ix2 i l)) (BitVec.ofNat 32 (8 * c.val))) 255#32).setWidth 8 := by
  apply BitVec.eq_of_getLsbD_eq
  intro q hq
  rw [bitcast_getLsbD x h _ q hq (by decide)]
  have e : h.srcIdx (ValueIdx.ix2 ⟨4 * i.val + c.val, by omega⟩ l) ((S64x128.row (ValueIdx.ix2 ⟨4 * i.val + c.val, by omega⟩ l) * 8 + q) / 32)
      (fun a ha => (Nat.div_lt_iff_lt_mul (by decide)).2 (h.pos_lt _ q hq a ha)) = ValueIdx.ix2 i l := by
    funext a
    match a with
    | ⟨0, _⟩ =>
      refine Fin.ext ((h.srcIdx_row _ _ _ ⟨0, Nat.zero_lt_two⟩ rfl).trans ?_)
      show ((4 * i.val + c.val) * 8 + q) / 32 = i.val
      omega
    | ⟨1, _⟩ => exact Fin.ext (h.srcIdx_other _ _ _ ⟨1, Nat.one_lt_two⟩ (by show ¬ 1 + 2 = 2; omega))
  rw [e]
  show (x (ValueIdx.ix2 i l)).getLsbD (((4 * i.val + c.val) * 8 + q) % 32) = _
  have e2 : ((4 * i.val + c.val) * 8 + q) % 32 = 8 * c.val + q := by omega
  have hs : IntOp.shrui .vector (x (ValueIdx.ix2 i l)) (BitVec.ofNat 32 (8 * c.val)) = x (ValueIdx.ix2 i l) >>> (8 * c.val) := by
    unfold IntOp.shrui
    have : (BitVec.ofNat 32 (8 * c.val)).toNat = 8 * c.val := by rw [BitVec.toNat_ofNat]; exact Nat.mod_eq_of_lt (by omega)
    rw [if_pos (by rw [this]; omega), BitVec.ushiftRight_eq', this]
  rw [e2, hs]
  unfold IntOp.andi
  rw [BitVec.getLsbD_setWidth, BitVec.getLsbD_and, BitVec.getLsbD_ushiftRight]
  have h255 : (255#32).getLsbD q = true := by interval_cases q <;> rfl
  rw [h255, Bool.and_true]
  simp [hq]

theorem pay517_apply (W : Vec Ideal S1x1x16x128 .i32) (i : Fin 16) (c : Fin 3) (l : Fin 128) :
    k0_pay578 W (ValueIdx.ix2 ⟨4 * i.val + c.val, by omega⟩ l)
      = Ideal.ofBits .fp8e4m3 ((IntOp.andi (IntOp.shrui .vector (W (ValueIdx.ix4 0 0 i l)) (BitVec.ofNat 32 (8 * c.val))) 255#32).setWidth 8) := by
  rw [← rows_apply i l W, ← byte_apply _ bitcasts_S16x128_w32_S64x128_w8 i c l]
  rfl

/-! ## Features and opacities -/

section Group

variable (W : S1x36x144x128.Idx → BitVec 32) (T : S1x36x128.Idx → BitVec 32) (g : Fin 36) (p : Fin 256) (l : Fin 128) (n : ℕ)

theorem feat_eq (c : Fin 4) : featE (featsV (ldW W g)) c l n = Splat.feature (wordsOf W g l n) c.val := by
  unfold featE featsV Splat.feature
  by_cases hc : c.val = 3
  · rw [if_pos hc, dif_neg (show ¬ 16 * c.val + n % 16 < 48 by omega)]
    have e : (⟨(16 * c.val + n % 16) % 16, by omega⟩ : Fin 16) = ⟨n % 16, by omega⟩ := Fin.ext (by show (16 * c.val + n % 16) % 16 = n % 16; omega)
    show k0_pay580 (ldW W g 8) (ValueIdx.ix2 ⟨(16 * c.val + n % 16) % 16, by omega⟩ l) = _
    rw [e, pay519_apply]
    rfl
  · rw [if_neg hc, dif_pos (show 16 * c.val + n % 16 < 48 by omega)]
    have e : (⟨(16 * c.val + n % 16) % 16, by omega⟩ : Fin 16) = ⟨n % 16, by omega⟩ := Fin.ext (by show (16 * c.val + n % 16) % 16 = n % 16; omega)
    have e2 : (⟨4 * ((16 * c.val + n % 16) % 16) + (16 * c.val + n % 16) / 16, by omega⟩ : Fin 64) = ⟨4 * (n % 16) + c.val, by omega⟩ :=
      Fin.ext (by show 4 * ((16 * c.val + n % 16) % 16) + (16 * c.val + n % 16) / 16 = 4 * (n % 16) + c.val; omega)
    show k0_pay578 (ldW W g 6) (ValueIdx.ix2 ⟨4 * ((16 * c.val + n % 16) % 16) + (16 * c.val + n % 16) / 16, by omega⟩ l)
      * k0_pay580 (ldW W g 7) (ValueIdx.ix2 ⟨(16 * c.val + n % 16) % 16, by omega⟩ l) = _
    rw [e, e2, pay519_apply]
    refine congrArg (fun z : EReal => z * _) ((pay517_apply (ldW W g 6) ⟨n % 16, by omega⟩ ⟨c.val, by omega⟩ l).trans ?_)
    rfl

/-- What the words of a lane that counts satisfy: its numbers are finite, its opacities are not negative, its colour codes are numbers. -/
def Fine : Prop :=
  ∀ n, (∀ c : Fin 9, c.val ≠ 6 → wordsOf W g l n c &&& 0x7F800000#32 ≠ 0x7F800000#32)
    ∧ (0 ≤ (wordsOf W g l n 5).toInt ∨ wordsOf W g l n 5 = 0x80000000#32)
    ∧ ∀ s : Fin 3, (wordsOf W g l n 6 >>> (8 * s.val)) &&& 127#32 ≠ 127#32

theorem bits_cap : Ideal.ofBits .f32 0x3F7D70A4#32 = ((16609444 / 16777216 : ℝ) : EReal) := by
  simp [Ideal.ofBits, Ideal.ieee]
  rw [← EReal.coe_mul]
  norm_num

/-- The opacities are real, at least zero and below one. -/
theorem alpha_real (h : Fine W g l) (hn : n < 16) : ∃ r : ℝ, 0 ≤ r ∧ r < 1 ∧ alphaE basisV (rhsE W T g) p l n = (r : EReal) := by
  obtain ⟨x, hx, e⟩ := power_real (wordsOf W g l n) (T (ValueIdx.ix3 0 g l)) p (fun c hc => (h n).1 c (by omega)) (h n).2.1
  refine ⟨min x (16609444 / 16777216), le_min hx (by norm_num), lt_of_le_of_lt (min_le_right _ _) (by norm_num), ?_⟩
  unfold alphaE
  rw [logAlpha_eq W T g p l n hn, e, bits_cap]
  exact (EReal.coe_strictMono.monotone.map_min).symm

/-- On the lane's own tile they are the reference's. -/
theorem alpha_eq (h : Fine W g l) (hn : n < 16) (t : Fin 64) (ht : T (ValueIdx.ix3 0 g l) = BitVec.ofNat 32 t.val) :
    alphaE basisV (rhsE W T g) p l n = Splat.opacity (wordsOf W g l n) (Splat.px (BitVec.ofNat 32 t.val) p.val) (Splat.py (BitVec.ofNat 32 t.val) p.val) := by
  unfold alphaE Splat.opacity
  rw [logAlpha_eq W T g p l n hn, ht]
  have e := opacity_eq (wordsOf W g l n) (⟨t.val, by omega⟩ : Fin 90) p (fun c hc => (h n).1 c (by omega)) (h n).2.1
  rw [show BitVec.ofNat 32 t.val = BitVec.ofNat 32 (⟨t.val, by omega⟩ : Fin 90).val from rfl, e, min_comm]

/-- A colour code that is a number. -/
theorem code_real (b : BitVec 8) (h : b &&& 127#8 ≠ 127#8) : ∃ r : ℝ, Ideal.ofBits .fp8e4m3 b = (r : EReal) := by
  show ∃ r : ℝ, Ideal.e4m3fn b = (r : EReal)
  have hx : ¬ ((b.extractLsb' 3 4).toNat = 15 ∧ (b.extractLsb' 0 3).toNat = 7) := by revert b; decide +kernel
  unfold Ideal.e4m3fn
  simp only
  rw [if_neg hx]
  split_ifs <;> exact ⟨_, rfl⟩

theorem byte_ne (x : BitVec 32) (h : x &&& 127#32 ≠ 127#32) : (IntOp.andi x 255#32).setWidth 8 &&& 127#8 ≠ 127#8 := by
  intro e
  apply h
  unfold IntOp.andi at e
  apply BitVec.eq_of_getLsbD_eq
  intro i hi
  rw [BitVec.getLsbD_and]
  by_cases h7 : i < 7
  · have := congrArg (fun b => b.getLsbD i) e
    simp only [BitVec.getLsbD_and, BitVec.getLsbD_setWidth] at this
    have h8 : (127#8).getLsbD i = true := by interval_cases i <;> rfl
    have h32 : (127#32).getLsbD i = true := by interval_cases i <;> rfl
    have h255 : (255#32).getLsbD i = true := by interval_cases i <;> rfl
    rw [h8, h255, decide_eq_true (show i < 8 by omega)] at this
    rw [h32]
    simpa using this
  · have h32 : (127#32).getLsbD i = false := by interval_cases i <;> first | rfl | omega
    rw [h32, Bool.and_false]

/-- The features are real. -/
theorem feature_real (h : Fine W g l) (q : Fin 4) : ∃ r : ℝ, Splat.feature (wordsOf W g l n) q.val = (r : EReal) := by
  unfold Splat.feature
  split_ifs with hq
  · exact finite_f32 _ ((h n).1 8 (by decide))
  · unfold Splat.colour
    have hs : IntOp.shrui .vector (wordsOf W g l n 6) (BitVec.ofNat 32 (8 * q.val)) = wordsOf W g l n 6 >>> (8 * q.val) := by
      unfold IntOp.shrui
      have : (BitVec.ofNat 32 (8 * q.val)).toNat = 8 * q.val := by rw [BitVec.toNat_ofNat]; exact Nat.mod_eq_of_lt (by omega)
      rw [if_pos (by rw [this]; omega), BitVec.ushiftRight_eq', this]
    obtain ⟨u, hu⟩ := code_real _ (byte_ne _ ((h n).2.2 ⟨q.val, by omega⟩))
    obtain ⟨v, hv⟩ := finite_f32 _ ((h n).1 7 (by decide))
    rw [hs, hu, hv, ← EReal.coe_mul]
    exact ⟨_, rfl⟩

end Group

/-! ## Sixteen splats of a lane -/

theorem one_sub (r : ℝ) : Ideal.ofBits .f32 0x3F800000#32 - (r : EReal) = ((1 - r : ℝ) : EReal) := by
  rw [Ideal.ofBits_one_f32, ← EReal.coe_one, ← EReal.coe_sub]

theorem log_real (x : ℝ) (h : 0 < x) : Ideal.log (x : EReal) = ((Real.log x : ℝ) : EReal) := by
  show (if x ≤ 0 then ⊥ else ((Real.log x : ℝ) : EReal)) = _
  rw [if_neg (not_le.mpr h)]

/-- The kernel's steps from the lane's own start, the reference's from `N` on: the light is a product, its logarithm a sum,
    and the sums are weighed by the light there was at `N`. -/
theorem lane_steps (α f a φ : ℕ → EReal) (N : ℕ) (R : ℝ) (hα : ∀ k, k < 16 → α (N + k) = a k) (hf : ∀ k, k < 16 → f (N + k) = φ k)
    (ha : ∀ k, k < 16 → ∃ r : ℝ, 0 ≤ r ∧ r < 1 ∧ a k = (r : EReal)) (hφ : ∀ k, k < 16 → ∃ r : ℝ, φ k = (r : EReal)) (hR : Splat.rest α N = (R : EReal)) :
    ∀ n, n < 16 → ∃ x z : ℝ, 0 < x ∧ restE a n = (x : EReal) ∧ accE a φ n = (z : EReal) ∧ Splat.rest α (N + n + 1) = ((R * x : ℝ) : EReal)
      ∧ Splat.logs α (N + n + 1) = Splat.logs α N + ((Real.log x : ℝ) : EReal) ∧ Splat.sums α f (N + n + 1) = Splat.sums α f N + ((R * z : ℝ) : EReal)
  | 0, _ => by
    obtain ⟨r, h0, h1, e⟩ := ha 0 (by omega)
    obtain ⟨v, hv⟩ := hφ 0 (by omega)
    have hα0 : α N = (r : EReal) := (hα 0 (by omega)).trans e
    have hf0 : f N = (v : EReal) := (hf 0 (by omega)).trans hv
    refine ⟨1 - r, r * v, by linarith, ?_, ?_, ?_, ?_, ?_⟩
    · show _ - a 0 = _; rw [e, one_sub]
    · show a 0 * φ 0 = _; rw [e, hv, ← EReal.coe_mul]
    · show Splat.rest α N * (_ - α N) = _; rw [hR, hα0, one_sub, ← EReal.coe_mul]
    · show Splat.logs α N + Ideal.log (_ - α N) = _; rw [hα0, one_sub, log_real _ (by linarith)]
    · show Splat.sums α f N + α N * Splat.rest α N * f N = _
      rw [hR, hα0, hf0, ← EReal.coe_mul, ← EReal.coe_mul]
      refine congrArg (fun r : ℝ => _ + (r : EReal)) ?_
      ring
  | n + 1, hn => by
    obtain ⟨x, z, hx, e1, e2, e3, e4, e5⟩ := lane_steps α f a φ N R hα hf ha hφ hR n (by omega)
    obtain ⟨r, h0, h1, e⟩ := ha (n + 1) hn
    obtain ⟨v, hv⟩ := hφ (n + 1) hn
    have hα1 : α (N + n + 1) = (r : EReal) := (hα (n + 1) hn).trans e
    have hf1 : f (N + n + 1) = (v : EReal) := (hf (n + 1) hn).trans hv
    have hp : 0 < 1 - r := by linarith
    refine ⟨x * (1 - r), z + r * x * v, mul_pos hx hp, ?_, ?_, ?_, ?_, ?_⟩
    · show restE a n - a (n + 1) * restE a n = _
      rw [e1, e, ← EReal.coe_mul, ← EReal.coe_sub]
      refine congrArg (fun r : ℝ => (r : EReal)) ?_
      ring
    · show accE a φ n + a (n + 1) * restE a n * φ (n + 1) = _
      rw [e1, e2, e, hv, ← EReal.coe_mul, ← EReal.coe_mul, ← EReal.coe_add]
    · show Splat.rest α (N + n + 1) * (_ - α (N + n + 1)) = _
      rw [e3, hα1, one_sub, ← EReal.coe_mul]
      refine congrArg (fun r : ℝ => (r : EReal)) ?_
      ring
    · show Splat.logs α (N + n + 1) + Ideal.log (_ - α (N + n + 1)) = _
      rw [e4, hα1, one_sub, log_real _ hp, add_assoc, ← EReal.coe_add, Real.log_mul hx.ne' hp.ne']
    · show Splat.sums α f (N + n + 1) + α (N + n + 1) * Splat.rest α (N + n + 1) * f (N + n + 1) = _
      rw [e5, hα1, e3, hf1, ← EReal.coe_mul, ← EReal.coe_mul, add_assoc, ← EReal.coe_add]
      refine congrArg (fun r : ℝ => _ + (r : EReal)) ?_
      ring

/-- Splats that do not count change nothing. -/
theorem lane_dead (α f : ℕ → EReal) (N : ℕ) (hα : ∀ k, k < 16 → α (N + k) = Ideal.ofBits .f32 0x00000000#32) :
    ∀ n, n ≤ 16 → Splat.rest α (N + n) = Splat.rest α N ∧ Splat.logs α (N + n) = Splat.logs α N ∧ Splat.sums α f (N + n) = Splat.sums α f N
  | 0, _ => ⟨rfl, rfl, rfl⟩
  | n + 1, hn => by
    obtain ⟨e1, e2, e3⟩ := lane_dead α f N hα n (by omega)
    have e := (hα n (by omega)).trans (Ideal.ofBits_zero_f32.trans EReal.coe_zero.symm)
    refine ⟨?_, ?_, ?_⟩
    · show Splat.rest α (N + n) * (_ - α (N + n)) = _
      rw [e1, e, one_sub, sub_zero, EReal.coe_one, mul_one]
    · show Splat.logs α (N + n) + Ideal.log (_ - α (N + n)) = _
      rw [e2, e, one_sub, sub_zero, log_real _ one_pos, Real.log_one, EReal.coe_zero, add_zero]
    · show Splat.sums α f (N + n) + α (N + n) * Splat.rest α (N + n) * f (N + n) = _
      rw [e3, e, EReal.coe_zero, zero_mul, zero_mul, add_zero]

end Cert.Proof.KernelIdeal

end
-- ==== Proof.Compose.lean ====
/-
  The group recursion of the kernel and the splat order of the reference, laid over the lanes in order: for every tile and
  pixel the logarithm of the light and the sums after `m` lanes are two real sequences, and both programs hold them.
-/
module

public import proofs.«01_k».proof.Proof.Agree

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL
open scoped BigOperators

/-- What 128 steps of a sequence add, step by step. -/
theorem fold_sum (x e : ℕ → ℝ) (N : ℕ) (he : ∀ k, k < 128 → e (N + k + 1) = e (N + k) + x k) :
    ∀ k, k ≤ 128 → e (N + k) = e N + ∑ j : Fin 128, (if j.val < k then x j.val else 0)
  | 0, _ => by
    simp only [Nat.not_lt_zero, if_false, Finset.sum_const_zero]
    exact (add_zero _).symm
  | k + 1, hk => by
    have hs : ∀ j : Fin 128, (if j.val < k + 1 then x j.val else 0) = (if j.val < k then x j.val else 0) + (if j = (⟨k, by omega⟩ : Fin 128) then x k else 0) := by
      intro j
      by_cases h1 : j.val < k
      · rw [if_pos (by omega), if_pos h1, if_neg (fun h => by have := congrArg Fin.val h; simp only at this; omega), add_zero]
      · by_cases h2 : j.val = k
        · rw [if_pos (by omega), if_neg h1, if_pos (Fin.ext h2), zero_add, h2]
        · rw [if_neg (by omega), if_neg h1, if_neg (fun h => h2 (congrArg Fin.val h)), zero_add]
    show e (N + k + 1) = _
    rw [he k (by omega), fold_sum x e N he k (by omega), Finset.sum_congr rfl (fun j _ => hs j), Finset.sum_add_distrib, Finset.sum_ite_eq' Finset.univ (⟨k, by omega⟩ : Fin 128),
      if_pos (Finset.mem_univ _), add_assoc]

section Batch

variable (W : S1x36x144x128.Idx → BitVec 32) (T : S1x36x128.Idx → BitVec 32) (cnt : ℕ) (p : Fin 256)

/-- The group and the lane of the `m`-th lane of the whole order. -/
def grpL (m : ℕ) : Fin 36 := ⟨m / 128 % 36, Nat.mod_lt _ (by decide)⟩
def idxL (m : ℕ) : Fin 128 := ⟨m % 128, Nat.mod_lt _ (by decide)⟩

/-- The lane belongs to tile `t` and its group counts. -/
def LiveL (t m : ℕ) : Prop := T (ValueIdx.ix3 (0 : Fin 1) (grpL m) (idxL m)) = BitVec.ofNat 32 t ∧ m / 128 < cnt

instance (t m : ℕ) : Decidable (LiveL T cnt t m) := by unfold LiveL; infer_instance

/-- What a lane adds to the logarithm of its tile's light, and to its sums before weighing. -/
def logL (m : ℕ) : ℝ := (lightC basisV (rhsE W T (grpL m)) (ValueIdx.ix2 p (idxL m))).toReal
def sumL (q : Fin 4) (m : ℕ) : ℝ := (sumsC basisV (rhsE W T (grpL m)) (featsV (ldW W (grpL m))) (ValueIdx.ix3 q p (idxL m))).toReal

/-- The logarithm of tile `t`'s light after `m` lanes, and its sums. -/
def logAt (t : ℕ) : ℕ → ℝ
  | 0 => 0
  | m + 1 => logAt t m + if LiveL T cnt t m then logL W T p m else 0
def sumAt (t : ℕ) (q : Fin 4) : ℕ → ℝ
  | 0 => 0
  | m + 1 => sumAt t q m + if LiveL T cnt t m then sumL W T p q m * (2 : ℝ) ^ logAt W T cnt p t m else 0

/-- Every lane of every group that counts is fine. -/
def FineB : Prop := ∀ (g : Fin 36) (l : Fin 128), g.val < cnt → Fine W g l

variable {W T cnt} (hfine : FineB W cnt) (hcnt : cnt ≤ 36)

include hfine

/-- A lane's light and sums are real. -/
theorem lane_real (g : Fin 36) (l : Fin 128) (hg : g.val < cnt) (q : Fin 4) :
    ∃ x z : ℝ, 0 < x ∧ restE (alphaE basisV (rhsE W T g) p l) 15 = (x : EReal) ∧ accE (alphaE basisV (rhsE W T g) p l) (featE (featsV (ldW W g)) q l) 15 = (z : EReal) := by
  obtain ⟨x, z, hx, e1, e2, -⟩ := lane_steps (fun k => alphaE basisV (rhsE W T g) p l k) (fun k => featE (featsV (ldW W g)) q l k)
    (alphaE basisV (rhsE W T g) p l) (featE (featsV (ldW W g)) q l) 0 1 (fun k _ => by rw [Nat.zero_add]) (fun k _ => by rw [Nat.zero_add])
    (fun k hk => alpha_real W T g p l k (hfine g l hg) hk) (fun k _ => by rw [feat_eq]; exact feature_real W g l k (hfine g l hg) q)
    (by show Ideal.ofBits .f32 0x3F800000#32 = _; rw [Ideal.ofBits_one_f32, EReal.coe_one]) 15 (by omega)
  exact ⟨x, z, hx, e1, e2⟩

theorem log_lane (m : ℕ) (hm : m / 128 < cnt) (hcnt : cnt ≤ 36) :
    lightC basisV (rhsE W T (grpL m)) (ValueIdx.ix2 p (idxL m)) = ((logL W T p m : ℝ) : EReal) := by
  obtain ⟨x, z, hx, e1, -⟩ := lane_real p hfine (T := T) (grpL m) (idxL m) (by show m / 128 % 36 < cnt; omega) 0
  have : lightC basisV (rhsE W T (grpL m)) (ValueIdx.ix2 p (idxL m)) = ((Real.log x * (Real.log 2)⁻¹ : ℝ) : EReal) := by
    show Ideal.log (restE (alphaE basisV (rhsE W T (grpL m)) p (idxL m)) 15) * _ = _
    rw [e1, log_real x hx, ← EReal.coe_mul]
  unfold logL
  rw [this, EReal.toReal_coe]

theorem sum_lane (q : Fin 4) (m : ℕ) (hm : m / 128 < cnt) (hcnt : cnt ≤ 36) :
    sumsC basisV (rhsE W T (grpL m)) (featsV (ldW W (grpL m))) (ValueIdx.ix3 q p (idxL m)) = ((sumL W T p q m : ℝ) : EReal) := by
  obtain ⟨x, z, hx, -, e2⟩ := lane_real p hfine (T := T) (grpL m) (idxL m) (by show m / 128 % 36 < cnt; omega) q
  have : sumsC basisV (rhsE W T (grpL m)) (featsV (ldW W (grpL m))) (ValueIdx.ix3 q p (idxL m)) = (z : EReal) := e2
  unfold sumL
  rw [this, EReal.toReal_coe]

include hcnt

/-- THE KERNEL: after `n` groups its buffers hold the sequences at `128 n` lanes. -/
theorem run_apply : ∀ n, n ≤ cnt → ∀ t : Fin 128,
    (runE basisV W T n).1 (ValueIdx.ix2 p t) = ((logAt W T cnt p t.val (128 * n) : ℝ) : EReal)
    ∧ ∀ q : Fin 4, (runE basisV W T n).2 (ValueIdx.ix3 q p t) = ((sumAt W T cnt p t.val q (128 * n) : ℝ) : EReal)
  | 0, _ => fun t => ⟨EReal.coe_zero.symm, fun q => EReal.coe_zero.symm⟩
  | n + 1, hn => fun t => by
    have ih := run_apply n (by omega)
    have hg : ∀ j : Fin 128, grpL (128 * n + j.val) = ⟨n % 36, by omega⟩ := fun j => Fin.ext (by show (128 * n + j.val) / 128 % 36 = n % 36; omega)
    have hl : ∀ j : Fin 128, idxL (128 * n + j.val) = j := fun j => Fin.ext (by show (128 * n + j.val) % 128 = j.val; omega)
    have hd : ∀ j : Fin 128, (128 * n + j.val) / 128 < cnt := fun j => by omega
    -- the lanes of the group
    have hA : ∀ j : Fin 128, lightC basisV (rhsE W T ⟨n % 36, by omega⟩) (ValueIdx.ix2 p j) = ((logL W T p (128 * n + j.val) : ℝ) : EReal) := fun j => by
      have := log_lane p hfine (T := T) (128 * n + j.val) (hd j) hcnt
      rwa [hg, hl] at this
    have hS : ∀ (q : Fin 4) (j : Fin 128), plane4 (sumsC basisV (rhsE W T ⟨n % 36, by omega⟩) (featsV (ldW W ⟨n % 36, by omega⟩))) q (ValueIdx.ix3 (0 : Fin 1) p j)
        = ((sumL W T p q (128 * n + j.val) : ℝ) : EReal) := fun q j => by
      have := sum_lane p hfine (T := T) q (128 * n + j.val) (hd j) hcnt
      rw [hg, hl] at this
      exact this
    have hV : ∀ j : Fin 128, tl (rowT T ⟨n % 36, by omega⟩) j = T (ValueIdx.ix3 (0 : Fin 1) ⟨n % 36, by omega⟩ j) := fun j => tileRow_apply (ldT T ⟨n % 36, by omega⟩) j
    have hlive : ∀ (t : ℕ) (j : Fin 128), LiveL T cnt t (128 * n + j.val) ↔ tl (rowT T ⟨n % 36, by omega⟩) j = BitVec.ofNat 32 t := fun t j => by
      unfold LiveL
      rw [hg, hl, hV]
      exact and_iff_left (hd j)
    -- the sequences over the group
    have hE : ∀ (t : ℕ) (k : ℕ), k ≤ 128 → logAt W T cnt p t (128 * n + k) = logAt W T cnt p t (128 * n)
        + ∑ j : Fin 128, (if j.val < k then (if LiveL T cnt t (128 * n + j.val) then logL W T p (128 * n + j.val) else 0) else 0) := fun t =>
      fold_sum (fun k => if LiveL T cnt t (128 * n + k) then logL W T p (128 * n + k) else 0) (logAt W T cnt p t) (128 * n) (fun k _ => rfl)
    have hZ : ∀ (t : ℕ) (q : Fin 4) (k : ℕ), k ≤ 128 → sumAt W T cnt p t q (128 * n + k) = sumAt W T cnt p t q (128 * n)
        + ∑ j : Fin 128, (if j.val < k then (if LiveL T cnt t (128 * n + j.val) then sumL W T p q (128 * n + j.val) * (2 : ℝ) ^ logAt W T cnt p t (128 * n + j.val) else 0) else 0) := fun t q =>
      fold_sum (fun k => if LiveL T cnt t (128 * n + k) then sumL W T p q (128 * n + k) * (2 : ℝ) ^ logAt W T cnt p t (128 * n + k) else 0) (sumAt W T cnt p t q) (128 * n) (fun k _ => rfl)
    -- in front of a lane of tile `t`
    have hB : ∀ i : Fin 128, tl (rowT T ⟨n % 36, by omega⟩) i = BitVec.ofNat 32 t.val →
        before (rowT T ⟨n % 36, by omega⟩) (fun j => logL W T p (128 * n + j.val)) (fun j => logAt W T cnt p j.val (128 * n)) i = logAt W T cnt p t.val (128 * n + i.val) := fun i hi => by
      rw [hE t.val i.val (by omega), add_comm]
      unfold before
      refine congrArg₂ (· + ·) (Finset.sum_congr rfl fun j _ => ?_) ?_
      · by_cases h1 : j.val < i.val
        · rw [if_pos h1]
          refine if_congr ?_ rfl rfl
          rw [hlive, hi]
          exact and_iff_left h1
        · rw [if_neg h1, if_neg (fun h => h1 h.2)]
      · refine (Finset.sum_eq_single t (fun j _ hj => if_neg fun h => hj ?_) (fun h => absurd (Finset.mem_univ _) h)).trans (if_pos hi)
        exact Fin.ext ((ofNat_inj (by omega) (by omega)).mp (h.symm.trans hi))
    refine ⟨?_, fun q => ?_⟩
    · show stepL basisV W T ⟨n % 36, by omega⟩ (runE basisV W T n).1 (ValueIdx.ix2 p t) = _
      unfold stepL
      rw [pay591_real (rowT T ⟨n % 36, by omega⟩) p t (fun j => logL W T p (128 * n + j.val)) (fun j => logAt W T cnt p j.val (128 * n)) hA (fun j => (ih j).1)]
      refine congrArg (fun r : ℝ => (r : EReal)) ?_
      rw [show 128 * (n + 1) = 128 * n + 128 from by omega, hE t.val 128 (le_refl _), add_comm]
      refine congrArg (_ + ·) (Finset.sum_congr rfl fun j _ => ?_)
      rw [if_pos j.isLt]
      exact if_congr (hlive _ _).symm rfl rfl
    · show stepO basisV W T ⟨n % 36, by omega⟩ (runE basisV W T n).1 (runE basisV W T n).2 q (ValueIdx.ix3 (0 : Fin 1) p t) = _
      unfold stepO
      rw [pay594_real (rowT T ⟨n % 36, by omega⟩) _ _ p t (fun j => logL W T p (128 * n + j.val)) (fun j => logAt W T cnt p j.val (128 * n))
        (fun j => sumL W T p q (128 * n + j.val)) hA (fun j => (ih j).1) (hS q)]
      refine (congrArg (· + _) ((ih t).2 q)).trans ?_
      rw [← EReal.coe_add]
      refine congrArg (fun r : ℝ => (r : EReal)) ?_
      rw [show 128 * (n + 1) = 128 * n + 128 from by omega, hZ t.val q 128 (le_refl _)]
      refine congrArg (_ + ·) (Finset.sum_congr rfl fun j _ => ?_)
      rw [if_pos j.isLt]
      by_cases h : tl (rowT T ⟨n % 36, by omega⟩) j = BitVec.ofNat 32 t.val
      · rw [if_pos h, if_pos ((hlive _ _).mpr h), hB j h]
      · rw [if_neg h, if_neg (fun h' => h ((hlive _ _).mp h'))]

omit hfine in
/-- Past the groups that count nothing changes. -/
theorem still (t : ℕ) (q : Fin 4) : ∀ k, logAt W T cnt p t (128 * cnt + k) = logAt W T cnt p t (128 * cnt) ∧ sumAt W T cnt p t q (128 * cnt + k) = sumAt W T cnt p t q (128 * cnt)
  | 0 => ⟨rfl, rfl⟩
  | k + 1 => by
    have hd : ¬ LiveL T cnt t (128 * cnt + k) := fun h => by have := h.2; omega
    obtain ⟨e1, e2⟩ := still t q k
    refine ⟨?_, ?_⟩
    · show logAt W T cnt p t (128 * cnt + k) + (if LiveL T cnt t (128 * cnt + k) then _ else 0) = _
      rw [if_neg hd, add_zero, e1]
    · show sumAt W T cnt p t q (128 * cnt + k) + (if LiveL T cnt t (128 * cnt + k) then _ else 0) = _
      rw [if_neg hd, add_zero, e2]

end Batch

/-! ## The reference -/

section Reference

open Cert.Proof.ReferenceIdeal (opac feat splat grpOf laneOf live)

variable (A0 : S64.Idx → BitVec 32) (A1 : S4x36x144x128.Idx → BitVec 32) (A2 : S4x36x128.Idx → BitVec 32) (b : Fin 4) (t : Fin 64) (p : Fin 256)

/-- The batch's count of groups. -/
abbrev cntOf : ℕ := (A0 (ValueIdx.ix1 (⟨16 * b.val, by omega⟩ : Fin 64))).toInt.toNat

theorem grp_lane (m k : ℕ) (hk : k < 16) : grpOf (16 * m + k) = grpL m ∧ laneOf (16 * m + k) = idxL m :=
  ⟨Fin.ext (by show (16 * m + k) / 2048 % 36 = m / 128 % 36; omega), Fin.ext (by show (16 * m + k) / 16 % 128 = m % 128; omega)⟩

theorem live_lane (m k : ℕ) (hk : k < 16) (hm : m < 4608) : live A0 A2 b t (16 * m + k) = 1#1 ↔ LiveL (batchT A2 b) (cntOf A0 b) t.val m := by
  unfold live LiveL
  rw [(grp_lane m k hk).1, (grp_lane m k hk).2, show (2048#32) = BitVec.ofNat 32 2048 from rfl, Routing.divsi_word .scalar (by omega) (by omega) (by omega), and_bit, eq_bit]
  refine and_congr Iff.rfl ?_
  rw [show IntOp.cmpi .slt (BitVec.ofNat 32 ((16 * m + k) / 2048)) (A0 (ValueIdx.ix1 (⟨16 * b.val, by omega⟩ : Fin 64)))
    = BitVec.ofBool ((BitVec.ofNat 32 ((16 * m + k) / 2048)).slt (A0 (ValueIdx.ix1 (⟨16 * b.val, by omega⟩ : Fin 64)))) from rfl]
  rw [show (BitVec.ofBool ((BitVec.ofNat 32 ((16 * m + k) / 2048)).slt (A0 (ValueIdx.ix1 (⟨16 * b.val, by omega⟩ : Fin 64)))) = 1#1)
    = ((BitVec.ofNat 32 ((16 * m + k) / 2048)).slt (A0 (ValueIdx.ix1 (⟨16 * b.val, by omega⟩ : Fin 64))) = true) from by
    cases (BitVec.ofNat 32 ((16 * m + k) / 2048)).slt (A0 (ValueIdx.ix1 (⟨16 * b.val, by omega⟩ : Fin 64))) <;> simp]
  rw [BitVec.slt_eq_decide, decide_eq_true_eq, toInt_ofNat (by omega)]
  unfold cntOf
  omega

theorem splat_words (m k : ℕ) (hk : k < 16) : splat A1 b (grpL m) (idxL m) (16 * m + k) = wordsOf (batchW A1 b) (grpL m) (idxL m) k := by
  funext c
  unfold splat wordsOf batchW
  refine congrArg A1 (funext fun a => Fin.ext ?_)
  match a with
  | ⟨0, _⟩ => rfl
  | ⟨1, _⟩ => rfl
  | ⟨2, _⟩ => show 16 * c.val + (16 * m + k) % 16 = 16 * c.val + k % 16; omega
  | ⟨3, _⟩ => rfl

theorem feat_lane (q : Fin 4) (m k : ℕ) (hk : k < 16) :
    feat A1 b q.val (16 * m + k) = featE (featsV (ldW (batchW A1 b) (grpL m))) q (idxL m) k := by
  unfold feat
  rw [(grp_lane m k hk).1, (grp_lane m k hk).2, splat_words A1 b m k hk, feat_eq]

variable (hfine : FineB (batchW A1 b) (cntOf A0 b)) (hcnt : cntOf A0 b ≤ 36)

include hfine hcnt

theorem opac_lane (m k : ℕ) (hk : k < 16) (hm : m < 4608) (hl : LiveL (batchT A2 b) (cntOf A0 b) t.val m) :
    opac A0 A1 A2 b t p (16 * m + k) = alphaE basisV (rhsE (batchW A1 b) (batchT A2 b) (grpL m)) p (idxL m) k := by
  unfold opac
  rw [if_pos ((live_lane A0 A2 b t m k hk hm).mpr hl), (grp_lane m k hk).1, (grp_lane m k hk).2, splat_words A1 b m k hk]
  have h2 := hl.2
  exact (alpha_eq (batchW A1 b) (batchT A2 b) (grpL m) p (idxL m) k (hfine _ _ (by show m / 128 % 36 < cntOf A0 b; omega)) hk t hl.1).symm

/-- THE REFERENCE: after `16 m` splats it holds the sequences at `m` lanes. -/
theorem ref_apply (q : Fin 4) : ∀ m, m ≤ 4608 →
    Splat.rest (opac A0 A1 A2 b t p) (16 * m) = (((2 : ℝ) ^ logAt (batchW A1 b) (batchT A2 b) (cntOf A0 b) p t.val m : ℝ) : EReal)
    ∧ Splat.logs (opac A0 A1 A2 b t p) (16 * m) = ((logAt (batchW A1 b) (batchT A2 b) (cntOf A0 b) p t.val m * Real.log 2 : ℝ) : EReal)
    ∧ Splat.sums (opac A0 A1 A2 b t p) (feat A1 b q.val) (16 * m) = ((sumAt (batchW A1 b) (batchT A2 b) (cntOf A0 b) p t.val q m : ℝ) : EReal)
  | 0, _ => by
    refine ⟨?_, ?_, ?_⟩
    · show Ideal.ofBits .f32 0x3F800000#32 = (((2 : ℝ) ^ (0 : ℝ) : ℝ) : EReal)
      rw [Ideal.ofBits_one_f32, Real.rpow_zero, EReal.coe_one]
    · show Ideal.ofBits .f32 0x00000000#32 = ((0 * Real.log 2 : ℝ) : EReal)
      rw [Ideal.ofBits_zero_f32, zero_mul, EReal.coe_zero]
    · exact Ideal.ofBits_zero_f32.trans EReal.coe_zero.symm
  | m + 1, hm => by
    obtain ⟨e1, e2, e3⟩ := ref_apply q m (by omega)
    rw [show 16 * (m + 1) = 16 * m + 16 from by omega]
    by_cases hl : LiveL (batchT A2 b) (cntOf A0 b) t.val m
    · have h2 := hl.2
      have hF := hfine (grpL m) (idxL m) (by show m / 128 % 36 < cntOf A0 b; omega)
      obtain ⟨x, z, hx, r1, r2, r3, r4, r5⟩ := lane_steps (opac A0 A1 A2 b t p) (feat A1 b q.val)
        (alphaE basisV (rhsE (batchW A1 b) (batchT A2 b) (grpL m)) p (idxL m)) (featE (featsV (ldW (batchW A1 b) (grpL m))) q (idxL m)) (16 * m) _
        (fun k hk => opac_lane A0 A1 A2 b t p hfine hcnt m k hk (by omega) hl) (fun k hk => feat_lane A1 b q m k hk)
        (fun k hk => alpha_real _ _ _ p _ k hF hk) (fun k _ => by rw [feat_eq]; exact feature_real _ _ _ k hF q) e1 15 (by omega)
      have hlog : logL (batchW A1 b) (batchT A2 b) p m = Real.log x * (Real.log 2)⁻¹ := by
        unfold logL
        rw [show lightC basisV (rhsE (batchW A1 b) (batchT A2 b) (grpL m)) (ValueIdx.ix2 p (idxL m)) = ((Real.log x * (Real.log 2)⁻¹ : ℝ) : EReal) from by
          show Ideal.log (restE (alphaE basisV (rhsE (batchW A1 b) (batchT A2 b) (grpL m)) p (idxL m)) 15) * _ = _
          rw [r1, log_real x hx, ← EReal.coe_mul], EReal.toReal_coe]
      have hsum : sumL (batchW A1 b) (batchT A2 b) p q m = z := by
        unfold sumL
        rw [show sumsC basisV (rhsE (batchW A1 b) (batchT A2 b) (grpL m)) (featsV (ldW (batchW A1 b) (grpL m))) (ValueIdx.ix3 q p (idxL m)) = (z : EReal) from r2, EReal.toReal_coe]
      have hln : Real.log 2 ≠ 0 := (Real.log_pos (by norm_num)).ne'
      have hstep : logAt (batchW A1 b) (batchT A2 b) (cntOf A0 b) p t.val (m + 1) = logAt (batchW A1 b) (batchT A2 b) (cntOf A0 b) p t.val m + Real.log x * (Real.log 2)⁻¹ := by
        show logAt (batchW A1 b) (batchT A2 b) (cntOf A0 b) p t.val m + (if LiveL (batchT A2 b) (cntOf A0 b) t.val m then logL (batchW A1 b) (batchT A2 b) p m else 0) = _
        rw [if_pos hl, hlog]
      have hpow : (2 : ℝ) ^ (Real.log x * (Real.log 2)⁻¹) = x := by
        rw [Real.rpow_def_of_pos (by norm_num), mul_comm (Real.log x), ← mul_assoc, mul_inv_cancel₀ hln, one_mul, Real.exp_log hx]
      refine ⟨r3.trans ?_, r4.trans ?_, r5.trans ?_⟩
      · rw [hstep, Real.rpow_add (by norm_num), hpow]
      · rw [e2, ← EReal.coe_add, hstep]
        refine congrArg (fun r : ℝ => (r : EReal)) ?_
        field_simp
      · rw [e3, ← EReal.coe_add]
        refine congrArg (fun r : ℝ => (r : EReal)) ?_
        show _ = sumAt (batchW A1 b) (batchT A2 b) (cntOf A0 b) p t.val q m
          + (if LiveL (batchT A2 b) (cntOf A0 b) t.val m then sumL (batchW A1 b) (batchT A2 b) p q m * (2 : ℝ) ^ logAt (batchW A1 b) (batchT A2 b) (cntOf A0 b) p t.val m else 0)
        rw [if_pos hl, hsum, mul_comm]
    · obtain ⟨d1, d2, d3⟩ := lane_dead (opac A0 A1 A2 b t p) (feat A1 b q.val) (16 * m) (fun k hk => by
        unfold opac
        rw [if_neg (fun h => hl ((live_lane A0 A2 b t m k hk (by omega)).mp h))]) 16 (le_refl _)
      have s1 : logAt (batchW A1 b) (batchT A2 b) (cntOf A0 b) p t.val (m + 1) = logAt (batchW A1 b) (batchT A2 b) (cntOf A0 b) p t.val m := by
        show _ + (if LiveL (batchT A2 b) (cntOf A0 b) t.val m then _ else 0) = _
        rw [if_neg hl, add_zero]
      have s2 : sumAt (batchW A1 b) (batchT A2 b) (cntOf A0 b) p t.val q (m + 1) = sumAt (batchW A1 b) (batchT A2 b) (cntOf A0 b) p t.val q m := by
        show _ + (if LiveL (batchT A2 b) (cntOf A0 b) t.val m then _ else 0) = _
        rw [if_neg hl, add_zero]
      rw [d1, d2, d3, s1, s2]
      exact ⟨e1, e2, e3⟩

end Reference

/-! ## The whole result -/

/-- What the precondition gives of the arguments: every count fits, and the words of the groups that count are fine. -/
def FineE (A0 : S64.Idx → BitVec 32) (A1 : S4x36x144x128.Idx → BitVec 32) : Prop :=
  ∀ b : Fin 4, (A0 (ValueIdx.ix1 (⟨16 * b.val, by omega⟩ : Fin 64))).toInt ≤ 36
    ∧ ∀ (g : Fin 36) (l : Fin 128), (g.val : ℤ) < (A0 (ValueIdx.ix1 (⟨16 * b.val, by omega⟩ : Fin 64))).toInt →
      ∀ k : Fin 144, (¬ (96 ≤ k.val ∧ k.val < 112) → A1 (ValueIdx.ix4 b g k l) &&& 0x7F800000#32 ≠ 0x7F800000#32)
        ∧ (80 ≤ k.val → k.val < 96 → 0 ≤ (A1 (ValueIdx.ix4 b g k l)).toInt ∨ A1 (ValueIdx.ix4 b g k l) = 0x80000000#32)
        ∧ (96 ≤ k.val → k.val < 112 → ∀ s : Fin 3, (A1 (ValueIdx.ix4 b g k l) >>> (8 * s.val)) &&& 127#32 ≠ 127#32)

theorem fine_batch (A0 : S64.Idx → BitVec 32) (A1 : S4x36x144x128.Idx → BitVec 32) (h : FineE A0 A1) (b : Fin 4) : FineB (batchW A1 b) (cntOf A0 b) := by
  intro g l hg n
  have hw := (h b).2 g l (by unfold cntOf at hg; omega)
  have hn := Nat.mod_lt n (show 16 > 0 by decide)
  refine ⟨fun c hc => ?_, ?_, fun s => ?_⟩
  · exact (hw ⟨16 * c.val + n % 16, by omega⟩).1 (by show ¬ (96 ≤ 16 * c.val + n % 16 ∧ 16 * c.val + n % 16 < 112); omega)
  · exact (hw ⟨16 * 5 + n % 16, by omega⟩).2.1 (by show 80 ≤ 16 * 5 + n % 16; omega) (by show 16 * 5 + n % 16 < 96; omega)
  · exact (hw ⟨16 * 6 + n % 16, by omega⟩).2.2 (by show 96 ≤ 16 * 6 + n % 16; omega) (by show 16 * 6 + n % 16 < 112; omega) s

theorem result_eq (A0 : S64.Idx → BitVec 32) (A1 : S4x36x144x128.Idx → BitVec 32) (A2 : S4x36x128.Idx → BitVec 32) (A3 : S4x3.Idx → EReal) (h : FineE A0 A1) :
    resultE basisV A0 A1 A2 A3 = Cert.Proof.ReferenceIdeal.refE A0 A1 A2 A3 := by
  funext y
  obtain ⟨b, hb⟩ : ∃ b : Fin 4, b = ⟨(y 0).val, (y 0).isLt⟩ := ⟨_, rfl⟩
  obtain ⟨t, ht⟩ : ∃ t : Fin 64, t = ⟨(y 2).val, (y 2).isLt⟩ := ⟨_, rfl⟩
  obtain ⟨p, hp⟩ : ∃ p : Fin 256, p = ⟨(y 3).val, (y 3).isLt⟩ := ⟨_, rfl⟩
  have hy1 : (y 1).val < 5 := (y 1).isLt
  have hfine := fine_batch A0 A1 h b
  have hcnt : cntOf A0 b ≤ 36 := by have := (h b).1; unfold cntOf; omega
  have hend : 4608 = 128 * cntOf A0 b + (4608 - 128 * cntOf A0 b) := by omega
  have K := run_apply p (T := batchT A2 b) hfine hcnt (cntOf A0 b) (le_refl _) (⟨t.val, by omega⟩ : Fin 128)
  have R : ∀ q : Fin 4, _ := fun q => ref_apply A0 A1 A2 b t p hfine hcnt q 4608 (le_refl _)
  have E : ∀ q : Fin 4, _ := fun q => still (W := batchW A1 b) (T := batchT A2 b) p hcnt t.val q (4608 - 128 * cntOf A0 b)
  rw [← hend] at E
  rw [show 16 * 4608 = 73728 from rfl] at R
  subst hb; subst ht; subst hp
  unfold Cert.Proof.ReferenceIdeal.refE
  by_cases h1 : (y 1).val < 3
  · rw [dif_pos h1]
    have e1 := K.2 ⟨(y 1).val, by omega⟩
    have e2 := (R ⟨(y 1).val, by omega⟩).1
    have e3 := (R ⟨(y 1).val, by omega⟩).2.2
    rw [(E ⟨(y 1).val, by omega⟩).1] at e2
    rw [(E ⟨(y 1).val, by omega⟩).2] at e3
    refine (dif_pos h1 : _ = _).trans ?_
    exact congrArg₂ (· + ·) (e1.trans e3.symm) (congrArg (· * _) (((congrArg Ideal.exp2 K.1).trans rfl).trans e2.symm))
  · rw [dif_neg h1]
    refine (dif_neg h1 : _ = _).trans ?_
    by_cases h3 : (y 1).val = 3
    · rw [if_pos h3]
      refine Eq.trans ?_ (if_pos h3).symm
      have e2 := (R 0).2.1
      rw [(E 0).1, EReal.coe_mul] at e2
      exact (congrArg (· * _) K.1).trans e2.symm
    · rw [if_neg h3]
      refine Eq.trans ?_ (if_neg h3).symm
      have e3 := (R 3).2.2
      rw [(E 3).2] at e3
      exact (K.2 3).trans e3.symm

end Cert.Proof.KernelIdeal

end
-- ==== Proof.PreInputs.lean ====
/-
  What the precondition on the inputs says of the words, element by element.
-/
module

public import proofs.«01_k».proof.Proof.Compose

@[expose] public section

noncomputable section

namespace Cert.Proof.Pre

open Idealize.ShloMosaic Cert.Pre_inputs_ok

variable {F : FTy → Type} [FloatOps F] [Facts]

/-- The batch's count, spread over the words. -/
theorem count_spread (x : S64.Idx → BitVec 32) (h1 : S64.ShapeCasts S4x16) (h2 : S4x16.Slices ![0, 0] S4x1) (h3 : S4x1.ShapeCasts S4x1x1x1) (b : Fin 4) :
    shapeCast S4x1x1x1 (extractStridedSlice S4x1 ![0, 0] (shapeCast S4x16 x h1) h2) h3 (ValueIdx.ix4 b (0 : Fin 1) (0 : Fin 1) (0 : Fin 1))
      = x (ValueIdx.ix1 ⟨16 * b.val, by omega⟩) := by
  rw [← count_apply x h1 h2 b (ValueIdx.ix1 ⟨16 * b.val, by omega⟩) rfl]
  refine shapeCast_apply _ _ _ _ ?_
  rw [Shape.rowMajor_val_two, Shape.rowMajor_val_four]
  show b.val * 1 + 0 = ((b.val * 1 + 0) * 1 + 0) * 1 + 0
  omega

theorem over_b {α : Type} (x : S4x1x1x1.Idx → α) (h) (b : Fin 4) (g : Fin 36) (k : Fin 144) (l : Fin 128) :
    broadcastInDim S4x36x144x128 ![0, 1, 2, 3] h x (ValueIdx.ix4 b g k l) = x (ValueIdx.ix4 b (0 : Fin 1) (0 : Fin 1) (0 : Fin 1)) := by
  refine congrArg x (funext fun a => ?_)
  match a with
  | ⟨0, _⟩ => rfl
  | ⟨1, _⟩ => rfl
  | ⟨2, _⟩ => rfl
  | ⟨3, _⟩ => rfl

theorem and_one (a b : BitVec 1) : a &&& b = 1#1 ↔ a = 1#1 ∧ b = 1#1 := by revert a b; decide
theorem or_one (a b : BitVec 1) : a ||| b = 1#1 ↔ a = 1#1 ∨ b = 1#1 := by revert a b; decide

theorem sle_one (a b : BitVec 32) : IntOp.cmpi .sle a b = 1#1 ↔ a.toInt ≤ b.toInt := by
  simp only [IntOp.cmpi, ofBool_one, BitVec.sle_eq_decide, decide_eq_true_eq]
theorem sge_one (a b : BitVec 32) : IntOp.cmpi .sge a b = 1#1 ↔ b.toInt ≤ a.toInt := by
  simp only [IntOp.cmpi, ofBool_one, BitVec.sle_eq_decide, decide_eq_true_eq]
theorem slt_one (a b : BitVec 32) : IntOp.cmpi .slt a b = 1#1 ↔ a.toInt < b.toInt := by
  simp only [IntOp.cmpi, ofBool_one, BitVec.slt_eq_decide, decide_eq_true_eq]
theorem eq_one (a b : BitVec 32) : IntOp.cmpi .eq a b = 1#1 ↔ a = b := by
  simp only [IntOp.cmpi, ofBool_one, beq_iff_eq]
theorem ne_one (a b : BitVec 32) : IntOp.cmpi .ne a b = 1#1 ↔ a ≠ b := by
  simp only [IntOp.cmpi, ofBool_one, bne_iff_ne]

theorem not_one (a : BitVec 1) : ~~~a = 1#1 ↔ ¬ a = 1#1 := by revert a; decide

/-- A row number against a bound. -/
theorem row_ge (k n : ℕ) (hk : k < 144) (hn : n < 144) : IntOp.cmpi .sge (BitVec.ofNat 32 k) (BitVec.ofNat 32 n) = 1#1 ↔ n ≤ k := by
  rw [sge_one, KernelIdeal.toInt_ofNat (by omega), KernelIdeal.toInt_ofNat (by omega)]; omega
theorem row_lt (k n : ℕ) (hk : k < 144) (hn : n < 144) : IntOp.cmpi .slt (BitVec.ofNat 32 k) (BitVec.ofNat 32 n) = 1#1 ↔ k < n := by
  rw [slt_one, KernelIdeal.toInt_ofNat (by omega), KernelIdeal.toInt_ofNat (by omega)]; omega

theorem shift_byte (w : BitVec 32) (s : ℕ) (hs : s < 3) : IntOp.shrui .host w (BitVec.ofNat 32 (8 * s)) = w >>> (8 * s) := by
  have e : (BitVec.ofNat 32 (8 * s)).toNat = 8 * s := by rw [BitVec.toNat_ofNat]; omega
  unfold IntOp.shrui
  rw [if_pos (by rw [e]; omega), BitVec.ushiftRight_eq', e]

/-- What the predicate asks of the word `w` in row `k`. -/
def wordOk (k : Fin 144) (w : BitVec 32) : BitVec 1 :=
  IntOp.andi (IntOp.andi (IntOp.ori (IntOp.andi (IntOp.cmpi .sge (BitVec.ofNat 32 k.val) 96#32) (IntOp.cmpi .slt (BitVec.ofNat 32 k.val) 112#32)) (IntOp.cmpi .ne (IntOp.andi w 0x7F800000#32) 0x7F800000#32))
      (IntOp.ori (IntOp.ori ((~~~IntOp.andi (IntOp.cmpi .sge (BitVec.ofNat 32 k.val) 80#32) (IntOp.cmpi .slt (BitVec.ofNat 32 k.val) 96#32))) (IntOp.cmpi .sge w 0#32)) (IntOp.cmpi .eq w 0x80000000#32)))
    (IntOp.ori ((~~~IntOp.andi (IntOp.cmpi .sge (BitVec.ofNat 32 k.val) 96#32) (IntOp.cmpi .slt (BitVec.ofNat 32 k.val) 112#32)))
      (IntOp.andi (IntOp.andi (IntOp.cmpi .ne (IntOp.andi (IntOp.shrui .host w 0#32) 127#32) 127#32) (IntOp.cmpi .ne (IntOp.andi (IntOp.shrui .host w 8#32) 127#32) 127#32))
        (IntOp.cmpi .ne (IntOp.andi (IntOp.shrui .host w 16#32) 127#32) 127#32)))

theorem word_ok (k : Fin 144) (w : BitVec 32) (h : wordOk k w = 1#1) :
    (¬ (96 ≤ k.val ∧ k.val < 112) → w &&& 0x7F800000#32 ≠ 0x7F800000#32)
      ∧ (80 ≤ k.val → k.val < 96 → 0 ≤ w.toInt ∨ w = 0x80000000#32)
      ∧ (96 ≤ k.val → k.val < 112 → ∀ s : Fin 3, (w >>> (8 * s.val)) &&& 127#32 ≠ 127#32) := by
  unfold wordOk at h
  simp only [IntOp.andi, IntOp.ori, and_one, or_one, not_one, ne_one, eq_one, sge_one w,
    show (96#32) = BitVec.ofNat 32 96 from rfl, show (112#32) = BitVec.ofNat 32 112 from rfl, show (80#32) = BitVec.ofNat 32 80 from rfl,
    row_ge k.val _ k.isLt (by omega : 96 < 144), row_ge k.val _ k.isLt (by omega : 80 < 144), row_lt k.val _ k.isLt (by omega : 112 < 144), row_lt k.val _ k.isLt (by omega : 96 < 144)] at h
  obtain ⟨⟨h1, h2⟩, h3⟩ := h
  refine ⟨fun hk => h1.resolve_left hk, fun h80 h96 => ?_, fun h96 h112 s => ?_⟩
  · rcases h2 with (h2 | h2) | h2
    · exact absurd ⟨h80, h96⟩ h2
    · exact Or.inl h2
    · exact Or.inr h2
  · obtain ⟨⟨s0, s1⟩, s2⟩ := h3.resolve_left (fun h => h ⟨h96, h112⟩)
    match s with
    | ⟨0, _⟩ => exact fun e => s0 ((congrArg (· &&& 127#32) (shift_byte w 0 (by decide))).trans e)
    | ⟨1, _⟩ => exact fun e => s1 ((congrArg (· &&& 127#32) (shift_byte w 1 (by decide))).trans e)
    | ⟨2, _⟩ => exact fun e => s2 ((congrArg (· &&& 127#32) (shift_byte w 2 (by decide))).trans e)

/-- The predicate at one word. -/
theorem inputs_at (x0 : IVec S64 32) (x1 : IVec S4x36x144x128 32) (x2 : IVec S4x36x128 32) (x3 : FVec F S4x3 .f32)
    (h : Cert.Pre_inputs_ok.fn (F := F) x0 x1 x2 x3 = fun _ => 1#1) (b : Fin 4) (g : Fin 36) (k : Fin 144) (l : Fin 128) :
    (x0 (ValueIdx.ix1 ⟨16 * b.val, by omega⟩)).toInt ≤ 36
      ∧ ((x0 (ValueIdx.ix1 ⟨16 * b.val, by omega⟩)).toInt ≤ (g.val : ℤ) ∨ wordOk k (x1 (ValueIdx.ix4 b g k l)) = 1#1) := by
  have e := congrFun h (ValueIdx.ix4 b g k l)
  have hc := count_spread x0 Facts.shapeCasts_S64_S4x16 Facts.slices_S4x16_S4x1_0_0 Facts.shapeCasts_S4x1_S4x1x1x1 b
  obtain ⟨e1, e2⟩ := (and_one _ _).mp e
  refine ⟨?_, ((or_one _ _).mp e2).imp (fun h => ?_) (fun h => h)⟩
  · have h := (sle_one _ _).mp ((over_b _ _ b g k l).symm.trans e1)
    rw [hc] at h
    exact h
  · have h := (sge_one _ _).mp h
    rw [over_b, hc] at h
    have h : _ ≤ (BitVec.ofNat 32 g.val).toInt := h
    rw [KernelIdeal.toInt_ofNat (by omega)] at h
    exact h

/-- What the certificate uses: the counts fit, and the groups that count are fine. -/
theorem inputs_counts (x0 : IVec S64 32) (x1 : IVec S4x36x144x128 32) (x2 : IVec S4x36x128 32) (x3 : FVec F S4x3 .f32)
    (h : Cert.Pre_inputs_ok.fn (F := F) x0 x1 x2 x3 = fun _ => 1#1) (j : S64.Idx) (hj : 16 ∣ (j 0).val) : (x0 j).toInt ≤ 36 := by
  obtain ⟨b, hb⟩ := hj
  have hb4 : b < 4 := by have := (j 0).isLt; change (j 0).val < 64 at this; omega
  have e : j = ValueIdx.ix1 ⟨16 * b, by omega⟩ := by
    funext a
    match a with
    | ⟨0, _⟩ => exact Fin.ext hb
  rw [e]
  exact (inputs_at x0 x1 x2 x3 h ⟨b, hb4⟩ 0 0 0).1

theorem inputs_fine (x0 : IVec S64 32) (x1 : IVec S4x36x144x128 32) (x2 : IVec S4x36x128 32) (x3 : FVec F S4x3 .f32)
    (h : Cert.Pre_inputs_ok.fn (F := F) x0 x1 x2 x3 = fun _ => 1#1) : KernelIdeal.FineE x0 x1 := fun b =>
  ⟨(inputs_at x0 x1 x2 x3 h b 0 0 0).1, fun g l hlive k => word_ok k _ ((inputs_at x0 x1 x2 x3 h b g k l).2.resolve_left (not_le.mpr hlive))⟩

end Cert.Proof.Pre

end
-- ==== Proof.lean ====
module

public import proofs.«01_k».proof.Proof.PreInputs
public import proofs.«01_k».proof.Proof.Gen.ReferenceIdeal.Frame
public import proofs.«01_k».proof.Proof.Gen.Pre_counts_ok
public import proofs.«01_k».proof.Proof.Gen.Pre_inputs_ok

@[expose] public section

noncomputable section

namespace Cert.Proof

open Idealize.ShloMosaic Idealize.SL.Sem

/-- Every rewrite of the idealization is one the rules allow. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "log_zero" .f32 0xF149F2CA#32 ⊥ rfl,
   IdealRules.named_const.statement Cert.KernelIdeal.κ "neg_half_log2e" .f32 0xBF38AA3B#32 ((-((1 / 2) * (Real.log 2)⁻¹) : ℝ) : EReal) rfl,
   IdealRules.named_const.statement Cert.KernelIdeal.κ "neg_log2e" .f32 0xBFB8AA3B#32 ((-((Real.log 2)⁻¹) : ℝ) : EReal) rfl,
   IdealRules.bf16_pack.statement Cert.KernelIdeal.S16x128,
   IdealRules.named_const.statement Cert.KernelIdeal.κ "series_below" .f32 0x3C800000#32 ⊥ rfl,
   IdealRules.bf16_pack.statement Cert.KernelIdeal.S256x128,
   IdealRules.named_const.statement Cert.KernelIdeal.κ "ln2" .f32 0x3F317218#32 ((Real.log 2 : ℝ) : EReal) rfl⟩

/-- Kernel and reference end with one result. -/
theorem algebraic [hPre : Cert.Pre_inputs_ok.Facts] : Cert.algebraic_KernelIdeal_ReferenceIdeal_pre_inputs_ok (hKernelIdeal := Cert.KernelIdeal.Gen.facts)
    (hReferenceIdeal := Cert.ReferenceIdeal.Gen.facts) := by
  intro m g m' g' hpre hargs
  refine ⟨_, KernelIdeal.value m g (fun c j hj => Pre.inputs_counts _ _ _ _ (hpre c) j hj), ?_⟩
  refine (θ_run _ _ _).mono (fun r h c => ⟨((h c).1).trans ?_, (h c).2⟩) (ReferenceIdeal.value m' g')
  rw [KernelIdeal.basis_eq, (hargs c).1, (hargs c).2.1, (hargs c).2.2.1, (hargs c).2.2.2]
  exact (KernelIdeal.result_eq _ _ _ _ (Pre.inputs_fine _ _ _ _ (hpre c))).symm

theorem claim : Cert.Claim := ⟨Cert.Kernel.Gen.facts, Cert.KernelIdeal.Gen.facts, Cert.ReferenceIdeal.Gen.facts, Cert.Pre_counts_ok.Gen.facts,
  Cert.Pre_inputs_ok.Gen.facts,
  letI := Cert.Pre_counts_ok.Gen.facts
  fun m ρ h => Kernel.frame m ρ fun c j hj => Pre.counts_le _ _ _ _ (h c) j hj,
  letI := Cert.Pre_counts_ok.Gen.facts
  fun m ρ h => KernelIdeal.frame m ρ fun c j hj => Pre.counts_le _ _ _ _ (h c) j hj,
  letI := Cert.Pre_inputs_ok.Gen.facts
  fun m ρ h => KernelIdeal.frame m ρ fun c j hj => Pre.inputs_counts _ _ _ _ (h c) j hj,
  fun m ρ _ => Cert.ReferenceIdeal.Gen.frame m ρ,
  fun m ρ _ => Cert.ReferenceIdeal.Gen.frame m ρ,
  preserves,
  letI := Cert.Pre_inputs_ok.Gen.facts
  algebraic⟩

end Cert.Proof

end
